-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v130_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v130_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal)
    ∧ quiescent_Reference2Ideal_pre_experts (hReference2Ideal := hReference2Ideal) (hPre_experts := hPre_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_experts.lean ====
abbrev S69632x1024 : Shape := ⟨2, ![69632, 1024]⟩
abbrev S136 : Shape := ⟨1, ![136]⟩
abbrev S1 : Shape := ⟨1, ![1]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : FVec F S69632x1024 .f32) (main_arg1 : IVec S136 32) (main_arg2 : IVec S1 32) (main_arg3 : FVec F S8x1024x2816 .f32) (main_arg4 : FVec F S8x1024x2816 .f32) (main_arg5 : FVec F S8x2816x1024 .f32) : IVec S136 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  main_v4
-- ==== Pre_finite.lean ====
abbrev S4x8192x16x64 : Shape := ⟨4, ![4, 8192, 16, 64]⟩
abbrev S4x16x8192 : Shape := ⟨3, ![4, 16, 8192]⟩
abbrev S_ : Shape := ⟨0, ![]⟩

class Facts : Prop where
  bcast_S_S4x8192x16x64 : S_.BroadcastsInDim S4x8192x16x64 (![] : Fin 0 → Fin S4x8192x16x64.rank)
  reducesTo_S4x8192x16x64_S_d0_1_2_3 : S4x8192x16x64.ReducesTo [0, 1, 2, 3] S_
  h_S_ : 0 < S_.numel
  bcast_S_S4x16x8192 : S_.BroadcastsInDim S4x16x8192 (![] : Fin 0 → Fin S4x16x8192.rank)
  reducesTo_S4x16x8192_S_d0_1_2 : S4x16x8192.ReducesTo [0, 1, 2] S_

variable [Facts]

def fn {F : FTy → Type} [FloatOps F] (main_arg0 : FVec F S4x8192x16x64 .f32) (main_arg1 : FVec F S4x8192x16x64 .f32) (main_arg2 : FVec F S4x8192x16x64 .f32) (main_arg3 : FVec F S4x16x8192 .f32) : IVec S_ 1 :=
  let main_v0 : FVec F S4x8192x16x64 .f32 := Host.absf main_arg0
  let main_cst : FVec F S_ .f32 := constant S_ .f32 0x7F800000#32
  let main_v1 : FVec F S4x8192x16x64 .f32 := broadcastInDim S4x8192x16x64 ![] bcast_S_S4x8192x16x64 main_cst
  let main_v2 : IVec S4x8192x16x64 1 := cmpf .olt main_v0 main_v1
  let main_c : IVec S_ 1 := constantI S_ 1 1#1
  let main_v3 : IVec S_ 1 := (fun x v => Host.reduce IntOp.andi x v reducesTo_S4x8192x16x64_S_d0_1_2_3 h_S_) main_v2 main_c
  let main_v4 : FVec F S4x8192x16x64 .f32 := Host.absf main_arg1
  let main_cst_0 : FVec F S_ .f32 := constant S_ .f32 0x7F800000#32
  let main_v5 : FVec F S4x8192x16x64 .f32 := broadcastInDim S4x8192x16x64 ![] bcast_S_S4x8192x16x64 main_cst_0
  let main_v6 : IVec S4x8192x16x64 1 := cmpf .olt main_v4 main_v5
  let main_c_1 : IVec S_ 1 := constantI S_ 1 1#1
  let main_v7 : IVec S_ 1 := (fun x v => Host.reduce IntOp.andi x v reducesTo_S4x8192x16x64_S_d0_1_2_3 h_S_) main_v6 main_c_1
  let main_v8 : IVec S_ 1 := andi main_v3 main_v7
  let main_v9 : FVec F S4x16x8192 .f32 := Host.absf main_arg3
  let main_cst_2 : FVec F S_ .f32 := constant S_ .f32 0x7F800000#32
  let main_v10 : FVec F S4x16x8192 .f32 := broadcastInDim S4x16x8192 ![] bcast_S_S4x16x8192 main_cst_2
  let main_v11 : IVec S4x16x8192 1 := cmpf .olt main_v9 main_v10
  let main_c_3 : IVec S_ 1 := constantI S_ 1 1#1
  let main_v12 : IVec S_ 1 := (fun x v => Host.reduce IntOp.andi x v reducesTo_S4x16x8192_S_d0_1_2 h_S_) main_v11 main_c_3
  let main_v13 : IVec S_ 1 := andi main_v8 main_v12
  main_v13
-- ==== Kernel.lean ====
abbrev S4x8192x16x64 : Shape := ⟨4, ![4, 8192, 16, 64]⟩
abbrev S4x16x8192 : Shape := ⟨3, ![4, 16, 8192]⟩
abbrev S_ : Shape := ⟨0, ![]⟩
abbrev S4x8192x16 : Shape := ⟨3, ![4, 8192, 16]⟩
abbrev S4x8192x16x1 : Shape := ⟨4, ![4, 8192, 16, 1]⟩
abbrev S4x8192x16x3 : Shape := ⟨4, ![4, 8192, 16, 3]⟩
abbrev S4x8192x16x58 : Shape := ⟨4, ![4, 8192, 16, 58]⟩
abbrev S4x8192x16x128 : Shape := ⟨4, ![4, 8192, 16, 128]⟩
abbrev S4x8192x16x15 : Shape := ⟨4, ![4, 8192, 16, 15]⟩
abbrev S4x8192x16x80 : Shape := ⟨4, ![4, 8192, 16, 80]⟩
abbrev S4x8192x8x256 : Shape := ⟨4, ![4, 8192, 8, 256]⟩
abbrev S4x8x256x8192 : Shape := ⟨4, ![4, 8, 256, 8192]⟩
abbrev S4x8x8192x256 : Shape := ⟨4, ![4, 8, 8192, 256]⟩
abbrev S4x16x80x8192 : Shape := ⟨4, ![4, 16, 80, 8192]⟩
abbrev S4x8x8192x128 : Shape := ⟨4, ![4, 8, 8192, 128]⟩
abbrev S1x1x256x8192 : Shape := ⟨4, ![1, 1, 256, 8192]⟩
abbrev S1x1x8192x256 : Shape := ⟨4, ![1, 1, 8192, 256]⟩
abbrev S1x2x80x8192 : Shape := ⟨4, ![1, 2, 80, 8192]⟩
abbrev S1x1x8192x128 : Shape := ⟨4, ![1, 1, 8192, 128]⟩
abbrev S2x256x512 : Shape := ⟨3, ![2, 256, 512]⟩
abbrev S2x80x512 : Shape := ⟨3, ![2, 80, 512]⟩
abbrev S1x1x128x512 : Shape := ⟨4, ![1, 1, 128, 512]⟩
abbrev S128x512 : Shape := ⟨2, ![128, 512]⟩
abbrev S1x512 : Shape := ⟨2, ![1, 512]⟩
abbrev S1x1x256x128 : Shape := ⟨4, ![1, 1, 256, 128]⟩
abbrev S256x128 : Shape := ⟨2, ![256, 128]⟩
abbrev S256x512 : Shape := ⟨2, ![256, 512]⟩
abbrev S1x256x512 : Shape := ⟨3, ![1, 256, 512]⟩
abbrev S512 : Shape := ⟨1, ![512]⟩
abbrev S1x80x512 : Shape := ⟨3, ![1, 80, 512]⟩
abbrev S80x512 : Shape := ⟨2, ![80, 512]⟩
abbrev S1x1x80x256 : Shape := ⟨4, ![1, 1, 80, 256]⟩
abbrev S80x256 : Shape := ⟨2, ![80, 256]⟩
abbrev S1x64x512 : Shape := ⟨3, ![1, 64, 512]⟩
abbrev S64x512 : Shape := ⟨2, ![64, 512]⟩
abbrev S1x1x512 : Shape := ⟨3, ![1, 1, 512]⟩
abbrev S512x128 : Shape := ⟨2, ![512, 128]⟩
abbrev S1x1x512x128 : Shape := ⟨4, ![1, 1, 512, 128]⟩

abbrev nBuf : Space → Nat
  | .hbm => 48
  | .vmem => 11
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x16x64, .f32⟩
  | .hbm, ⟨2, _⟩ => ⟨S4x8192x16x64, .f32⟩
  | .hbm, ⟨3, _⟩ => ⟨S4x16x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x8192x16, .f32⟩
  | .hbm, ⟨9, _⟩ => ⟨S4x8192x16, .f32⟩
  | .hbm, ⟨10, _⟩ => ⟨S4x8192x16, .f32⟩
  | .hbm, ⟨11, _⟩ => ⟨S4x8192x16, .bf16⟩
  | .hbm, ⟨12, _⟩ => ⟨S4x8192x16, .f32⟩
  | .hbm, ⟨13, _⟩ => ⟨S4x8192x16, .f32⟩
  | .hbm, ⟨14, _⟩ => ⟨S4x8192x16, .bf16⟩
  | .hbm, ⟨15, _⟩ => ⟨S4x8192x16, .f32⟩
  | .hbm, ⟨16, _⟩ => ⟨S4x8192x16, .f32⟩
  | .hbm, ⟨17, _⟩ => ⟨S4x8192x16, .bf16⟩
  | .hbm, ⟨18, _⟩ => ⟨S4x8192x16, .f32⟩
  | .hbm, ⟨19, _⟩ => ⟨S4x8192x16x1, .f32⟩
  | .hbm, ⟨20, _⟩ => ⟨S4x8192x16x1, .f32⟩
  | .hbm, ⟨21, _⟩ => ⟨S4x8192x16x1, .f32⟩
  | .hbm, ⟨22, _⟩ => ⟨S4x8192x16x3, .f32⟩
  | .hbm, ⟨23, _⟩ => ⟨S_, .f32⟩
  | .hbm, ⟨24, _⟩ => ⟨S4x8192x16x3, .f32⟩
  | .hbm, ⟨25, _⟩ => ⟨S_, .f32⟩
  | .hbm, ⟨26, _⟩ => ⟨S4x8192x16x58, .f32⟩
  | .hbm, ⟨27, _⟩ => ⟨S_, .f32⟩
  | .hbm, ⟨28, _⟩ => ⟨S_, .f32⟩
  | .hbm, ⟨29, _⟩ => ⟨S4x8192x16x64, .f32⟩
  | .hbm, ⟨30, _⟩ => ⟨S4x8192x16x64, .f32⟩
  | .hbm, ⟨31, _⟩ => ⟨S4x8192x16x3, .f32⟩
  | .hbm, ⟨32, _⟩ => ⟨S4x8192x16x128, .f32⟩
  | .hbm, ⟨33, _⟩ => ⟨S4x8192x16x128, .f32⟩
  | .hbm, ⟨34, _⟩ => ⟨S_, .f32⟩
  | .hbm, ⟨35, _⟩ => ⟨S4x8192x16x1, .f32⟩
  | .hbm, ⟨36, _⟩ => ⟨S_, .f32⟩
  | .hbm, ⟨37, _⟩ => ⟨S4x8192x16x15, .f32⟩
  | .hbm, ⟨38, _⟩ => ⟨S4x8192x16x80, .f32⟩
  | .hbm, ⟨39, _⟩ => ⟨S4x8192x8x256, .f32⟩
  | .hbm, ⟨40, _⟩ => ⟨S4x8x256x8192, .f32⟩
  | .hbm, ⟨41, _⟩ => ⟨S4x8x256x8192, .bf16⟩
  | .hbm, ⟨42, _⟩ => ⟨S4x8192x8x256, .f32⟩
  | .hbm, ⟨43, _⟩ => ⟨S4x8x8192x256, .f32⟩
  | .hbm, ⟨44, _⟩ => ⟨S4x8x8192x256, .bf16⟩
  | .hbm, ⟨45, _⟩ => ⟨S4x16x80x8192, .f32⟩
  | .hbm, ⟨46, _⟩ => ⟨S4x16x80x8192, .bf16⟩
  | .hbm, ⟨47, _⟩ => ⟨S4x8x8192x128, .bf16⟩
  | .local _ .vmem, ⟨0, _⟩ => ⟨S1x1x256x8192, .bf16⟩
  | .local _ .vmem, ⟨1, _⟩ => ⟨S1x1x256x8192, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x2x80x8192, .bf16⟩
  | .local _ .vmem, ⟨5, _⟩ => ⟨S1x2x80x8192, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S2x256x512, .f32⟩
  | .local _ .vmem, ⟨9, _⟩ => ⟨S2x256x512, .f32⟩
  | .local _ .vmem, ⟨10, _⟩ => ⟨S2x80x512, .f32⟩
  | _, _ => ⟨S4x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v1 : BitVec 32 := Scalar.muli arg9 c512_i32
  v1
def k0_off1 (k0_t1 : Fin k0_t1_loop.trips) : Fin 4 → Nat :=
  let c0 : Index := 0#32
  let c0_1 : Index := 0#32
  let c0_2 : Index := 0#32
  let c0_i32 : BitVec 32 := 0#32
  let c1_i32 : BitVec 32 := 1#32
  let arg9 : BitVec 32 := Scf.iv c0_i32 c1_i32 k0_t1
  let c512_i32 : BitVec 32 := 512#32
  let v1 : BitVec 32 := Scalar.muli arg9 c512_i32
  let v2 : BitVec 32 := v1
  let v3 : Index := Scalar.indexCast v2
  ![0, 0, 0, v3.toNat]
def k0_off2 (k0_t1 : Fin k0_t1_loop.trips) : Fin 4 → Nat :=
  let c0_3 : Index := 0#32
  let c0_4 : Index := 0#32
  let c128 : Index := 128#32
  let c0_i32 : BitVec 32 := 0#32
  let c1_i32 : BitVec 32 := 1#32
  let arg9 : BitVec 32 := Scf.iv c0_i32 c1_i32 k0_t1
  let c512_i32 : BitVec 32 := 512#32
  let v1 : BitVec 32 := Scalar.muli arg9 c512_i32
  let v2 : BitVec 32 := v1
  let v6 : Index := Scalar.indexCast v2
  ![0, 0, 128, v6.toNat]
def k0_mult2 : BitVec 32 :=
  let c0_i32_9 : BitVec 32 := 0#32
  c0_i32_9
def k0_mult3 : BitVec 32 :=
  let c0_i32_17 : BitVec 32 := 0#32
  c0_i32_17
@[reducible] def k0_t2_loop (k0_t1 : Fin k0_t1_loop.trips) : Scf.Loop 32 :=
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_32 : BitVec 32 := 1#32
  ⟨c0_i32_30, v51, c1_i32_32⟩
def k0_mult4 (k0_t1 : Fin k0_t1_loop.trips) (k0_t2 : Fin (k0_t2_loop k0_t1).trips) : BitVec 32 :=
  let c2_i32_173 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_175 : BitVec 32 := 256#32
  let v312 : BitVec 32 := Scalar.muli v311 c256_i32_175
  v312
def k0_off3 (k0_t1 : Fin k0_t1_loop.trips) (k0_t2 : Fin (k0_t2_loop k0_t1).trips) (c0_i32_172 : BitVec 32) (c1_i32_174 : BitVec 32) : Fin 4 → Nat :=
  let c0_176 : Index := 0#32
  let c0_177 : Index := 0#32
  let c2_i32_173 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let v309 : BitVec 32 := Scalar.addi v308 c0_i32_172
  let v310 : BitVec 32 := Scalar.muli c2_i32_173 v309
  let v311 : BitVec 32 := Scalar.addi v310 c1_i32_174
  let c256_i32_175 : BitVec 32 := 256#32
  let v312 : BitVec 32 := Scalar.muli v311 c256_i32_175
  let v313 : BitVec 32 := v312
  let v314 : Index := Scalar.indexCast v313
  let c0_178 : Index := 0#32
  ![0, 0, v314.toNat, 0]
def k0_mult5 (k0_t1 : Fin k0_t1_loop.trips) (k0_t2 : Fin (k0_t2_loop k0_t1).trips) : BitVec 32 :=
  let c2_i32_173 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_183 : BitVec 32 := 256#32
  let v321 : BitVec 32 := Scalar.muli v311 c256_i32_183
  v321
def k0_off4 (k0_t1 : Fin k0_t1_loop.trips) (k0_t2 : Fin (k0_t2_loop k0_t1).trips) (c0_i32_172 : BitVec 32) (c1_i32_174 : BitVec 32) : Fin 4 → Nat :=
  let c0_184 : Index := 0#32
  let c0_185 : Index := 0#32
  let c2_i32_173 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let v309 : BitVec 32 := Scalar.addi v308 c0_i32_172
  let v310 : BitVec 32 := Scalar.muli c2_i32_173 v309
  let v311 : BitVec 32 := Scalar.addi v310 c1_i32_174
  let c256_i32_183 : BitVec 32 := 256#32
  let v321 : BitVec 32 := Scalar.muli v311 c256_i32_183
  let v322 : BitVec 32 := v321
  let v323 : Index := Scalar.indexCast v322
  let c128_186 : Index := 128#32
  ![0, 0, v323.toNat, 128]
def k0_mult6 (k0_t1 : Fin k0_t1_loop.trips) (k0_t2 : Fin (k0_t2_loop k0_t1).trips) : BitVec 32 :=
  let c2_i32_191 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let c0_i32_172 : BitVec 32 := 0#32
  let v309 : BitVec 32 := Scalar.addi v308 c0_i32_172
  let v330 : BitVec 32 := Scalar.muli c2_i32_191 v309
  let c256_i32_199 : BitVec 32 := 256#32
  let v346 : BitVec 32 := Scalar.muli v330 c256_i32_199
  v346
def k0_off5 (k0_t1 : Fin k0_t1_loop.trips) (k0_t2 : Fin (k0_t2_loop k0_t1).trips) (c0_i32_172 : BitVec 32) : Fin 4 → Nat :=
  let c0_200 : Index := 0#32
  let c0_201 : Index := 0#32
  let c0_202 : Index := 0#32
  let c2_i32_191 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let v309 : BitVec 32 := Scalar.addi v308 c0_i32_172
  let v330 : BitVec 32 := Scalar.muli c2_i32_191 v309
  let c256_i32_199 : BitVec 32 := 256#32
  let v346 : BitVec 32 := Scalar.muli v330 c256_i32_199
  let v347 : BitVec 32 := v346
  let v348 : Index := Scalar.indexCast v347
  ![0, 0, 0, v348.toNat]
def k0_mult7 (k0_t1 : Fin k0_t1_loop.trips) (k0_t2 : Fin (k0_t2_loop k0_t1).trips) : BitVec 32 :=
  let c2_i32_191 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let c0_i32_172 : BitVec 32 := 0#32
  let v309 : BitVec 32 := Scalar.addi v308 c0_i32_172
  let v330 : BitVec 32 := Scalar.muli c2_i32_191 v309
  let c256_i32_214 : BitVec 32 := 256#32
  let v371 : BitVec 32 := Scalar.muli v330 c256_i32_214
  v371
def k0_off6 (k0_t1 : Fin k0_t1_loop.trips) (k0_t2 : Fin (k0_t2_loop k0_t1).trips) (c0_i32_172 : BitVec 32) : Fin 4 → Nat :=
  let c0_215 : Index := 0#32
  let c1_216 : Index := 1#32
  let c0_217 : Index := 0#32
  let c2_i32_191 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let v309 : BitVec 32 := Scalar.addi v308 c0_i32_172
  let v330 : BitVec 32 := Scalar.muli c2_i32_191 v309
  let c256_i32_214 : BitVec 32 := 256#32
  let v371 : BitVec 32 := Scalar.muli v330 c256_i32_214
  let v372 : BitVec 32 := v371
  let v373 : Index := Scalar.indexCast v372
  ![0, 1, 0, v373.toNat]
def k0_mult8 (k0_t1 : Fin k0_t1_loop.trips) (k0_t2 : Fin (k0_t2_loop k0_t1).trips) : BitVec 32 :=
  let c2_i32_222 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_224 : BitVec 32 := 256#32
  let v383 : BitVec 32 := Scalar.muli v382 c256_i32_224
  v383
def k0_mult9 (k0_t1 : Fin k0_t1_loop.trips) (k0_t2 : Fin (k0_t2_loop k0_t1).trips) : BitVec 32 :=
  let c2_i32_222 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_232 : BitVec 32 := 256#32
  let v392 : BitVec 32 := Scalar.muli v382 c256_i32_232
  v392
def k0_mult10 (k0_t1 : Fin k0_t1_loop.trips) (k0_t2 : Fin (k0_t2_loop k0_t1).trips) : BitVec 32 :=
  let c2_i32_240 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  v418
def k0_off7 (k0_t1 : Fin k0_t1_loop.trips) (k0_t2 : Fin (k0_t2_loop k0_t1).trips) (c0_i32_172 : BitVec 32) : Fin 4 → Nat :=
  let c0_250 : Index := 0#32
  let c0_251 : Index := 0#32
  let c0_252 : Index := 0#32
  let c2_i32_240 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  let v419 : BitVec 32 := v418
  let v420 : Index := Scalar.indexCast v419
  ![0, 0, 0, v420.toNat]
def k0_mult11 (k0_t1 : Fin k0_t1_loop.trips) (k0_t2 : Fin (k0_t2_loop k0_t1).trips) : BitVec 32 :=
  let c2_i32_240 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  v443
def k0_off8 (k0_t1 : Fin k0_t1_loop.trips) (k0_t2 : Fin (k0_t2_loop k0_t1).trips) (c0_i32_172 : BitVec 32) : Fin 4 → Nat :=
  let c0_265 : Index := 0#32
  let c1_266 : Index := 1#32
  let c0_267 : Index := 0#32
  let c2_i32_240 : BitVec 32 := 2#32
  let c4_i32_171 : BitVec 32 := 4#32
  let c0_i32_30 : BitVec 32 := 0#32
  let c1_i32_32 : BitVec 32 := 1#32
  let arg10 : BitVec 32 := Scf.iv c0_i32_30 c1_i32_32 k0_t2
  let v308 : BitVec 32 := Scalar.muli c4_i32_171 arg10
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  let v444 : BitVec 32 := v443
  let v445 : Index := Scalar.indexCast v444
  ![0, 1, 0, v445.toNat]
def k0_mult12 (k0_t1 : Fin k0_t1_loop.trips) (k0_t2 : Fin (k0_t2_loop k0_t1).trips) : BitVec 32 :=
  let c2_i32_274 : BitVec 32 := 2#32
  let c4_i32_272 : BitVec 32 := 4#32
  let c0_i32_30 : BitVec 32 := 0#32
  let c1_i32_32 : BitVec 32 := 1#32
  let arg10 : BitVec 32 := Scf.iv c0_i32_30 c1_i32_32 k0_t2
  let v453 : BitVec 32 := Scalar.muli c4_i32_272 arg10
  let c1_i32_273 : BitVec 32 := 1#32
  let v454 : BitVec 32 := Scalar.addi v453 c1_i32_273
  let v455 : BitVec 32 := Scalar.muli c2_i32_274 v454
  let c1_i32_275 : BitVec 32 := 1#32
  let v456 : BitVec 32 := Scalar.addi v455 c1_i32_275
  let c256_i32_276 : BitVec 32 := 256#32
  let v457 : BitVec 32 := Scalar.muli v456 c256_i32_276
  v457
def k0_mult13 (k0_t1 : Fin k0_t1_loop.trips) (k0_t2 : Fin (k0_t2_loop k0_t1).trips) : BitVec 32 :=
  let c2_i32_274 : BitVec 32 := 2#32
  let c4_i32_272 : BitVec 32 := 4#32
  let c0_i32_30 : BitVec 32 := 0#32
  let c1_i32_32 : BitVec 32 := 1#32
  let arg10 : BitVec 32 := Scf.iv c0_i32_30 c1_i32_32 k0_t2
  let v453 : BitVec 32 := Scalar.muli c4_i32_272 arg10
  let c1_i32_273 : BitVec 32 := 1#32
  let v454 : BitVec 32 := Scalar.addi v453 c1_i32_273
  let v455 : BitVec 32 := Scalar.muli c2_i32_274 v454
  let c1_i32_275 : BitVec 32 := 1#32
  let v456 : BitVec 32 := Scalar.addi v455 c1_i32_275
  let c256_i32_284 : BitVec 32 := 256#32
  let v466 : BitVec 32 := Scalar.muli v456 c256_i32_284
  v466
def k0_mult14 (k0_t1 : Fin k0_t1_loop.trips) (k0_t2 : Fin (k0_t2_loop k0_t1).trips) : BitVec 32 :=
  let c2_i32_292 : BitVec 32 := 2#32
  let c4_i32_272 : BitVec 32 := 4#32
  let c0_i32_30 : BitVec 32 := 0#32
  let c1_i32_32 : BitVec 32 := 1#32
  let arg10 : BitVec 32 := Scf.iv c0_i32_30 c1_i32_32 k0_t2
  let v453 : BitVec 32 := Scalar.muli c4_i32_272 arg10
  let c1_i32_273 : BitVec 32 := 1#32
  let v454 : BitVec 32 := Scalar.addi v453 c1_i32_273
  let v475 : BitVec 32 := Scalar.muli c2_i32_292 v454
  let c256_i32_300 : BitVec 32 := 256#32
  let v491 : BitVec 32 := Scalar.muli v475 c256_i32_300
  v491
def k0_mult15 (k0_t1 : Fin k0_t1_loop.trips) (k0_t2 : Fin (k0_t2_loop k0_t1).trips) : BitVec 32 :=
  let c2_i32_292 : BitVec 32 := 2#32
  let c4_i32_272 : BitVec 32 := 4#32
  let c0_i32_30 : BitVec 32 := 0#32
  let c1_i32_32 : BitVec 32 := 1#32
  let arg10 : BitVec 32 := Scf.iv c0_i32_30 c1_i32_32 k0_t2
  let v453 : BitVec 32 := Scalar.muli c4_i32_272 arg10
  let c1_i32_273 : BitVec 32 := 1#32
  let v454 : BitVec 32 := Scalar.addi v453 c1_i32_273
  let v475 : BitVec 32 := Scalar.muli c2_i32_292 v454
  let c256_i32_315 : BitVec 32 := 256#32
  let v516 : BitVec 32 := Scalar.muli v475 c256_i32_315
  v516
def k0_mult16 (k0_t1 : Fin k0_t1_loop.trips) (k0_t2 : Fin (k0_t2_loop k0_t1).trips) : BitVec 32 :=
  let c2_i32_323 : BitVec 32 := 2#32
  let c4_i32_272 : BitVec 32 := 4#32
  let c0_i32_30 : BitVec 32 := 0#32
  let c1_i32_32 : BitVec 32 := 1#32
  let arg10 : BitVec 32 := Scf.iv c0_i32_30 c1_i32_32 k0_t2
  let v453 : BitVec 32 := Scalar.muli c4_i32_272 arg10
  let c1_i32_273 : BitVec 32 := 1#32
  let v454 : BitVec 32 := Scalar.addi v453 c1_i32_273
  let v526 : BitVec 32 := Scalar.muli c2_i32_323 v454
  let c2_i32_324 : BitVec 32 := 2#32
  let v527 : BitVec 32 := Scalar.addi v526 c2_i32_324
  let c256_i32_325 : BitVec 32 := 256#32
  let v528 : BitVec 32 := Scalar.muli v527 c256_i32_325
  v528
def k0_mult17 (k0_t1 : Fin k0_t1_loop.trips) (k0_t2 : Fin (k0_t2_loop k0_t1).trips) : BitVec 32 :=
  let c2_i32_323 : BitVec 32 := 2#32
  let c4_i32_272 : BitVec 32 := 4#32
  let c0_i32_30 : BitVec 32 := 0#32
  let c1_i32_32 : BitVec 32 := 1#32
  let arg10 : BitVec 32 := Scf.iv c0_i32_30 c1_i32_32 k0_t2
  let v453 : BitVec 32 := Scalar.muli c4_i32_272 arg10
  let c1_i32_273 : BitVec 32 := 1#32
  let v454 : BitVec 32 := Scalar.addi v453 c1_i32_273
  let v526 : BitVec 32 := Scalar.muli c2_i32_323 v454
  let c2_i32_324 : BitVec 32 := 2#32
  let v527 : BitVec 32 := Scalar.addi v526 c2_i32_324
  let c256_i32_333 : BitVec 32 := 256#32
  let v537 : BitVec 32 := Scalar.muli v527 c256_i32_333
  v537
def k0_mult18 (k0_t1 : Fin k0_t1_loop.trips) (k0_t2 : Fin (k0_t2_loop k0_t1).trips) : BitVec 32 :=
  let c2_i32_341 : BitVec 32 := 2#32
  let c4_i32_272 : BitVec 32 := 4#32
  let c0_i32_30 : BitVec 32 := 0#32
  let c1_i32_32 : BitVec 32 := 1#32
  let arg10 : BitVec 32 := Scf.iv c0_i32_30 c1_i32_32 k0_t2
  let v453 : BitVec 32 := Scalar.muli c4_i32_272 arg10
  let c1_i32_273 : BitVec 32 := 1#32
  let v454 : BitVec 32 := Scalar.addi v453 c1_i32_273
  let v546 : BitVec 32 := Scalar.muli c2_i32_341 v454
  let c1_i32_342 : BitVec 32 := 1#32
  let v547 : BitVec 32 := Scalar.addi v546 c1_i32_342
  let c256_i32_350 : BitVec 32 := 256#32
  let v563 : BitVec 32 := Scalar.muli v547 c256_i32_350
  v563
def k0_mult19 (k0_t1 : Fin k0_t1_loop.trips) (k0_t2 : Fin (k0_t2_loop k0_t1).trips) : BitVec 32 :=
  let c2_i32_341 : BitVec 32 := 2#32
  let c4_i32_272 : BitVec 32 := 4#32
  let c0_i32_30 : BitVec 32 := 0#32
  let c1_i32_32 : BitVec 32 := 1#32
  let arg10 : BitVec 32 := Scf.iv c0_i32_30 c1_i32_32 k0_t2
  let v453 : BitVec 32 := Scalar.muli c4_i32_272 arg10
  let c1_i32_273 : BitVec 32 := 1#32
  let v454 : BitVec 32 := Scalar.addi v453 c1_i32_273
  let v546 : BitVec 32 := Scalar.muli c2_i32_341 v454
  let c1_i32_342 : BitVec 32 := 1#32
  let v547 : BitVec 32 := Scalar.addi v546 c1_i32_342
  let c256_i32_365 : BitVec 32 := 256#32
  let v588 : BitVec 32 := Scalar.muli v547 c256_i32_365
  v588
def k0_mult20 (k0_t1 : Fin k0_t1_loop.trips) (k0_t2 : Fin (k0_t2_loop k0_t1).trips) : BitVec 32 :=
  let c2_i32_375 : BitVec 32 := 2#32
  let c4_i32_373 : BitVec 32 := 4#32
  let c0_i32_30 : BitVec 32 := 0#32
  let c1_i32_32 : BitVec 32 := 1#32
  let arg10 : BitVec 32 := Scf.iv c0_i32_30 c1_i32_32 k0_t2
  let v598 : BitVec 32 := Scalar.muli c4_i32_373 arg10
  let c2_i32_374 : BitVec 32 := 2#32
  let v599 : BitVec 32 := Scalar.addi v598 c2_i32_374
  let v600 : BitVec 32 := Scalar.muli c2_i32_375 v599
  let c1_i32_376 : BitVec 32 := 1#32
  let v601 : BitVec 32 := Scalar.addi v600 c1_i32_376
  let c256_i32_377 : BitVec 32 := 256#32
  let v602 : BitVec 32 := Scalar.muli v601 c256_i32_377
  v602
def k0_mult21 (k0_t1 : Fin k0_t1_loop.trips) (k0_t2 : Fin (k0_t2_loop k0_t1).trips) : BitVec 32 :=
  let c2_i32_375 : BitVec 32 := 2#32
  let c4_i32_373 : BitVec 32 := 4#32
  let c0_i32_30 : BitVec 32 := 0#32
  let c1_i32_32 : BitVec 32 := 1#32
  let arg10 : BitVec 32 := Scf.iv c0_i32_30 c1_i32_32 k0_t2
  let v598 : BitVec 32 := Scalar.muli c4_i32_373 arg10
  let c2_i32_374 : BitVec 32 := 2#32
  let v599 : BitVec 32 := Scalar.addi v598 c2_i32_374
  let v600 : BitVec 32 := Scalar.muli c2_i32_375 v599
  let c1_i32_376 : BitVec 32 := 1#32
  let v601 : BitVec 32 := Scalar.addi v600 c1_i32_376
  let c256_i32_385 : BitVec 32 := 256#32
  let v611 : BitVec 32 := Scalar.muli v601 c256_i32_385
  v611
def k0_mult22 (k0_t1 : Fin k0_t1_loop.trips) (k0_t2 : Fin (k0_t2_loop k0_t1).trips) : BitVec 32 :=
  let c2_i32_393 : BitVec 32 := 2#32
  let c4_i32_373 : BitVec 32 := 4#32
  let c0_i32_30 : BitVec 32 := 0#32
  let c1_i32_32 : BitVec 32 := 1#32
  let arg10 : BitVec 32 := Scf.iv c0_i32_30 c1_i32_32 k0_t2
  let v598 : BitVec 32 := Scalar.muli c4_i32_373 arg10
  let c2_i32_374 : BitVec 32 := 2#32
  let v599 : BitVec 32 := Scalar.addi v598 c2_i32_374
  let v620 : BitVec 32 := Scalar.muli c2_i32_393 v599
  let c256_i32_401 : BitVec 32 := 256#32
  let v636 : BitVec 32 := Scalar.muli v620 c256_i32_401
  v636
def k0_mult23 (k0_t1 : Fin k0_t1_loop.trips) (k0_t2 : Fin (k0_t2_loop k0_t1).trips) : BitVec 32 :=
  let c2_i32_393 : BitVec 32 := 2#32
  let c4_i32_373 : BitVec 32 := 4#32
  let c0_i32_30 : BitVec 32 := 0#32
  let c1_i32_32 : BitVec 32 := 1#32
  let arg10 : BitVec 32 := Scf.iv c0_i32_30 c1_i32_32 k0_t2
  let v598 : BitVec 32 := Scalar.muli c4_i32_373 arg10
  let c2_i32_374 : BitVec 32 := 2#32
  let v599 : BitVec 32 := Scalar.addi v598 c2_i32_374
  let v620 : BitVec 32 := Scalar.muli c2_i32_393 v599
  let c256_i32_416 : BitVec 32 := 256#32
  let v661 : BitVec 32 := Scalar.muli v620 c256_i32_416
  v661
def k0_mult24 (k0_t1 : Fin k0_t1_loop.trips) (k0_t2 : Fin (k0_t2_loop k0_t1).trips) : BitVec 32 :=
  let c2_i32_424 : BitVec 32 := 2#32
  let c4_i32_373 : BitVec 32 := 4#32
  let c0_i32_30 : BitVec 32 := 0#32
  let c1_i32_32 : BitVec 32 := 1#32
  let arg10 : BitVec 32 := Scf.iv c0_i32_30 c1_i32_32 k0_t2
  let v598 : BitVec 32 := Scalar.muli c4_i32_373 arg10
  let c2_i32_374 : BitVec 32 := 2#32
  let v599 : BitVec 32 := Scalar.addi v598 c2_i32_374
  let v671 : BitVec 32 := Scalar.muli c2_i32_424 v599
  let c2_i32_425 : BitVec 32 := 2#32
  let v672 : BitVec 32 := Scalar.addi v671 c2_i32_425
  let c256_i32_426 : BitVec 32 := 256#32
  let v673 : BitVec 32 := Scalar.muli v672 c256_i32_426
  v673
def k0_mult25 (k0_t1 : Fin k0_t1_loop.trips) (k0_t2 : Fin (k0_t2_loop k0_t1).trips) : BitVec 32 :=
  let c2_i32_424 : BitVec 32 := 2#32
  let c4_i32_373 : BitVec 32 := 4#32
  let c0_i32_30 : BitVec 32 := 0#32
  let c1_i32_32 : BitVec 32 := 1#32
  let arg10 : BitVec 32 := Scf.iv c0_i32_30 c1_i32_32 k0_t2
  let v598 : BitVec 32 := Scalar.muli c4_i32_373 arg10
  let c2_i32_374 : BitVec 32 := 2#32
  let v599 : BitVec 32 := Scalar.addi v598 c2_i32_374
  let v671 : BitVec 32 := Scalar.muli c2_i32_424 v599
  let c2_i32_425 : BitVec 32 := 2#32
  let v672 : BitVec 32 := Scalar.addi v671 c2_i32_425
  let c256_i32_434 : BitVec 32 := 256#32
  let v682 : BitVec 32 := Scalar.muli v672 c256_i32_434
  v682
def k0_mult26 (k0_t1 : Fin k0_t1_loop.trips) (k0_t2 : Fin (k0_t2_loop k0_t1).trips) : BitVec 32 :=
  let c2_i32_442 : BitVec 32 := 2#32
  let c4_i32_373 : BitVec 32 := 4#32
  let c0_i32_30 : BitVec 32 := 0#32
  let c1_i32_32 : BitVec 32 := 1#32
  let arg10 : BitVec 32 := Scf.iv c0_i32_30 c1_i32_32 k0_t2
  let v598 : BitVec 32 := Scalar.muli c4_i32_373 arg10
  let c2_i32_374 : BitVec 32 := 2#32
  let v599 : BitVec 32 := Scalar.addi v598 c2_i32_374
  let v691 : BitVec 32 := Scalar.muli c2_i32_442 v599
  let c1_i32_443 : BitVec 32 := 1#32
  let v692 : BitVec 32 := Scalar.addi v691 c1_i32_443
  let c256_i32_451 : BitVec 32 := 256#32
  let v708 : BitVec 32 := Scalar.muli v692 c256_i32_451
  v708
def k0_mult27 (k0_t1 : Fin k0_t1_loop.trips) (k0_t2 : Fin (k0_t2_loop k0_t1).trips) : BitVec 32 :=
  let c2_i32_442 : BitVec 32 := 2#32
  let c4_i32_373 : BitVec 32 := 4#32
  let c0_i32_30 : BitVec 32 := 0#32
  let c1_i32_32 : BitVec 32 := 1#32
  let arg10 : BitVec 32 := Scf.iv c0_i32_30 c1_i32_32 k0_t2
  let v598 : BitVec 32 := Scalar.muli c4_i32_373 arg10
  let c2_i32_374 : BitVec 32 := 2#32
  let v599 : BitVec 32 := Scalar.addi v598 c2_i32_374
  let v691 : BitVec 32 := Scalar.muli c2_i32_442 v599
  let c1_i32_443 : BitVec 32 := 1#32
  let v692 : BitVec 32 := Scalar.addi v691 c1_i32_443
  let c256_i32_466 : BitVec 32 := 256#32
  let v733 : BitVec 32 := Scalar.muli v692 c256_i32_466
  v733
def k0_mult28 (k0_t1 : Fin k0_t1_loop.trips) (k0_t2 : Fin (k0_t2_loop k0_t1).trips) : BitVec 32 :=
  let c2_i32_475 : BitVec 32 := 2#32
  let c4_i32_474 : BitVec 32 := 4#32
  let c0_i32_30 : BitVec 32 := 0#32
  let c1_i32_32 : BitVec 32 := 1#32
  let arg10 : BitVec 32 := Scf.iv c0_i32_30 c1_i32_32 k0_t2
  let v743 : BitVec 32 := Scalar.muli c4_i32_474 arg10
  let c3_i32 : BitVec 32 := 3#32
  let v744 : BitVec 32 := Scalar.addi v743 c3_i32
  let v745 : BitVec 32 := Scalar.muli c2_i32_475 v744
  let c1_i32_476 : BitVec 32 := 1#32
  let v746 : BitVec 32 := Scalar.addi v745 c1_i32_476
  let c256_i32_477 : BitVec 32 := 256#32
  let v747 : BitVec 32 := Scalar.muli v746 c256_i32_477
  v747
def k0_mult29 (k0_t1 : Fin k0_t1_loop.trips) (k0_t2 : Fin (k0_t2_loop k0_t1).trips) : BitVec 32 :=
  let c2_i32_475 : BitVec 32 := 2#32
  let c4_i32_474 : BitVec 32 := 4#32
  let c0_i32_30 : BitVec 32 := 0#32
  let c1_i32_32 : BitVec 32 := 1#32
  let arg10 : BitVec 32 := Scf.iv c0_i32_30 c1_i32_32 k0_t2
  let v743 : BitVec 32 := Scalar.muli c4_i32_474 arg10
  let c3_i32 : BitVec 32 := 3#32
  let v744 : BitVec 32 := Scalar.addi v743 c3_i32
  let v745 : BitVec 32 := Scalar.muli c2_i32_475 v744
  let c1_i32_476 : BitVec 32 := 1#32
  let v746 : BitVec 32 := Scalar.addi v745 c1_i32_476
  let c256_i32_485 : BitVec 32 := 256#32
  let v756 : BitVec 32 := Scalar.muli v746 c256_i32_485
  v756
def k0_mult30 (k0_t1 : Fin k0_t1_loop.trips) (k0_t2 : Fin (k0_t2_loop k0_t1).trips) : BitVec 32 :=
  let c2_i32_493 : BitVec 32 := 2#32
  let c4_i32_474 : BitVec 32 := 4#32
  let c0_i32_30 : BitVec 32 := 0#32
  let c1_i32_32 : BitVec 32 := 1#32
  let arg10 : BitVec 32 := Scf.iv c0_i32_30 c1_i32_32 k0_t2
  let v743 : BitVec 32 := Scalar.muli c4_i32_474 arg10
  let c3_i32 : BitVec 32 := 3#32
  let v744 : BitVec 32 := Scalar.addi v743 c3_i32
  let v765 : BitVec 32 := Scalar.muli c2_i32_493 v744
  let c256_i32_501 : BitVec 32 := 256#32
  let v781 : BitVec 32 := Scalar.muli v765 c256_i32_501
  v781
def k0_mult31 (k0_t1 : Fin k0_t1_loop.trips) (k0_t2 : Fin (k0_t2_loop k0_t1).trips) : BitVec 32 :=
  let c2_i32_493 : BitVec 32 := 2#32
  let c4_i32_474 : BitVec 32 := 4#32
  let c0_i32_30 : BitVec 32 := 0#32
  let c1_i32_32 : BitVec 32 := 1#32
  let arg10 : BitVec 32 := Scf.iv c0_i32_30 c1_i32_32 k0_t2
  let v743 : BitVec 32 := Scalar.muli c4_i32_474 arg10
  let c3_i32 : BitVec 32 := 3#32
  let v744 : BitVec 32 := Scalar.addi v743 c3_i32
  let v765 : BitVec 32 := Scalar.muli c2_i32_493 v744
  let c256_i32_516 : BitVec 32 := 256#32
  let v806 : BitVec 32 := Scalar.muli v765 c256_i32_516
  v806
def k0_mult32 (k0_t1 : Fin k0_t1_loop.trips) (k0_t2 : Fin (k0_t2_loop k0_t1).trips) : BitVec 32 :=
  let c2_i32_524 : BitVec 32 := 2#32
  let c4_i32_474 : BitVec 32 := 4#32
  let c0_i32_30 : BitVec 32 := 0#32
  let c1_i32_32 : BitVec 32 := 1#32
  let arg10 : BitVec 32 := Scf.iv c0_i32_30 c1_i32_32 k0_t2
  let v743 : BitVec 32 := Scalar.muli c4_i32_474 arg10
  let c3_i32 : BitVec 32 := 3#32
  let v744 : BitVec 32 := Scalar.addi v743 c3_i32
  let v816 : BitVec 32 := Scalar.muli c2_i32_524 v744
  let c2_i32_525 : BitVec 32 := 2#32
  let v817 : BitVec 32 := Scalar.addi v816 c2_i32_525
  let c256_i32_526 : BitVec 32 := 256#32
  let v818 : BitVec 32 := Scalar.muli v817 c256_i32_526
  v818
def k0_mult33 (k0_t1 : Fin k0_t1_loop.trips) (k0_t2 : Fin (k0_t2_loop k0_t1).trips) : BitVec 32 :=
  let c2_i32_524 : BitVec 32 := 2#32
  let c4_i32_474 : BitVec 32 := 4#32
  let c0_i32_30 : BitVec 32 := 0#32
  let c1_i32_32 : BitVec 32 := 1#32
  let arg10 : BitVec 32 := Scf.iv c0_i32_30 c1_i32_32 k0_t2
  let v743 : BitVec 32 := Scalar.muli c4_i32_474 arg10
  let c3_i32 : BitVec 32 := 3#32
  let v744 : BitVec 32 := Scalar.addi v743 c3_i32
  let v816 : BitVec 32 := Scalar.muli c2_i32_524 v744
  let c2_i32_525 : BitVec 32 := 2#32
  let v817 : BitVec 32 := Scalar.addi v816 c2_i32_525
  let c256_i32_534 : BitVec 32 := 256#32
  let v827 : BitVec 32 := Scalar.muli v817 c256_i32_534
  v827
def k0_mult34 (k0_t1 : Fin k0_t1_loop.trips) (k0_t2 : Fin (k0_t2_loop k0_t1).trips) : BitVec 32 :=
  let c2_i32_542 : BitVec 32 := 2#32
  let c4_i32_474 : BitVec 32 := 4#32
  let c0_i32_30 : BitVec 32 := 0#32
  let c1_i32_32 : BitVec 32 := 1#32
  let arg10 : BitVec 32 := Scf.iv c0_i32_30 c1_i32_32 k0_t2
  let v743 : BitVec 32 := Scalar.muli c4_i32_474 arg10
  let c3_i32 : BitVec 32 := 3#32
  let v744 : BitVec 32 := Scalar.addi v743 c3_i32
  let v836 : BitVec 32 := Scalar.muli c2_i32_542 v744
  let c1_i32_543 : BitVec 32 := 1#32
  let v837 : BitVec 32 := Scalar.addi v836 c1_i32_543
  let c256_i32_551 : BitVec 32 := 256#32
  let v853 : BitVec 32 := Scalar.muli v837 c256_i32_551
  v853
def k0_mult35 (k0_t1 : Fin k0_t1_loop.trips) (k0_t2 : Fin (k0_t2_loop k0_t1).trips) : BitVec 32 :=
  let c2_i32_542 : BitVec 32 := 2#32
  let c4_i32_474 : BitVec 32 := 4#32
  let c0_i32_30 : BitVec 32 := 0#32
  let c1_i32_32 : BitVec 32 := 1#32
  let arg10 : BitVec 32 := Scf.iv c0_i32_30 c1_i32_32 k0_t2
  let v743 : BitVec 32 := Scalar.muli c4_i32_474 arg10
  let c3_i32 : BitVec 32 := 3#32
  let v744 : BitVec 32 := Scalar.addi v743 c3_i32
  let v836 : BitVec 32 := Scalar.muli c2_i32_542 v744
  let c1_i32_543 : BitVec 32 := 1#32
  let v837 : BitVec 32 := Scalar.addi v836 c1_i32_543
  let c256_i32_566 : BitVec 32 := 256#32
  let v878 : BitVec 32 := Scalar.muli v837 c256_i32_566
  v878
@[reducible] def k0_t3_loop (k0_t1 : Fin k0_t1_loop.trips) : Scf.Loop 32 :=
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let v48 : BitVec 32 := Scalar.addi c0_i32_30 v47
  let c1_i32_33 : BitVec 32 := 1#32
  ⟨v51, v48, c1_i32_33⟩
def k0_mult36 (k0_t1 : Fin k0_t1_loop.trips) (k0_t3 : Fin (k0_t3_loop k0_t1).trips) : BitVec 32 :=
  let c2_i32_173 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_175 : BitVec 32 := 256#32
  let v312 : BitVec 32 := Scalar.muli v311 c256_i32_175
  v312
def k0_off9 (k0_t1 : Fin k0_t1_loop.trips) (k0_t3 : Fin (k0_t3_loop k0_t1).trips) (c0_i32_172 : BitVec 32) (c1_i32_174 : BitVec 32) : Fin 4 → Nat :=
  let c0_176 : Index := 0#32
  let c0_177 : Index := 0#32
  let c2_i32_173 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let v309 : BitVec 32 := Scalar.addi v308 c0_i32_172
  let v310 : BitVec 32 := Scalar.muli c2_i32_173 v309
  let v311 : BitVec 32 := Scalar.addi v310 c1_i32_174
  let c256_i32_175 : BitVec 32 := 256#32
  let v312 : BitVec 32 := Scalar.muli v311 c256_i32_175
  let v313 : BitVec 32 := v312
  let v314 : Index := Scalar.indexCast v313
  let c0_178 : Index := 0#32
  ![0, 0, v314.toNat, 0]
def k0_mult37 (k0_t1 : Fin k0_t1_loop.trips) (k0_t3 : Fin (k0_t3_loop k0_t1).trips) : BitVec 32 :=
  let c2_i32_173 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_183 : BitVec 32 := 256#32
  let v321 : BitVec 32 := Scalar.muli v311 c256_i32_183
  v321
def k0_off10 (k0_t1 : Fin k0_t1_loop.trips) (k0_t3 : Fin (k0_t3_loop k0_t1).trips) (c0_i32_172 : BitVec 32) (c1_i32_174 : BitVec 32) : Fin 4 → Nat :=
  let c0_184 : Index := 0#32
  let c0_185 : Index := 0#32
  let c2_i32_173 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let v309 : BitVec 32 := Scalar.addi v308 c0_i32_172
  let v310 : BitVec 32 := Scalar.muli c2_i32_173 v309
  let v311 : BitVec 32 := Scalar.addi v310 c1_i32_174
  let c256_i32_183 : BitVec 32 := 256#32
  let v321 : BitVec 32 := Scalar.muli v311 c256_i32_183
  let v322 : BitVec 32 := v321
  let v323 : Index := Scalar.indexCast v322
  let c128_186 : Index := 128#32
  ![0, 0, v323.toNat, 128]
def k0_mult38 (k0_t1 : Fin k0_t1_loop.trips) (k0_t3 : Fin (k0_t3_loop k0_t1).trips) : BitVec 32 :=
  let c2_i32_191 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let c0_i32_172 : BitVec 32 := 0#32
  let v309 : BitVec 32 := Scalar.addi v308 c0_i32_172
  let v330 : BitVec 32 := Scalar.muli c2_i32_191 v309
  let c256_i32_199 : BitVec 32 := 256#32
  let v346 : BitVec 32 := Scalar.muli v330 c256_i32_199
  v346
def k0_off11 (k0_t1 : Fin k0_t1_loop.trips) (k0_t3 : Fin (k0_t3_loop k0_t1).trips) (c0_i32_172 : BitVec 32) : Fin 4 → Nat :=
  let c0_200 : Index := 0#32
  let c0_201 : Index := 0#32
  let c0_202 : Index := 0#32
  let c2_i32_191 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let v309 : BitVec 32 := Scalar.addi v308 c0_i32_172
  let v330 : BitVec 32 := Scalar.muli c2_i32_191 v309
  let c256_i32_199 : BitVec 32 := 256#32
  let v346 : BitVec 32 := Scalar.muli v330 c256_i32_199
  let v347 : BitVec 32 := v346
  let v348 : Index := Scalar.indexCast v347
  ![0, 0, 0, v348.toNat]
def k0_mult39 (k0_t1 : Fin k0_t1_loop.trips) (k0_t3 : Fin (k0_t3_loop k0_t1).trips) : BitVec 32 :=
  let c2_i32_191 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let c0_i32_172 : BitVec 32 := 0#32
  let v309 : BitVec 32 := Scalar.addi v308 c0_i32_172
  let v330 : BitVec 32 := Scalar.muli c2_i32_191 v309
  let c256_i32_214 : BitVec 32 := 256#32
  let v371 : BitVec 32 := Scalar.muli v330 c256_i32_214
  v371
def k0_off12 (k0_t1 : Fin k0_t1_loop.trips) (k0_t3 : Fin (k0_t3_loop k0_t1).trips) (c0_i32_172 : BitVec 32) : Fin 4 → Nat :=
  let c0_215 : Index := 0#32
  let c1_216 : Index := 1#32
  let c0_217 : Index := 0#32
  let c2_i32_191 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let v309 : BitVec 32 := Scalar.addi v308 c0_i32_172
  let v330 : BitVec 32 := Scalar.muli c2_i32_191 v309
  let c256_i32_214 : BitVec 32 := 256#32
  let v371 : BitVec 32 := Scalar.muli v330 c256_i32_214
  let v372 : BitVec 32 := v371
  let v373 : Index := Scalar.indexCast v372
  ![0, 1, 0, v373.toNat]
def k0_mult40 (k0_t1 : Fin k0_t1_loop.trips) (k0_t3 : Fin (k0_t3_loop k0_t1).trips) : BitVec 32 :=
  let c2_i32_222 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_224 : BitVec 32 := 256#32
  let v383 : BitVec 32 := Scalar.muli v382 c256_i32_224
  v383
def k0_mult41 (k0_t1 : Fin k0_t1_loop.trips) (k0_t3 : Fin (k0_t3_loop k0_t1).trips) : BitVec 32 :=
  let c2_i32_222 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_232 : BitVec 32 := 256#32
  let v392 : BitVec 32 := Scalar.muli v382 c256_i32_232
  v392
def k0_mult42 (k0_t1 : Fin k0_t1_loop.trips) (k0_t3 : Fin (k0_t3_loop k0_t1).trips) : BitVec 32 :=
  let c2_i32_240 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  v418
def k0_off13 (k0_t1 : Fin k0_t1_loop.trips) (k0_t3 : Fin (k0_t3_loop k0_t1).trips) (c0_i32_172 : BitVec 32) : Fin 4 → Nat :=
  let c0_250 : Index := 0#32
  let c0_251 : Index := 0#32
  let c0_252 : Index := 0#32
  let c2_i32_240 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  let v419 : BitVec 32 := v418
  let v420 : Index := Scalar.indexCast v419
  ![0, 0, 0, v420.toNat]
def k0_mult43 (k0_t1 : Fin k0_t1_loop.trips) (k0_t3 : Fin (k0_t3_loop k0_t1).trips) : BitVec 32 :=
  let c2_i32_240 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  v443
def k0_off14 (k0_t1 : Fin k0_t1_loop.trips) (k0_t3 : Fin (k0_t3_loop k0_t1).trips) (c0_i32_172 : BitVec 32) : Fin 4 → Nat :=
  let c0_265 : Index := 0#32
  let c1_266 : Index := 1#32
  let c0_267 : Index := 0#32
  let c2_i32_240 : BitVec 32 := 2#32
  let c4_i32_171 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v308 : BitVec 32 := Scalar.muli c4_i32_171 arg10
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  let v444 : BitVec 32 := v443
  let v445 : Index := Scalar.indexCast v444
  ![0, 1, 0, v445.toNat]
def k0_mult44 (k0_t1 : Fin k0_t1_loop.trips) (k0_t3 : Fin (k0_t3_loop k0_t1).trips) : BitVec 32 :=
  let c2_i32_274 : BitVec 32 := 2#32
  let c4_i32_272 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v453 : BitVec 32 := Scalar.muli c4_i32_272 arg10
  let c1_i32_273 : BitVec 32 := 1#32
  let v454 : BitVec 32 := Scalar.addi v453 c1_i32_273
  let v455 : BitVec 32 := Scalar.muli c2_i32_274 v454
  let c1_i32_275 : BitVec 32 := 1#32
  let v456 : BitVec 32 := Scalar.addi v455 c1_i32_275
  let c256_i32_276 : BitVec 32 := 256#32
  let v457 : BitVec 32 := Scalar.muli v456 c256_i32_276
  v457
def k0_mult45 (k0_t1 : Fin k0_t1_loop.trips) (k0_t3 : Fin (k0_t3_loop k0_t1).trips) : BitVec 32 :=
  let c2_i32_274 : BitVec 32 := 2#32
  let c4_i32_272 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v453 : BitVec 32 := Scalar.muli c4_i32_272 arg10
  let c1_i32_273 : BitVec 32 := 1#32
  let v454 : BitVec 32 := Scalar.addi v453 c1_i32_273
  let v455 : BitVec 32 := Scalar.muli c2_i32_274 v454
  let c1_i32_275 : BitVec 32 := 1#32
  let v456 : BitVec 32 := Scalar.addi v455 c1_i32_275
  let c256_i32_284 : BitVec 32 := 256#32
  let v466 : BitVec 32 := Scalar.muli v456 c256_i32_284
  v466
def k0_mult46 (k0_t1 : Fin k0_t1_loop.trips) (k0_t3 : Fin (k0_t3_loop k0_t1).trips) : BitVec 32 :=
  let c2_i32_292 : BitVec 32 := 2#32
  let c4_i32_272 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v453 : BitVec 32 := Scalar.muli c4_i32_272 arg10
  let c1_i32_273 : BitVec 32 := 1#32
  let v454 : BitVec 32 := Scalar.addi v453 c1_i32_273
  let v475 : BitVec 32 := Scalar.muli c2_i32_292 v454
  let c256_i32_300 : BitVec 32 := 256#32
  let v491 : BitVec 32 := Scalar.muli v475 c256_i32_300
  v491
def k0_mult47 (k0_t1 : Fin k0_t1_loop.trips) (k0_t3 : Fin (k0_t3_loop k0_t1).trips) : BitVec 32 :=
  let c2_i32_292 : BitVec 32 := 2#32
  let c4_i32_272 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v453 : BitVec 32 := Scalar.muli c4_i32_272 arg10
  let c1_i32_273 : BitVec 32 := 1#32
  let v454 : BitVec 32 := Scalar.addi v453 c1_i32_273
  let v475 : BitVec 32 := Scalar.muli c2_i32_292 v454
  let c256_i32_315 : BitVec 32 := 256#32
  let v516 : BitVec 32 := Scalar.muli v475 c256_i32_315
  v516
def k0_mult48 (k0_t1 : Fin k0_t1_loop.trips) (k0_t3 : Fin (k0_t3_loop k0_t1).trips) : BitVec 32 :=
  let c2_i32_323 : BitVec 32 := 2#32
  let c4_i32_272 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v453 : BitVec 32 := Scalar.muli c4_i32_272 arg10
  let c1_i32_273 : BitVec 32 := 1#32
  let v454 : BitVec 32 := Scalar.addi v453 c1_i32_273
  let v526 : BitVec 32 := Scalar.muli c2_i32_323 v454
  let c2_i32_324 : BitVec 32 := 2#32
  let v527 : BitVec 32 := Scalar.addi v526 c2_i32_324
  let c256_i32_325 : BitVec 32 := 256#32
  let v528 : BitVec 32 := Scalar.muli v527 c256_i32_325
  v528
def k0_mult49 (k0_t1 : Fin k0_t1_loop.trips) (k0_t3 : Fin (k0_t3_loop k0_t1).trips) : BitVec 32 :=
  let c2_i32_323 : BitVec 32 := 2#32
  let c4_i32_272 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v453 : BitVec 32 := Scalar.muli c4_i32_272 arg10
  let c1_i32_273 : BitVec 32 := 1#32
  let v454 : BitVec 32 := Scalar.addi v453 c1_i32_273
  let v526 : BitVec 32 := Scalar.muli c2_i32_323 v454
  let c2_i32_324 : BitVec 32 := 2#32
  let v527 : BitVec 32 := Scalar.addi v526 c2_i32_324
  let c256_i32_333 : BitVec 32 := 256#32
  let v537 : BitVec 32 := Scalar.muli v527 c256_i32_333
  v537
def k0_mult50 (k0_t1 : Fin k0_t1_loop.trips) (k0_t3 : Fin (k0_t3_loop k0_t1).trips) : BitVec 32 :=
  let c2_i32_341 : BitVec 32 := 2#32
  let c4_i32_272 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v453 : BitVec 32 := Scalar.muli c4_i32_272 arg10
  let c1_i32_273 : BitVec 32 := 1#32
  let v454 : BitVec 32 := Scalar.addi v453 c1_i32_273
  let v546 : BitVec 32 := Scalar.muli c2_i32_341 v454
  let c1_i32_342 : BitVec 32 := 1#32
  let v547 : BitVec 32 := Scalar.addi v546 c1_i32_342
  let c256_i32_350 : BitVec 32 := 256#32
  let v563 : BitVec 32 := Scalar.muli v547 c256_i32_350
  v563
def k0_mult51 (k0_t1 : Fin k0_t1_loop.trips) (k0_t3 : Fin (k0_t3_loop k0_t1).trips) : BitVec 32 :=
  let c2_i32_341 : BitVec 32 := 2#32
  let c4_i32_272 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v453 : BitVec 32 := Scalar.muli c4_i32_272 arg10
  let c1_i32_273 : BitVec 32 := 1#32
  let v454 : BitVec 32 := Scalar.addi v453 c1_i32_273
  let v546 : BitVec 32 := Scalar.muli c2_i32_341 v454
  let c1_i32_342 : BitVec 32 := 1#32
  let v547 : BitVec 32 := Scalar.addi v546 c1_i32_342
  let c256_i32_365 : BitVec 32 := 256#32
  let v588 : BitVec 32 := Scalar.muli v547 c256_i32_365
  v588
def k0_mult52 (k0_t1 : Fin k0_t1_loop.trips) (k0_t3 : Fin (k0_t3_loop k0_t1).trips) : BitVec 32 :=
  let c2_i32_375 : BitVec 32 := 2#32
  let c4_i32_373 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v598 : BitVec 32 := Scalar.muli c4_i32_373 arg10
  let c2_i32_374 : BitVec 32 := 2#32
  let v599 : BitVec 32 := Scalar.addi v598 c2_i32_374
  let v600 : BitVec 32 := Scalar.muli c2_i32_375 v599
  let c1_i32_376 : BitVec 32 := 1#32
  let v601 : BitVec 32 := Scalar.addi v600 c1_i32_376
  let c256_i32_377 : BitVec 32 := 256#32
  let v602 : BitVec 32 := Scalar.muli v601 c256_i32_377
  v602
def k0_mult53 (k0_t1 : Fin k0_t1_loop.trips) (k0_t3 : Fin (k0_t3_loop k0_t1).trips) : BitVec 32 :=
  let c2_i32_375 : BitVec 32 := 2#32
  let c4_i32_373 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v598 : BitVec 32 := Scalar.muli c4_i32_373 arg10
  let c2_i32_374 : BitVec 32 := 2#32
  let v599 : BitVec 32 := Scalar.addi v598 c2_i32_374
  let v600 : BitVec 32 := Scalar.muli c2_i32_375 v599
  let c1_i32_376 : BitVec 32 := 1#32
  let v601 : BitVec 32 := Scalar.addi v600 c1_i32_376
  let c256_i32_385 : BitVec 32 := 256#32
  let v611 : BitVec 32 := Scalar.muli v601 c256_i32_385
  v611
def k0_mult54 (k0_t1 : Fin k0_t1_loop.trips) (k0_t3 : Fin (k0_t3_loop k0_t1).trips) : BitVec 32 :=
  let c2_i32_393 : BitVec 32 := 2#32
  let c4_i32_373 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v598 : BitVec 32 := Scalar.muli c4_i32_373 arg10
  let c2_i32_374 : BitVec 32 := 2#32
  let v599 : BitVec 32 := Scalar.addi v598 c2_i32_374
  let v620 : BitVec 32 := Scalar.muli c2_i32_393 v599
  let c256_i32_401 : BitVec 32 := 256#32
  let v636 : BitVec 32 := Scalar.muli v620 c256_i32_401
  v636
def k0_mult55 (k0_t1 : Fin k0_t1_loop.trips) (k0_t3 : Fin (k0_t3_loop k0_t1).trips) : BitVec 32 :=
  let c2_i32_393 : BitVec 32 := 2#32
  let c4_i32_373 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v598 : BitVec 32 := Scalar.muli c4_i32_373 arg10
  let c2_i32_374 : BitVec 32 := 2#32
  let v599 : BitVec 32 := Scalar.addi v598 c2_i32_374
  let v620 : BitVec 32 := Scalar.muli c2_i32_393 v599
  let c256_i32_416 : BitVec 32 := 256#32
  let v661 : BitVec 32 := Scalar.muli v620 c256_i32_416
  v661
def k0_mult56 (k0_t1 : Fin k0_t1_loop.trips) (k0_t3 : Fin (k0_t3_loop k0_t1).trips) : BitVec 32 :=
  let c2_i32_424 : BitVec 32 := 2#32
  let c4_i32_373 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v598 : BitVec 32 := Scalar.muli c4_i32_373 arg10
  let c2_i32_374 : BitVec 32 := 2#32
  let v599 : BitVec 32 := Scalar.addi v598 c2_i32_374
  let v671 : BitVec 32 := Scalar.muli c2_i32_424 v599
  let c2_i32_425 : BitVec 32 := 2#32
  let v672 : BitVec 32 := Scalar.addi v671 c2_i32_425
  let c256_i32_426 : BitVec 32 := 256#32
  let v673 : BitVec 32 := Scalar.muli v672 c256_i32_426
  v673
def k0_mult57 (k0_t1 : Fin k0_t1_loop.trips) (k0_t3 : Fin (k0_t3_loop k0_t1).trips) : BitVec 32 :=
  let c2_i32_424 : BitVec 32 := 2#32
  let c4_i32_373 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v598 : BitVec 32 := Scalar.muli c4_i32_373 arg10
  let c2_i32_374 : BitVec 32 := 2#32
  let v599 : BitVec 32 := Scalar.addi v598 c2_i32_374
  let v671 : BitVec 32 := Scalar.muli c2_i32_424 v599
  let c2_i32_425 : BitVec 32 := 2#32
  let v672 : BitVec 32 := Scalar.addi v671 c2_i32_425
  let c256_i32_434 : BitVec 32 := 256#32
  let v682 : BitVec 32 := Scalar.muli v672 c256_i32_434
  v682
def k0_mult58 (k0_t1 : Fin k0_t1_loop.trips) (k0_t3 : Fin (k0_t3_loop k0_t1).trips) : BitVec 32 :=
  let c2_i32_442 : BitVec 32 := 2#32
  let c4_i32_373 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v598 : BitVec 32 := Scalar.muli c4_i32_373 arg10
  let c2_i32_374 : BitVec 32 := 2#32
  let v599 : BitVec 32 := Scalar.addi v598 c2_i32_374
  let v691 : BitVec 32 := Scalar.muli c2_i32_442 v599
  let c1_i32_443 : BitVec 32 := 1#32
  let v692 : BitVec 32 := Scalar.addi v691 c1_i32_443
  let c256_i32_451 : BitVec 32 := 256#32
  let v708 : BitVec 32 := Scalar.muli v692 c256_i32_451
  v708
def k0_mult59 (k0_t1 : Fin k0_t1_loop.trips) (k0_t3 : Fin (k0_t3_loop k0_t1).trips) : BitVec 32 :=
  let c2_i32_442 : BitVec 32 := 2#32
  let c4_i32_373 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v598 : BitVec 32 := Scalar.muli c4_i32_373 arg10
  let c2_i32_374 : BitVec 32 := 2#32
  let v599 : BitVec 32 := Scalar.addi v598 c2_i32_374
  let v691 : BitVec 32 := Scalar.muli c2_i32_442 v599
  let c1_i32_443 : BitVec 32 := 1#32
  let v692 : BitVec 32 := Scalar.addi v691 c1_i32_443
  let c256_i32_466 : BitVec 32 := 256#32
  let v733 : BitVec 32 := Scalar.muli v692 c256_i32_466
  v733
def k0_mult60 (k0_t1 : Fin k0_t1_loop.trips) (k0_t3 : Fin (k0_t3_loop k0_t1).trips) : BitVec 32 :=
  let c2_i32_475 : BitVec 32 := 2#32
  let c4_i32_474 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v743 : BitVec 32 := Scalar.muli c4_i32_474 arg10
  let c3_i32 : BitVec 32 := 3#32
  let v744 : BitVec 32 := Scalar.addi v743 c3_i32
  let v745 : BitVec 32 := Scalar.muli c2_i32_475 v744
  let c1_i32_476 : BitVec 32 := 1#32
  let v746 : BitVec 32 := Scalar.addi v745 c1_i32_476
  let c256_i32_477 : BitVec 32 := 256#32
  let v747 : BitVec 32 := Scalar.muli v746 c256_i32_477
  v747
def k0_mult61 (k0_t1 : Fin k0_t1_loop.trips) (k0_t3 : Fin (k0_t3_loop k0_t1).trips) : BitVec 32 :=
  let c2_i32_475 : BitVec 32 := 2#32
  let c4_i32_474 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v743 : BitVec 32 := Scalar.muli c4_i32_474 arg10
  let c3_i32 : BitVec 32 := 3#32
  let v744 : BitVec 32 := Scalar.addi v743 c3_i32
  let v745 : BitVec 32 := Scalar.muli c2_i32_475 v744
  let c1_i32_476 : BitVec 32 := 1#32
  let v746 : BitVec 32 := Scalar.addi v745 c1_i32_476
  let c256_i32_485 : BitVec 32 := 256#32
  let v756 : BitVec 32 := Scalar.muli v746 c256_i32_485
  v756
def k0_mult62 (k0_t1 : Fin k0_t1_loop.trips) (k0_t3 : Fin (k0_t3_loop k0_t1).trips) : BitVec 32 :=
  let c2_i32_493 : BitVec 32 := 2#32
  let c4_i32_474 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v743 : BitVec 32 := Scalar.muli c4_i32_474 arg10
  let c3_i32 : BitVec 32 := 3#32
  let v744 : BitVec 32 := Scalar.addi v743 c3_i32
  let v765 : BitVec 32 := Scalar.muli c2_i32_493 v744
  let c256_i32_501 : BitVec 32 := 256#32
  let v781 : BitVec 32 := Scalar.muli v765 c256_i32_501
  v781
def k0_mult63 (k0_t1 : Fin k0_t1_loop.trips) (k0_t3 : Fin (k0_t3_loop k0_t1).trips) : BitVec 32 :=
  let c2_i32_493 : BitVec 32 := 2#32
  let c4_i32_474 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v743 : BitVec 32 := Scalar.muli c4_i32_474 arg10
  let c3_i32 : BitVec 32 := 3#32
  let v744 : BitVec 32 := Scalar.addi v743 c3_i32
  let v765 : BitVec 32 := Scalar.muli c2_i32_493 v744
  let c256_i32_516 : BitVec 32 := 256#32
  let v806 : BitVec 32 := Scalar.muli v765 c256_i32_516
  v806
def k0_mult64 (k0_t1 : Fin k0_t1_loop.trips) (k0_t3 : Fin (k0_t3_loop k0_t1).trips) : BitVec 32 :=
  let c2_i32_524 : BitVec 32 := 2#32
  let c4_i32_474 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v743 : BitVec 32 := Scalar.muli c4_i32_474 arg10
  let c3_i32 : BitVec 32 := 3#32
  let v744 : BitVec 32 := Scalar.addi v743 c3_i32
  let v816 : BitVec 32 := Scalar.muli c2_i32_524 v744
  let c2_i32_525 : BitVec 32 := 2#32
  let v817 : BitVec 32 := Scalar.addi v816 c2_i32_525
  let c256_i32_526 : BitVec 32 := 256#32
  let v818 : BitVec 32 := Scalar.muli v817 c256_i32_526
  v818
def k0_mult65 (k0_t1 : Fin k0_t1_loop.trips) (k0_t3 : Fin (k0_t3_loop k0_t1).trips) : BitVec 32 :=
  let c2_i32_524 : BitVec 32 := 2#32
  let c4_i32_474 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v743 : BitVec 32 := Scalar.muli c4_i32_474 arg10
  let c3_i32 : BitVec 32 := 3#32
  let v744 : BitVec 32 := Scalar.addi v743 c3_i32
  let v816 : BitVec 32 := Scalar.muli c2_i32_524 v744
  let c2_i32_525 : BitVec 32 := 2#32
  let v817 : BitVec 32 := Scalar.addi v816 c2_i32_525
  let c256_i32_534 : BitVec 32 := 256#32
  let v827 : BitVec 32 := Scalar.muli v817 c256_i32_534
  v827
def k0_mult66 (k0_t1 : Fin k0_t1_loop.trips) (k0_t3 : Fin (k0_t3_loop k0_t1).trips) : BitVec 32 :=
  let c2_i32_542 : BitVec 32 := 2#32
  let c4_i32_474 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v743 : BitVec 32 := Scalar.muli c4_i32_474 arg10
  let c3_i32 : BitVec 32 := 3#32
  let v744 : BitVec 32 := Scalar.addi v743 c3_i32
  let v836 : BitVec 32 := Scalar.muli c2_i32_542 v744
  let c1_i32_543 : BitVec 32 := 1#32
  let v837 : BitVec 32 := Scalar.addi v836 c1_i32_543
  let c256_i32_551 : BitVec 32 := 256#32
  let v853 : BitVec 32 := Scalar.muli v837 c256_i32_551
  v853
def k0_mult67 (k0_t1 : Fin k0_t1_loop.trips) (k0_t3 : Fin (k0_t3_loop k0_t1).trips) : BitVec 32 :=
  let c2_i32_542 : BitVec 32 := 2#32
  let c4_i32_474 : BitVec 32 := 4#32
  let c0_i32_30 : BitVec 32 := 0#32
  let c0_i32 : BitVec 32 := 0#32
  let c1_i32 : BitVec 32 := 1#32
  let arg9 : BitVec 32 := Scf.iv c0_i32 c1_i32 k0_t1
  let c0_i32_24 : BitVec 32 := 0#32
  let v31 : BitVec 1 := Scalar.cmpi .sgt arg9 c0_i32_24
  let v32 : BitVec 32 := Scalar.extui v31
  let c0_i32_25 : BitVec 32 := 0#32
  let v33 : BitVec 1 := Scalar.cmpi .slt arg9 c0_i32_25
  let v34 : BitVec 32 := Scalar.extui v33
  let v35 : BitVec 32 := Scalar.subi v32 v34
  let c4_i32 : BitVec 32 := 4#32
  let c0_i32_26 : BitVec 32 := 0#32
  let v36 : BitVec 1 := Scalar.cmpi .sgt c4_i32 c0_i32_26
  let v37 : BitVec 32 := Scalar.extui v36
  let c0_i32_27 : BitVec 32 := 0#32
  let v38 : BitVec 1 := Scalar.cmpi .slt c4_i32 c0_i32_27
  let v39 : BitVec 32 := Scalar.extui v38
  let v40 : BitVec 32 := Scalar.subi v37 v39
  let v41 : BitVec 1 := Scalar.cmpi .ne v35 v40
  let v42 : BitVec 32 := Scalar.remsi arg9 c4_i32
  let c0_i32_28 : BitVec 32 := 0#32
  let v43 : BitVec 1 := Scalar.cmpi .ne v42 c0_i32_28
  let v44 : BitVec 1 := Scalar.andi v41 v43
  let v30 : BitVec 32 := Scalar.divsi arg9 c4_i32
  let c1_i32_29 : BitVec 32 := 1#32
  let v45 : BitVec 32 := Scalar.subi v30 c1_i32_29
  let v46 : BitVec 32 := Scalar.select v44 v45 v30
  let v47 : BitVec 32 := Scalar.subi v46 c0_i32_30
  let c1_i32_31 : BitVec 32 := 1#32
  let v49 : BitVec 32 := Scalar.divsi v47 c1_i32_31
  let v50 : BitVec 32 := Scalar.muli v49 c1_i32_31
  let v51 : BitVec 32 := Scalar.addi c0_i32_30 v50
  let c1_i32_33 : BitVec 32 := 1#32
  let arg10 : BitVec 32 := Scf.iv v51 c1_i32_33 k0_t3
  let v743 : BitVec 32 := Scalar.muli c4_i32_474 arg10
  let c3_i32 : BitVec 32 := 3#32
  let v744 : BitVec 32 := Scalar.addi v743 c3_i32
  let v836 : BitVec 32 := Scalar.muli c2_i32_542 v744
  let c1_i32_543 : BitVec 32 := 1#32
  let v837 : BitVec 32 := Scalar.addi v836 c1_i32_543
  let c256_i32_566 : BitVec 32 := 256#32
  let v878 : BitVec 32 := Scalar.muli v837 c256_i32_566
  v878
@[reducible] def k0_t4_loop (k0_t1 : Fin k0_t1_loop.trips) : Scf.Loop 32 :=
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_49 : BitVec 32 := 1#32
  ⟨v71, v93, c1_i32_49⟩
def k0_mult68 (k0_t1 : Fin k0_t1_loop.trips) (k0_t4 : Fin (k0_t4_loop k0_t1).trips) : BitVec 32 :=
  let c2_i32_173 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_175 : BitVec 32 := 256#32
  let v312 : BitVec 32 := Scalar.muli v311 c256_i32_175
  v312
def k0_off15 (k0_t1 : Fin k0_t1_loop.trips) (k0_t4 : Fin (k0_t4_loop k0_t1).trips) (c0_i32_172 : BitVec 32) (c1_i32_174 : BitVec 32) : Fin 4 → Nat :=
  let c0_176 : Index := 0#32
  let c0_177 : Index := 0#32
  let c2_i32_173 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let v309 : BitVec 32 := Scalar.addi v308 c0_i32_172
  let v310 : BitVec 32 := Scalar.muli c2_i32_173 v309
  let v311 : BitVec 32 := Scalar.addi v310 c1_i32_174
  let c256_i32_175 : BitVec 32 := 256#32
  let v312 : BitVec 32 := Scalar.muli v311 c256_i32_175
  let v313 : BitVec 32 := v312
  let v314 : Index := Scalar.indexCast v313
  let c0_178 : Index := 0#32
  ![0, 0, v314.toNat, 0]
def k0_mult69 (k0_t1 : Fin k0_t1_loop.trips) (k0_t4 : Fin (k0_t4_loop k0_t1).trips) : BitVec 32 :=
  let c2_i32_173 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_183 : BitVec 32 := 256#32
  let v321 : BitVec 32 := Scalar.muli v311 c256_i32_183
  v321
def k0_off16 (k0_t1 : Fin k0_t1_loop.trips) (k0_t4 : Fin (k0_t4_loop k0_t1).trips) (c0_i32_172 : BitVec 32) (c1_i32_174 : BitVec 32) : Fin 4 → Nat :=
  let c0_184 : Index := 0#32
  let c0_185 : Index := 0#32
  let c2_i32_173 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let v309 : BitVec 32 := Scalar.addi v308 c0_i32_172
  let v310 : BitVec 32 := Scalar.muli c2_i32_173 v309
  let v311 : BitVec 32 := Scalar.addi v310 c1_i32_174
  let c256_i32_183 : BitVec 32 := 256#32
  let v321 : BitVec 32 := Scalar.muli v311 c256_i32_183
  let v322 : BitVec 32 := v321
  let v323 : Index := Scalar.indexCast v322
  let c128_186 : Index := 128#32
  ![0, 0, v323.toNat, 128]
def k0_mult70 (k0_t1 : Fin k0_t1_loop.trips) (k0_t4 : Fin (k0_t4_loop k0_t1).trips) : BitVec 32 :=
  let c2_i32_191 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let c0_i32_172 : BitVec 32 := 0#32
  let v309 : BitVec 32 := Scalar.addi v308 c0_i32_172
  let v330 : BitVec 32 := Scalar.muli c2_i32_191 v309
  let c256_i32_199 : BitVec 32 := 256#32
  let v346 : BitVec 32 := Scalar.muli v330 c256_i32_199
  v346
def k0_off17 (k0_t1 : Fin k0_t1_loop.trips) (k0_t4 : Fin (k0_t4_loop k0_t1).trips) (c0_i32_172 : BitVec 32) : Fin 4 → Nat :=
  let c0_200 : Index := 0#32
  let c0_201 : Index := 0#32
  let c0_202 : Index := 0#32
  let c2_i32_191 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let v309 : BitVec 32 := Scalar.addi v308 c0_i32_172
  let v330 : BitVec 32 := Scalar.muli c2_i32_191 v309
  let c256_i32_199 : BitVec 32 := 256#32
  let v346 : BitVec 32 := Scalar.muli v330 c256_i32_199
  let v347 : BitVec 32 := v346
  let v348 : Index := Scalar.indexCast v347
  ![0, 0, 0, v348.toNat]
def k0_mult71 (k0_t1 : Fin k0_t1_loop.trips) (k0_t4 : Fin (k0_t4_loop k0_t1).trips) : BitVec 32 :=
  let c2_i32_191 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let c0_i32_172 : BitVec 32 := 0#32
  let v309 : BitVec 32 := Scalar.addi v308 c0_i32_172
  let v330 : BitVec 32 := Scalar.muli c2_i32_191 v309
  let c256_i32_214 : BitVec 32 := 256#32
  let v371 : BitVec 32 := Scalar.muli v330 c256_i32_214
  v371
def k0_off18 (k0_t1 : Fin k0_t1_loop.trips) (k0_t4 : Fin (k0_t4_loop k0_t1).trips) (c0_i32_172 : BitVec 32) : Fin 4 → Nat :=
  let c0_215 : Index := 0#32
  let c1_216 : Index := 1#32
  let c0_217 : Index := 0#32
  let c2_i32_191 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let v309 : BitVec 32 := Scalar.addi v308 c0_i32_172
  let v330 : BitVec 32 := Scalar.muli c2_i32_191 v309
  let c256_i32_214 : BitVec 32 := 256#32
  let v371 : BitVec 32 := Scalar.muli v330 c256_i32_214
  let v372 : BitVec 32 := v371
  let v373 : Index := Scalar.indexCast v372
  ![0, 1, 0, v373.toNat]
def k0_mult72 (k0_t1 : Fin k0_t1_loop.trips) (k0_t4 : Fin (k0_t4_loop k0_t1).trips) : BitVec 32 :=
  let c2_i32_222 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_224 : BitVec 32 := 256#32
  let v383 : BitVec 32 := Scalar.muli v382 c256_i32_224
  v383
def k0_mult73 (k0_t1 : Fin k0_t1_loop.trips) (k0_t4 : Fin (k0_t4_loop k0_t1).trips) : BitVec 32 :=
  let c2_i32_222 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_232 : BitVec 32 := 256#32
  let v392 : BitVec 32 := Scalar.muli v382 c256_i32_232
  v392
def k0_mult74 (k0_t1 : Fin k0_t1_loop.trips) (k0_t4 : Fin (k0_t4_loop k0_t1).trips) : BitVec 32 :=
  let c2_i32_240 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  v418
def k0_off19 (k0_t1 : Fin k0_t1_loop.trips) (k0_t4 : Fin (k0_t4_loop k0_t1).trips) (c0_i32_172 : BitVec 32) : Fin 4 → Nat :=
  let c0_250 : Index := 0#32
  let c0_251 : Index := 0#32
  let c0_252 : Index := 0#32
  let c2_i32_240 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  let v419 : BitVec 32 := v418
  let v420 : Index := Scalar.indexCast v419
  ![0, 0, 0, v420.toNat]
def k0_mult75 (k0_t1 : Fin k0_t1_loop.trips) (k0_t4 : Fin (k0_t4_loop k0_t1).trips) : BitVec 32 :=
  let c2_i32_240 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  v443
def k0_off20 (k0_t1 : Fin k0_t1_loop.trips) (k0_t4 : Fin (k0_t4_loop k0_t1).trips) (c0_i32_172 : BitVec 32) : Fin 4 → Nat :=
  let c0_265 : Index := 0#32
  let c1_266 : Index := 1#32
  let c0_267 : Index := 0#32
  let c2_i32_240 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v308 : BitVec 32 := Scalar.muli c2_i32_171 arg10
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  let v444 : BitVec 32 := v443
  let v445 : Index := Scalar.indexCast v444
  ![0, 1, 0, v445.toNat]
def k0_mult76 (k0_t1 : Fin k0_t1_loop.trips) (k0_t4 : Fin (k0_t4_loop k0_t1).trips) : BitVec 32 :=
  let c2_i32_274 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v453 : BitVec 32 := Scalar.muli c2_i32_272 arg10
  let c1_i32_273 : BitVec 32 := 1#32
  let v454 : BitVec 32 := Scalar.addi v453 c1_i32_273
  let v455 : BitVec 32 := Scalar.muli c2_i32_274 v454
  let c1_i32_275 : BitVec 32 := 1#32
  let v456 : BitVec 32 := Scalar.addi v455 c1_i32_275
  let c256_i32_276 : BitVec 32 := 256#32
  let v457 : BitVec 32 := Scalar.muli v456 c256_i32_276
  v457
def k0_mult77 (k0_t1 : Fin k0_t1_loop.trips) (k0_t4 : Fin (k0_t4_loop k0_t1).trips) : BitVec 32 :=
  let c2_i32_274 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v453 : BitVec 32 := Scalar.muli c2_i32_272 arg10
  let c1_i32_273 : BitVec 32 := 1#32
  let v454 : BitVec 32 := Scalar.addi v453 c1_i32_273
  let v455 : BitVec 32 := Scalar.muli c2_i32_274 v454
  let c1_i32_275 : BitVec 32 := 1#32
  let v456 : BitVec 32 := Scalar.addi v455 c1_i32_275
  let c256_i32_284 : BitVec 32 := 256#32
  let v466 : BitVec 32 := Scalar.muli v456 c256_i32_284
  v466
def k0_mult78 (k0_t1 : Fin k0_t1_loop.trips) (k0_t4 : Fin (k0_t4_loop k0_t1).trips) : BitVec 32 :=
  let c2_i32_292 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v453 : BitVec 32 := Scalar.muli c2_i32_272 arg10
  let c1_i32_273 : BitVec 32 := 1#32
  let v454 : BitVec 32 := Scalar.addi v453 c1_i32_273
  let v475 : BitVec 32 := Scalar.muli c2_i32_292 v454
  let c256_i32_300 : BitVec 32 := 256#32
  let v491 : BitVec 32 := Scalar.muli v475 c256_i32_300
  v491
def k0_mult79 (k0_t1 : Fin k0_t1_loop.trips) (k0_t4 : Fin (k0_t4_loop k0_t1).trips) : BitVec 32 :=
  let c2_i32_292 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v453 : BitVec 32 := Scalar.muli c2_i32_272 arg10
  let c1_i32_273 : BitVec 32 := 1#32
  let v454 : BitVec 32 := Scalar.addi v453 c1_i32_273
  let v475 : BitVec 32 := Scalar.muli c2_i32_292 v454
  let c256_i32_315 : BitVec 32 := 256#32
  let v516 : BitVec 32 := Scalar.muli v475 c256_i32_315
  v516
def k0_mult80 (k0_t1 : Fin k0_t1_loop.trips) (k0_t4 : Fin (k0_t4_loop k0_t1).trips) : BitVec 32 :=
  let c2_i32_323 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v453 : BitVec 32 := Scalar.muli c2_i32_272 arg10
  let c1_i32_273 : BitVec 32 := 1#32
  let v454 : BitVec 32 := Scalar.addi v453 c1_i32_273
  let v526 : BitVec 32 := Scalar.muli c2_i32_323 v454
  let c2_i32_324 : BitVec 32 := 2#32
  let v527 : BitVec 32 := Scalar.addi v526 c2_i32_324
  let c256_i32_325 : BitVec 32 := 256#32
  let v528 : BitVec 32 := Scalar.muli v527 c256_i32_325
  v528
def k0_mult81 (k0_t1 : Fin k0_t1_loop.trips) (k0_t4 : Fin (k0_t4_loop k0_t1).trips) : BitVec 32 :=
  let c2_i32_323 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v453 : BitVec 32 := Scalar.muli c2_i32_272 arg10
  let c1_i32_273 : BitVec 32 := 1#32
  let v454 : BitVec 32 := Scalar.addi v453 c1_i32_273
  let v526 : BitVec 32 := Scalar.muli c2_i32_323 v454
  let c2_i32_324 : BitVec 32 := 2#32
  let v527 : BitVec 32 := Scalar.addi v526 c2_i32_324
  let c256_i32_333 : BitVec 32 := 256#32
  let v537 : BitVec 32 := Scalar.muli v527 c256_i32_333
  v537
def k0_mult82 (k0_t1 : Fin k0_t1_loop.trips) (k0_t4 : Fin (k0_t4_loop k0_t1).trips) : BitVec 32 :=
  let c2_i32_341 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v453 : BitVec 32 := Scalar.muli c2_i32_272 arg10
  let c1_i32_273 : BitVec 32 := 1#32
  let v454 : BitVec 32 := Scalar.addi v453 c1_i32_273
  let v546 : BitVec 32 := Scalar.muli c2_i32_341 v454
  let c1_i32_342 : BitVec 32 := 1#32
  let v547 : BitVec 32 := Scalar.addi v546 c1_i32_342
  let c256_i32_350 : BitVec 32 := 256#32
  let v563 : BitVec 32 := Scalar.muli v547 c256_i32_350
  v563
def k0_mult83 (k0_t1 : Fin k0_t1_loop.trips) (k0_t4 : Fin (k0_t4_loop k0_t1).trips) : BitVec 32 :=
  let c2_i32_341 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c1_i32_49 : BitVec 32 := 1#32
  let arg10 : BitVec 32 := Scf.iv v71 c1_i32_49 k0_t4
  let v453 : BitVec 32 := Scalar.muli c2_i32_272 arg10
  let c1_i32_273 : BitVec 32 := 1#32
  let v454 : BitVec 32 := Scalar.addi v453 c1_i32_273
  let v546 : BitVec 32 := Scalar.muli c2_i32_341 v454
  let c1_i32_342 : BitVec 32 := 1#32
  let v547 : BitVec 32 := Scalar.addi v546 c1_i32_342
  let c256_i32_365 : BitVec 32 := 256#32
  let v588 : BitVec 32 := Scalar.muli v547 c256_i32_365
  v588
@[reducible] def k0_t5_loop (k0_t1 : Fin k0_t1_loop.trips) : Scf.Loop 32 :=
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let v90 : BitVec 32 := Scalar.addi v71 v89
  let c1_i32_50 : BitVec 32 := 1#32
  ⟨v93, v90, c1_i32_50⟩
def k0_mult84 (k0_t1 : Fin k0_t1_loop.trips) (k0_t5 : Fin (k0_t5_loop k0_t1).trips) : BitVec 32 :=
  let c2_i32_173 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_175 : BitVec 32 := 256#32
  let v312 : BitVec 32 := Scalar.muli v311 c256_i32_175
  v312
def k0_off21 (k0_t1 : Fin k0_t1_loop.trips) (k0_t5 : Fin (k0_t5_loop k0_t1).trips) (c0_i32_172 : BitVec 32) (c1_i32_174 : BitVec 32) : Fin 4 → Nat :=
  let c0_176 : Index := 0#32
  let c0_177 : Index := 0#32
  let c2_i32_173 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let v309 : BitVec 32 := Scalar.addi v308 c0_i32_172
  let v310 : BitVec 32 := Scalar.muli c2_i32_173 v309
  let v311 : BitVec 32 := Scalar.addi v310 c1_i32_174
  let c256_i32_175 : BitVec 32 := 256#32
  let v312 : BitVec 32 := Scalar.muli v311 c256_i32_175
  let v313 : BitVec 32 := v312
  let v314 : Index := Scalar.indexCast v313
  let c0_178 : Index := 0#32
  ![0, 0, v314.toNat, 0]
def k0_mult85 (k0_t1 : Fin k0_t1_loop.trips) (k0_t5 : Fin (k0_t5_loop k0_t1).trips) : BitVec 32 :=
  let c2_i32_173 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_183 : BitVec 32 := 256#32
  let v321 : BitVec 32 := Scalar.muli v311 c256_i32_183
  v321
def k0_off22 (k0_t1 : Fin k0_t1_loop.trips) (k0_t5 : Fin (k0_t5_loop k0_t1).trips) (c0_i32_172 : BitVec 32) (c1_i32_174 : BitVec 32) : Fin 4 → Nat :=
  let c0_184 : Index := 0#32
  let c0_185 : Index := 0#32
  let c2_i32_173 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let v309 : BitVec 32 := Scalar.addi v308 c0_i32_172
  let v310 : BitVec 32 := Scalar.muli c2_i32_173 v309
  let v311 : BitVec 32 := Scalar.addi v310 c1_i32_174
  let c256_i32_183 : BitVec 32 := 256#32
  let v321 : BitVec 32 := Scalar.muli v311 c256_i32_183
  let v322 : BitVec 32 := v321
  let v323 : Index := Scalar.indexCast v322
  let c128_186 : Index := 128#32
  ![0, 0, v323.toNat, 128]
def k0_mult86 (k0_t1 : Fin k0_t1_loop.trips) (k0_t5 : Fin (k0_t5_loop k0_t1).trips) : BitVec 32 :=
  let c2_i32_191 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let c0_i32_172 : BitVec 32 := 0#32
  let v309 : BitVec 32 := Scalar.addi v308 c0_i32_172
  let v330 : BitVec 32 := Scalar.muli c2_i32_191 v309
  let c256_i32_199 : BitVec 32 := 256#32
  let v346 : BitVec 32 := Scalar.muli v330 c256_i32_199
  v346
def k0_off23 (k0_t1 : Fin k0_t1_loop.trips) (k0_t5 : Fin (k0_t5_loop k0_t1).trips) (c0_i32_172 : BitVec 32) : Fin 4 → Nat :=
  let c0_200 : Index := 0#32
  let c0_201 : Index := 0#32
  let c0_202 : Index := 0#32
  let c2_i32_191 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let v309 : BitVec 32 := Scalar.addi v308 c0_i32_172
  let v330 : BitVec 32 := Scalar.muli c2_i32_191 v309
  let c256_i32_199 : BitVec 32 := 256#32
  let v346 : BitVec 32 := Scalar.muli v330 c256_i32_199
  let v347 : BitVec 32 := v346
  let v348 : Index := Scalar.indexCast v347
  ![0, 0, 0, v348.toNat]
def k0_mult87 (k0_t1 : Fin k0_t1_loop.trips) (k0_t5 : Fin (k0_t5_loop k0_t1).trips) : BitVec 32 :=
  let c2_i32_191 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let c0_i32_172 : BitVec 32 := 0#32
  let v309 : BitVec 32 := Scalar.addi v308 c0_i32_172
  let v330 : BitVec 32 := Scalar.muli c2_i32_191 v309
  let c256_i32_214 : BitVec 32 := 256#32
  let v371 : BitVec 32 := Scalar.muli v330 c256_i32_214
  v371
def k0_off24 (k0_t1 : Fin k0_t1_loop.trips) (k0_t5 : Fin (k0_t5_loop k0_t1).trips) (c0_i32_172 : BitVec 32) : Fin 4 → Nat :=
  let c0_215 : Index := 0#32
  let c1_216 : Index := 1#32
  let c0_217 : Index := 0#32
  let c2_i32_191 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let v309 : BitVec 32 := Scalar.addi v308 c0_i32_172
  let v330 : BitVec 32 := Scalar.muli c2_i32_191 v309
  let c256_i32_214 : BitVec 32 := 256#32
  let v371 : BitVec 32 := Scalar.muli v330 c256_i32_214
  let v372 : BitVec 32 := v371
  let v373 : Index := Scalar.indexCast v372
  ![0, 1, 0, v373.toNat]
def k0_mult88 (k0_t1 : Fin k0_t1_loop.trips) (k0_t5 : Fin (k0_t5_loop k0_t1).trips) : BitVec 32 :=
  let c2_i32_222 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_224 : BitVec 32 := 256#32
  let v383 : BitVec 32 := Scalar.muli v382 c256_i32_224
  v383
def k0_mult89 (k0_t1 : Fin k0_t1_loop.trips) (k0_t5 : Fin (k0_t5_loop k0_t1).trips) : BitVec 32 :=
  let c2_i32_222 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_232 : BitVec 32 := 256#32
  let v392 : BitVec 32 := Scalar.muli v382 c256_i32_232
  v392
def k0_mult90 (k0_t1 : Fin k0_t1_loop.trips) (k0_t5 : Fin (k0_t5_loop k0_t1).trips) : BitVec 32 :=
  let c2_i32_240 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  v418
def k0_off25 (k0_t1 : Fin k0_t1_loop.trips) (k0_t5 : Fin (k0_t5_loop k0_t1).trips) (c0_i32_172 : BitVec 32) : Fin 4 → Nat :=
  let c0_250 : Index := 0#32
  let c0_251 : Index := 0#32
  let c0_252 : Index := 0#32
  let c2_i32_240 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  let v419 : BitVec 32 := v418
  let v420 : Index := Scalar.indexCast v419
  ![0, 0, 0, v420.toNat]
def k0_mult91 (k0_t1 : Fin k0_t1_loop.trips) (k0_t5 : Fin (k0_t5_loop k0_t1).trips) : BitVec 32 :=
  let c2_i32_240 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  v443
def k0_off26 (k0_t1 : Fin k0_t1_loop.trips) (k0_t5 : Fin (k0_t5_loop k0_t1).trips) (c0_i32_172 : BitVec 32) : Fin 4 → Nat :=
  let c0_265 : Index := 0#32
  let c1_266 : Index := 1#32
  let c0_267 : Index := 0#32
  let c2_i32_240 : BitVec 32 := 2#32
  let c2_i32_171 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v308 : BitVec 32 := Scalar.muli c2_i32_171 arg10
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  let v444 : BitVec 32 := v443
  let v445 : Index := Scalar.indexCast v444
  ![0, 1, 0, v445.toNat]
def k0_mult92 (k0_t1 : Fin k0_t1_loop.trips) (k0_t5 : Fin (k0_t5_loop k0_t1).trips) : BitVec 32 :=
  let c2_i32_274 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v453 : BitVec 32 := Scalar.muli c2_i32_272 arg10
  let c1_i32_273 : BitVec 32 := 1#32
  let v454 : BitVec 32 := Scalar.addi v453 c1_i32_273
  let v455 : BitVec 32 := Scalar.muli c2_i32_274 v454
  let c1_i32_275 : BitVec 32 := 1#32
  let v456 : BitVec 32 := Scalar.addi v455 c1_i32_275
  let c256_i32_276 : BitVec 32 := 256#32
  let v457 : BitVec 32 := Scalar.muli v456 c256_i32_276
  v457
def k0_mult93 (k0_t1 : Fin k0_t1_loop.trips) (k0_t5 : Fin (k0_t5_loop k0_t1).trips) : BitVec 32 :=
  let c2_i32_274 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v453 : BitVec 32 := Scalar.muli c2_i32_272 arg10
  let c1_i32_273 : BitVec 32 := 1#32
  let v454 : BitVec 32 := Scalar.addi v453 c1_i32_273
  let v455 : BitVec 32 := Scalar.muli c2_i32_274 v454
  let c1_i32_275 : BitVec 32 := 1#32
  let v456 : BitVec 32 := Scalar.addi v455 c1_i32_275
  let c256_i32_284 : BitVec 32 := 256#32
  let v466 : BitVec 32 := Scalar.muli v456 c256_i32_284
  v466
def k0_mult94 (k0_t1 : Fin k0_t1_loop.trips) (k0_t5 : Fin (k0_t5_loop k0_t1).trips) : BitVec 32 :=
  let c2_i32_292 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v453 : BitVec 32 := Scalar.muli c2_i32_272 arg10
  let c1_i32_273 : BitVec 32 := 1#32
  let v454 : BitVec 32 := Scalar.addi v453 c1_i32_273
  let v475 : BitVec 32 := Scalar.muli c2_i32_292 v454
  let c256_i32_300 : BitVec 32 := 256#32
  let v491 : BitVec 32 := Scalar.muli v475 c256_i32_300
  v491
def k0_mult95 (k0_t1 : Fin k0_t1_loop.trips) (k0_t5 : Fin (k0_t5_loop k0_t1).trips) : BitVec 32 :=
  let c2_i32_292 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v453 : BitVec 32 := Scalar.muli c2_i32_272 arg10
  let c1_i32_273 : BitVec 32 := 1#32
  let v454 : BitVec 32 := Scalar.addi v453 c1_i32_273
  let v475 : BitVec 32 := Scalar.muli c2_i32_292 v454
  let c256_i32_315 : BitVec 32 := 256#32
  let v516 : BitVec 32 := Scalar.muli v475 c256_i32_315
  v516
def k0_mult96 (k0_t1 : Fin k0_t1_loop.trips) (k0_t5 : Fin (k0_t5_loop k0_t1).trips) : BitVec 32 :=
  let c2_i32_323 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v453 : BitVec 32 := Scalar.muli c2_i32_272 arg10
  let c1_i32_273 : BitVec 32 := 1#32
  let v454 : BitVec 32 := Scalar.addi v453 c1_i32_273
  let v526 : BitVec 32 := Scalar.muli c2_i32_323 v454
  let c2_i32_324 : BitVec 32 := 2#32
  let v527 : BitVec 32 := Scalar.addi v526 c2_i32_324
  let c256_i32_325 : BitVec 32 := 256#32
  let v528 : BitVec 32 := Scalar.muli v527 c256_i32_325
  v528
def k0_mult97 (k0_t1 : Fin k0_t1_loop.trips) (k0_t5 : Fin (k0_t5_loop k0_t1).trips) : BitVec 32 :=
  let c2_i32_323 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v453 : BitVec 32 := Scalar.muli c2_i32_272 arg10
  let c1_i32_273 : BitVec 32 := 1#32
  let v454 : BitVec 32 := Scalar.addi v453 c1_i32_273
  let v526 : BitVec 32 := Scalar.muli c2_i32_323 v454
  let c2_i32_324 : BitVec 32 := 2#32
  let v527 : BitVec 32 := Scalar.addi v526 c2_i32_324
  let c256_i32_333 : BitVec 32 := 256#32
  let v537 : BitVec 32 := Scalar.muli v527 c256_i32_333
  v537
def k0_mult98 (k0_t1 : Fin k0_t1_loop.trips) (k0_t5 : Fin (k0_t5_loop k0_t1).trips) : BitVec 32 :=
  let c2_i32_341 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v453 : BitVec 32 := Scalar.muli c2_i32_272 arg10
  let c1_i32_273 : BitVec 32 := 1#32
  let v454 : BitVec 32 := Scalar.addi v453 c1_i32_273
  let v546 : BitVec 32 := Scalar.muli c2_i32_341 v454
  let c1_i32_342 : BitVec 32 := 1#32
  let v547 : BitVec 32 := Scalar.addi v546 c1_i32_342
  let c256_i32_350 : BitVec 32 := 256#32
  let v563 : BitVec 32 := Scalar.muli v547 c256_i32_350
  v563
def k0_mult99 (k0_t1 : Fin k0_t1_loop.trips) (k0_t5 : Fin (k0_t5_loop k0_t1).trips) : BitVec 32 :=
  let c2_i32_341 : BitVec 32 := 2#32
  let c2_i32_272 : BitVec 32 := 2#32
  let c0_i32 : BitVec 32 := 0#32
  let c1_i32 : BitVec 32 := 1#32
  let arg9 : BitVec 32 := Scf.iv c0_i32 c1_i32 k0_t1
  let c0_i32_35 : BitVec 32 := 0#32
  let v55 : BitVec 1 := Scalar.cmpi .sgt arg9 c0_i32_35
  let v56 : BitVec 32 := Scalar.extui v55
  let c0_i32_36 : BitVec 32 := 0#32
  let v57 : BitVec 1 := Scalar.cmpi .slt arg9 c0_i32_36
  let v58 : BitVec 32 := Scalar.extui v57
  let v59 : BitVec 32 := Scalar.subi v56 v58
  let c4_i32_34 : BitVec 32 := 4#32
  let c0_i32_37 : BitVec 32 := 0#32
  let v60 : BitVec 1 := Scalar.cmpi .sgt c4_i32_34 c0_i32_37
  let v61 : BitVec 32 := Scalar.extui v60
  let c0_i32_38 : BitVec 32 := 0#32
  let v62 : BitVec 1 := Scalar.cmpi .slt c4_i32_34 c0_i32_38
  let v63 : BitVec 32 := Scalar.extui v62
  let v64 : BitVec 32 := Scalar.subi v61 v63
  let v65 : BitVec 1 := Scalar.cmpi .ne v59 v64
  let v66 : BitVec 32 := Scalar.remsi arg9 c4_i32_34
  let c0_i32_39 : BitVec 32 := 0#32
  let v67 : BitVec 1 := Scalar.cmpi .ne v66 c0_i32_39
  let v68 : BitVec 1 := Scalar.andi v65 v67
  let v54 : BitVec 32 := Scalar.divsi arg9 c4_i32_34
  let c1_i32_40 : BitVec 32 := 1#32
  let v69 : BitVec 32 := Scalar.subi v54 c1_i32_40
  let v70 : BitVec 32 := Scalar.select v68 v69 v54
  let c2_i32 : BitVec 32 := 2#32
  let v71 : BitVec 32 := Scalar.muli v70 c2_i32
  let c0_i32_42 : BitVec 32 := 0#32
  let v73 : BitVec 1 := Scalar.cmpi .sgt arg9 c0_i32_42
  let v74 : BitVec 32 := Scalar.extui v73
  let c0_i32_43 : BitVec 32 := 0#32
  let v75 : BitVec 1 := Scalar.cmpi .slt arg9 c0_i32_43
  let v76 : BitVec 32 := Scalar.extui v75
  let v77 : BitVec 32 := Scalar.subi v74 v76
  let c2_i32_41 : BitVec 32 := 2#32
  let c0_i32_44 : BitVec 32 := 0#32
  let v78 : BitVec 1 := Scalar.cmpi .sgt c2_i32_41 c0_i32_44
  let v79 : BitVec 32 := Scalar.extui v78
  let c0_i32_45 : BitVec 32 := 0#32
  let v80 : BitVec 1 := Scalar.cmpi .slt c2_i32_41 c0_i32_45
  let v81 : BitVec 32 := Scalar.extui v80
  let v82 : BitVec 32 := Scalar.subi v79 v81
  let v83 : BitVec 1 := Scalar.cmpi .ne v77 v82
  let v84 : BitVec 32 := Scalar.remsi arg9 c2_i32_41
  let c0_i32_46 : BitVec 32 := 0#32
  let v85 : BitVec 1 := Scalar.cmpi .ne v84 c0_i32_46
  let v86 : BitVec 1 := Scalar.andi v83 v85
  let v72 : BitVec 32 := Scalar.divsi arg9 c2_i32_41
  let c1_i32_47 : BitVec 32 := 1#32
  let v87 : BitVec 32 := Scalar.subi v72 c1_i32_47
  let v88 : BitVec 32 := Scalar.select v86 v87 v72
  let v89 : BitVec 32 := Scalar.subi v88 v71
  let c1_i32_48 : BitVec 32 := 1#32
  let v91 : BitVec 32 := Scalar.divsi v89 c1_i32_48
  let v92 : BitVec 32 := Scalar.muli v91 c1_i32_48
  let v93 : BitVec 32 := Scalar.addi v71 v92
  let c1_i32_50 : BitVec 32 := 1#32
  let arg10 : BitVec 32 := Scf.iv v93 c1_i32_50 k0_t5
  let v453 : BitVec 32 := Scalar.muli c2_i32_272 arg10
  let c1_i32_273 : BitVec 32 := 1#32
  let v454 : BitVec 32 := Scalar.addi v453 c1_i32_273
  let v546 : BitVec 32 := Scalar.muli c2_i32_341 v454
  let c1_i32_342 : BitVec 32 := 1#32
  let v547 : BitVec 32 := Scalar.addi v546 c1_i32_342
  let c256_i32_365 : BitVec 32 := 256#32
  let v588 : BitVec 32 := Scalar.muli v547 c256_i32_365
  v588
@[reducible] def k0_t6_loop (k0_t1 : Fin k0_t1_loop.trips) : Scf.Loop 32 :=
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_67 : BitVec 32 := 1#32
  ⟨v113, v135, c1_i32_67⟩
def k0_mult100 (k0_t1 : Fin k0_t1_loop.trips) (k0_t6 : Fin (k0_t6_loop k0_t1).trips) : BitVec 32 :=
  let c2_i32_173 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_175 : BitVec 32 := 256#32
  let v312 : BitVec 32 := Scalar.muli v311 c256_i32_175
  v312
def k0_off27 (k0_t1 : Fin k0_t1_loop.trips) (k0_t6 : Fin (k0_t6_loop k0_t1).trips) (c1_i32_174 : BitVec 32) : Fin 4 → Nat :=
  let c0_176 : Index := 0#32
  let c0_177 : Index := 0#32
  let c2_i32_173 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v310 : BitVec 32 := Scalar.muli c2_i32_173 v309
  let v311 : BitVec 32 := Scalar.addi v310 c1_i32_174
  let c256_i32_175 : BitVec 32 := 256#32
  let v312 : BitVec 32 := Scalar.muli v311 c256_i32_175
  let v313 : BitVec 32 := v312
  let v314 : Index := Scalar.indexCast v313
  let c0_178 : Index := 0#32
  ![0, 0, v314.toNat, 0]
def k0_mult101 (k0_t1 : Fin k0_t1_loop.trips) (k0_t6 : Fin (k0_t6_loop k0_t1).trips) : BitVec 32 :=
  let c2_i32_173 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_183 : BitVec 32 := 256#32
  let v321 : BitVec 32 := Scalar.muli v311 c256_i32_183
  v321
def k0_off28 (k0_t1 : Fin k0_t1_loop.trips) (k0_t6 : Fin (k0_t6_loop k0_t1).trips) (c1_i32_174 : BitVec 32) : Fin 4 → Nat :=
  let c0_184 : Index := 0#32
  let c0_185 : Index := 0#32
  let c2_i32_173 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v310 : BitVec 32 := Scalar.muli c2_i32_173 v309
  let v311 : BitVec 32 := Scalar.addi v310 c1_i32_174
  let c256_i32_183 : BitVec 32 := 256#32
  let v321 : BitVec 32 := Scalar.muli v311 c256_i32_183
  let v322 : BitVec 32 := v321
  let v323 : Index := Scalar.indexCast v322
  let c128_186 : Index := 128#32
  ![0, 0, v323.toNat, 128]
def k0_mult102 (k0_t1 : Fin k0_t1_loop.trips) (k0_t6 : Fin (k0_t6_loop k0_t1).trips) : BitVec 32 :=
  let c2_i32_191 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v330 : BitVec 32 := Scalar.muli c2_i32_191 v309
  let c256_i32_199 : BitVec 32 := 256#32
  let v346 : BitVec 32 := Scalar.muli v330 c256_i32_199
  v346
def k0_off29 (k0_t1 : Fin k0_t1_loop.trips) (k0_t6 : Fin (k0_t6_loop k0_t1).trips) : Fin 4 → Nat :=
  let c0_200 : Index := 0#32
  let c0_201 : Index := 0#32
  let c0_202 : Index := 0#32
  let c2_i32_191 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v330 : BitVec 32 := Scalar.muli c2_i32_191 v309
  let c256_i32_199 : BitVec 32 := 256#32
  let v346 : BitVec 32 := Scalar.muli v330 c256_i32_199
  let v347 : BitVec 32 := v346
  let v348 : Index := Scalar.indexCast v347
  ![0, 0, 0, v348.toNat]
def k0_mult103 (k0_t1 : Fin k0_t1_loop.trips) (k0_t6 : Fin (k0_t6_loop k0_t1).trips) : BitVec 32 :=
  let c2_i32_191 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v330 : BitVec 32 := Scalar.muli c2_i32_191 v309
  let c256_i32_214 : BitVec 32 := 256#32
  let v371 : BitVec 32 := Scalar.muli v330 c256_i32_214
  v371
def k0_off30 (k0_t1 : Fin k0_t1_loop.trips) (k0_t6 : Fin (k0_t6_loop k0_t1).trips) : Fin 4 → Nat :=
  let c0_215 : Index := 0#32
  let c1_216 : Index := 1#32
  let c0_217 : Index := 0#32
  let c2_i32_191 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v330 : BitVec 32 := Scalar.muli c2_i32_191 v309
  let c256_i32_214 : BitVec 32 := 256#32
  let v371 : BitVec 32 := Scalar.muli v330 c256_i32_214
  let v372 : BitVec 32 := v371
  let v373 : Index := Scalar.indexCast v372
  ![0, 1, 0, v373.toNat]
def k0_mult104 (k0_t1 : Fin k0_t1_loop.trips) (k0_t6 : Fin (k0_t6_loop k0_t1).trips) : BitVec 32 :=
  let c2_i32_222 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_224 : BitVec 32 := 256#32
  let v383 : BitVec 32 := Scalar.muli v382 c256_i32_224
  v383
def k0_mult105 (k0_t1 : Fin k0_t1_loop.trips) (k0_t6 : Fin (k0_t6_loop k0_t1).trips) : BitVec 32 :=
  let c2_i32_222 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_232 : BitVec 32 := 256#32
  let v392 : BitVec 32 := Scalar.muli v382 c256_i32_232
  v392
def k0_mult106 (k0_t1 : Fin k0_t1_loop.trips) (k0_t6 : Fin (k0_t6_loop k0_t1).trips) : BitVec 32 :=
  let c2_i32_240 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  v418
def k0_off31 (k0_t1 : Fin k0_t1_loop.trips) (k0_t6 : Fin (k0_t6_loop k0_t1).trips) : Fin 4 → Nat :=
  let c0_250 : Index := 0#32
  let c0_251 : Index := 0#32
  let c0_252 : Index := 0#32
  let c2_i32_240 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  let v419 : BitVec 32 := v418
  let v420 : Index := Scalar.indexCast v419
  ![0, 0, 0, v420.toNat]
def k0_mult107 (k0_t1 : Fin k0_t1_loop.trips) (k0_t6 : Fin (k0_t6_loop k0_t1).trips) : BitVec 32 :=
  let c2_i32_240 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  v443
def k0_off32 (k0_t1 : Fin k0_t1_loop.trips) (k0_t6 : Fin (k0_t6_loop k0_t1).trips) : Fin 4 → Nat :=
  let c0_265 : Index := 0#32
  let c1_266 : Index := 1#32
  let c0_267 : Index := 0#32
  let c2_i32_240 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c1_i32_67 : BitVec 32 := 1#32
  let arg10 : BitVec 32 := Scf.iv v113 c1_i32_67 k0_t6
  let v308 : BitVec 32 := Scalar.muli c1_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  let v444 : BitVec 32 := v443
  let v445 : Index := Scalar.indexCast v444
  ![0, 1, 0, v445.toNat]
@[reducible] def k0_t7_loop (k0_t1 : Fin k0_t1_loop.trips) : Scf.Loop 32 :=
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let v132 : BitVec 32 := Scalar.addi v113 v131
  let c1_i32_68 : BitVec 32 := 1#32
  ⟨v135, v132, c1_i32_68⟩
def k0_mult108 (k0_t1 : Fin k0_t1_loop.trips) (k0_t7 : Fin (k0_t7_loop k0_t1).trips) : BitVec 32 :=
  let c2_i32_173 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_175 : BitVec 32 := 256#32
  let v312 : BitVec 32 := Scalar.muli v311 c256_i32_175
  v312
def k0_off33 (k0_t1 : Fin k0_t1_loop.trips) (k0_t7 : Fin (k0_t7_loop k0_t1).trips) (c1_i32_174 : BitVec 32) : Fin 4 → Nat :=
  let c0_176 : Index := 0#32
  let c0_177 : Index := 0#32
  let c2_i32_173 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v310 : BitVec 32 := Scalar.muli c2_i32_173 v309
  let v311 : BitVec 32 := Scalar.addi v310 c1_i32_174
  let c256_i32_175 : BitVec 32 := 256#32
  let v312 : BitVec 32 := Scalar.muli v311 c256_i32_175
  let v313 : BitVec 32 := v312
  let v314 : Index := Scalar.indexCast v313
  let c0_178 : Index := 0#32
  ![0, 0, v314.toNat, 0]
def k0_mult109 (k0_t1 : Fin k0_t1_loop.trips) (k0_t7 : Fin (k0_t7_loop k0_t1).trips) : BitVec 32 :=
  let c2_i32_173 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v310 : BitVec 32 := Scalar.muli c2_i32_173 v309
  let c1_i32_174 : BitVec 32 := 1#32
  let v311 : BitVec 32 := Scalar.addi v310 c1_i32_174
  let c256_i32_183 : BitVec 32 := 256#32
  let v321 : BitVec 32 := Scalar.muli v311 c256_i32_183
  v321
def k0_off34 (k0_t1 : Fin k0_t1_loop.trips) (k0_t7 : Fin (k0_t7_loop k0_t1).trips) (c1_i32_174 : BitVec 32) : Fin 4 → Nat :=
  let c0_184 : Index := 0#32
  let c0_185 : Index := 0#32
  let c2_i32_173 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v310 : BitVec 32 := Scalar.muli c2_i32_173 v309
  let v311 : BitVec 32 := Scalar.addi v310 c1_i32_174
  let c256_i32_183 : BitVec 32 := 256#32
  let v321 : BitVec 32 := Scalar.muli v311 c256_i32_183
  let v322 : BitVec 32 := v321
  let v323 : Index := Scalar.indexCast v322
  let c128_186 : Index := 128#32
  ![0, 0, v323.toNat, 128]
def k0_mult110 (k0_t1 : Fin k0_t1_loop.trips) (k0_t7 : Fin (k0_t7_loop k0_t1).trips) : BitVec 32 :=
  let c2_i32_191 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v330 : BitVec 32 := Scalar.muli c2_i32_191 v309
  let c256_i32_199 : BitVec 32 := 256#32
  let v346 : BitVec 32 := Scalar.muli v330 c256_i32_199
  v346
def k0_off35 (k0_t1 : Fin k0_t1_loop.trips) (k0_t7 : Fin (k0_t7_loop k0_t1).trips) : Fin 4 → Nat :=
  let c0_200 : Index := 0#32
  let c0_201 : Index := 0#32
  let c0_202 : Index := 0#32
  let c2_i32_191 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v330 : BitVec 32 := Scalar.muli c2_i32_191 v309
  let c256_i32_199 : BitVec 32 := 256#32
  let v346 : BitVec 32 := Scalar.muli v330 c256_i32_199
  let v347 : BitVec 32 := v346
  let v348 : Index := Scalar.indexCast v347
  ![0, 0, 0, v348.toNat]
def k0_mult111 (k0_t1 : Fin k0_t1_loop.trips) (k0_t7 : Fin (k0_t7_loop k0_t1).trips) : BitVec 32 :=
  let c2_i32_191 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v330 : BitVec 32 := Scalar.muli c2_i32_191 v309
  let c256_i32_214 : BitVec 32 := 256#32
  let v371 : BitVec 32 := Scalar.muli v330 c256_i32_214
  v371
def k0_off36 (k0_t1 : Fin k0_t1_loop.trips) (k0_t7 : Fin (k0_t7_loop k0_t1).trips) : Fin 4 → Nat :=
  let c0_215 : Index := 0#32
  let c1_216 : Index := 1#32
  let c0_217 : Index := 0#32
  let c2_i32_191 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v330 : BitVec 32 := Scalar.muli c2_i32_191 v309
  let c256_i32_214 : BitVec 32 := 256#32
  let v371 : BitVec 32 := Scalar.muli v330 c256_i32_214
  let v372 : BitVec 32 := v371
  let v373 : Index := Scalar.indexCast v372
  ![0, 1, 0, v373.toNat]
def k0_mult112 (k0_t1 : Fin k0_t1_loop.trips) (k0_t7 : Fin (k0_t7_loop k0_t1).trips) : BitVec 32 :=
  let c2_i32_222 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_224 : BitVec 32 := 256#32
  let v383 : BitVec 32 := Scalar.muli v382 c256_i32_224
  v383
def k0_mult113 (k0_t1 : Fin k0_t1_loop.trips) (k0_t7 : Fin (k0_t7_loop k0_t1).trips) : BitVec 32 :=
  let c2_i32_222 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v381 : BitVec 32 := Scalar.muli c2_i32_222 v309
  let c2_i32_223 : BitVec 32 := 2#32
  let v382 : BitVec 32 := Scalar.addi v381 c2_i32_223
  let c256_i32_232 : BitVec 32 := 256#32
  let v392 : BitVec 32 := Scalar.muli v382 c256_i32_232
  v392
def k0_mult114 (k0_t1 : Fin k0_t1_loop.trips) (k0_t7 : Fin (k0_t7_loop k0_t1).trips) : BitVec 32 :=
  let c2_i32_240 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  v418
def k0_off37 (k0_t1 : Fin k0_t1_loop.trips) (k0_t7 : Fin (k0_t7_loop k0_t1).trips) : Fin 4 → Nat :=
  let c0_250 : Index := 0#32
  let c0_251 : Index := 0#32
  let c0_252 : Index := 0#32
  let c2_i32_240 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_249 : BitVec 32 := 256#32
  let v418 : BitVec 32 := Scalar.muli v402 c256_i32_249
  let v419 : BitVec 32 := v418
  let v420 : Index := Scalar.indexCast v419
  ![0, 0, 0, v420.toNat]
def k0_mult115 (k0_t1 : Fin k0_t1_loop.trips) (k0_t7 : Fin (k0_t7_loop k0_t1).trips) : BitVec 32 :=
  let c2_i32_240 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  v443
def k0_off38 (k0_t1 : Fin k0_t1_loop.trips) (k0_t7 : Fin (k0_t7_loop k0_t1).trips) : Fin 4 → Nat :=
  let c0_265 : Index := 0#32
  let c1_266 : Index := 1#32
  let c0_267 : Index := 0#32
  let c2_i32_240 : BitVec 32 := 2#32
  let c1_i32_171 : BitVec 32 := 1#32
  let c0_i32 : BitVec 32 := 0#32
  let c1_i32 : BitVec 32 := 1#32
  let arg9 : BitVec 32 := Scf.iv c0_i32 c1_i32 k0_t1
  let c0_i32_52 : BitVec 32 := 0#32
  let v97 : BitVec 1 := Scalar.cmpi .sgt arg9 c0_i32_52
  let v98 : BitVec 32 := Scalar.extui v97
  let c0_i32_53 : BitVec 32 := 0#32
  let v99 : BitVec 1 := Scalar.cmpi .slt arg9 c0_i32_53
  let v100 : BitVec 32 := Scalar.extui v99
  let v101 : BitVec 32 := Scalar.subi v98 v100
  let c2_i32_51 : BitVec 32 := 2#32
  let c0_i32_54 : BitVec 32 := 0#32
  let v102 : BitVec 1 := Scalar.cmpi .sgt c2_i32_51 c0_i32_54
  let v103 : BitVec 32 := Scalar.extui v102
  let c0_i32_55 : BitVec 32 := 0#32
  let v104 : BitVec 1 := Scalar.cmpi .slt c2_i32_51 c0_i32_55
  let v105 : BitVec 32 := Scalar.extui v104
  let v106 : BitVec 32 := Scalar.subi v103 v105
  let v107 : BitVec 1 := Scalar.cmpi .ne v101 v106
  let v108 : BitVec 32 := Scalar.remsi arg9 c2_i32_51
  let c0_i32_56 : BitVec 32 := 0#32
  let v109 : BitVec 1 := Scalar.cmpi .ne v108 c0_i32_56
  let v110 : BitVec 1 := Scalar.andi v107 v109
  let v96 : BitVec 32 := Scalar.divsi arg9 c2_i32_51
  let c1_i32_57 : BitVec 32 := 1#32
  let v111 : BitVec 32 := Scalar.subi v96 c1_i32_57
  let v112 : BitVec 32 := Scalar.select v110 v111 v96
  let c2_i32_58 : BitVec 32 := 2#32
  let v113 : BitVec 32 := Scalar.muli v112 c2_i32_58
  let c0_i32_60 : BitVec 32 := 0#32
  let v115 : BitVec 1 := Scalar.cmpi .sgt arg9 c0_i32_60
  let v116 : BitVec 32 := Scalar.extui v115
  let c0_i32_61 : BitVec 32 := 0#32
  let v117 : BitVec 1 := Scalar.cmpi .slt arg9 c0_i32_61
  let v118 : BitVec 32 := Scalar.extui v117
  let v119 : BitVec 32 := Scalar.subi v116 v118
  let c1_i32_59 : BitVec 32 := 1#32
  let c0_i32_62 : BitVec 32 := 0#32
  let v120 : BitVec 1 := Scalar.cmpi .sgt c1_i32_59 c0_i32_62
  let v121 : BitVec 32 := Scalar.extui v120
  let c0_i32_63 : BitVec 32 := 0#32
  let v122 : BitVec 1 := Scalar.cmpi .slt c1_i32_59 c0_i32_63
  let v123 : BitVec 32 := Scalar.extui v122
  let v124 : BitVec 32 := Scalar.subi v121 v123
  let v125 : BitVec 1 := Scalar.cmpi .ne v119 v124
  let v126 : BitVec 32 := Scalar.remsi arg9 c1_i32_59
  let c0_i32_64 : BitVec 32 := 0#32
  let v127 : BitVec 1 := Scalar.cmpi .ne v126 c0_i32_64
  let v128 : BitVec 1 := Scalar.andi v125 v127
  let v114 : BitVec 32 := Scalar.divsi arg9 c1_i32_59
  let c1_i32_65 : BitVec 32 := 1#32
  let v129 : BitVec 32 := Scalar.subi v114 c1_i32_65
  let v130 : BitVec 32 := Scalar.select v128 v129 v114
  let v131 : BitVec 32 := Scalar.subi v130 v113
  let c1_i32_66 : BitVec 32 := 1#32
  let v133 : BitVec 32 := Scalar.divsi v131 c1_i32_66
  let v134 : BitVec 32 := Scalar.muli v133 c1_i32_66
  let v135 : BitVec 32 := Scalar.addi v113 v134
  let c1_i32_68 : BitVec 32 := 1#32
  let arg10 : BitVec 32 := Scf.iv v135 c1_i32_68 k0_t7
  let v308 : BitVec 32 := Scalar.muli c1_i32_171 arg10
  let c0_i32_172 : BitVec 32 := 0#32
  let v309 : BitVec 32 := Scalar.addi v308 c0_i32_172
  let v401 : BitVec 32 := Scalar.muli c2_i32_240 v309
  let c1_i32_241 : BitVec 32 := 1#32
  let v402 : BitVec 32 := Scalar.addi v401 c1_i32_241
  let c256_i32_264 : BitVec 32 := 256#32
  let v443 : BitVec 32 := Scalar.muli v402 c256_i32_264
  let v444 : BitVec 32 := v443
  let v445 : Index := Scalar.indexCast v444
  ![0, 1, 0, v445.toNat]
def k0_mult116 (k0_t1 : Fin k0_t1_loop.trips) : BitVec 32 :=
  let c2_i32_69 : BitVec 32 := 2#32
  let c0_i32 : BitVec 32 := 0#32
  let c1_i32 : BitVec 32 := 1#32
  let arg9 : BitVec 32 := Scf.iv c0_i32 c1_i32 k0_t1
  let v138 : BitVec 32 := Scalar.muli c2_i32_69 arg9
  let c1_i32_70 : BitVec 32 := 1#32
  let v139 : BitVec 32 := Scalar.addi v138 c1_i32_70
  let c256_i32 : BitVec 32 := 256#32
  let v140 : BitVec 32 := Scalar.muli v139 c256_i32
  v140
def k0_off39 (k0_t1 : Fin k0_t1_loop.trips) : Fin 4 → Nat :=
  let c0_71 : Index := 0#32
  let c0_72 : Index := 0#32
  let c2_i32_69 : BitVec 32 := 2#32
  let c0_i32 : BitVec 32 := 0#32
  let c1_i32 : BitVec 32 := 1#32
  let arg9 : BitVec 32 := Scf.iv c0_i32 c1_i32 k0_t1
  let v138 : BitVec 32 := Scalar.muli c2_i32_69 arg9
  let c1_i32_70 : BitVec 32 := 1#32
  let v139 : BitVec 32 := Scalar.addi v138 c1_i32_70
  let c256_i32 : BitVec 32 := 256#32
  let v140 : BitVec 32 := Scalar.muli v139 c256_i32
  let v141 : BitVec 32 := v140
  let v142 : Index := Scalar.indexCast v141
  let c0_73 : Index := 0#32
  ![0, 0, v142.toNat, 0]
def k0_mult117 (k0_t1 : Fin k0_t1_loop.trips) : BitVec 32 :=
  let c2_i32_69 : BitVec 32 := 2#32
  let c0_i32 : BitVec 32 := 0#32
  let c1_i32 : BitVec 32 := 1#32
  let arg9 : BitVec 32 := Scf.iv c0_i32 c1_i32 k0_t1
  let v138 : BitVec 32 := Scalar.muli c2_i32_69 arg9
  let c1_i32_70 : BitVec 32 := 1#32
  let v139 : BitVec 32 := Scalar.addi v138 c1_i32_70
  let c256_i32_78 : BitVec 32 := 256#32
  let v149 : BitVec 32 := Scalar.muli v139 c256_i32_78
  v149
def k0_off40 (k0_t1 : Fin k0_t1_loop.trips) : Fin 4 → Nat :=
  let c0_79 : Index := 0#32
  let c0_80 : Index := 0#32
  let c2_i32_69 : BitVec 32 := 2#32
  let c0_i32 : BitVec 32 := 0#32
  let c1_i32 : BitVec 32 := 1#32
  let arg9 : BitVec 32 := Scf.iv c0_i32 c1_i32 k0_t1
  let v138 : BitVec 32 := Scalar.muli c2_i32_69 arg9
  let c1_i32_70 : BitVec 32 := 1#32
  let v139 : BitVec 32 := Scalar.addi v138 c1_i32_70
  let c256_i32_78 : BitVec 32 := 256#32
  let v149 : BitVec 32 := Scalar.muli v139 c256_i32_78
  let v150 : BitVec 32 := v149
  let v151 : Index := Scalar.indexCast v150
  let c128_81 : Index := 128#32
  ![0, 0, v151.toNat, 128]
def k0_mult118 (k0_t1 : Fin k0_t1_loop.trips) : BitVec 32 :=
  let c2_i32_86 : BitVec 32 := 2#32
  let c0_i32 : BitVec 32 := 0#32
  let c1_i32 : BitVec 32 := 1#32
  let arg9 : BitVec 32 := Scf.iv c0_i32 c1_i32 k0_t1
  let v158 : BitVec 32 := Scalar.muli c2_i32_86 arg9
  let c256_i32_96 : BitVec 32 := 256#32
  let v181 : BitVec 32 := Scalar.muli v158 c256_i32_96
  v181
def k0_off41 (k0_t1 : Fin k0_t1_loop.trips) : Fin 4 → Nat :=
  let c0_97 : Index := 0#32
  let c0_98 : Index := 0#32
  let c0_99 : Index := 0#32
  let c2_i32_86 : BitVec 32 := 2#32
  let c0_i32 : BitVec 32 := 0#32
  let c1_i32 : BitVec 32 := 1#32
  let arg9 : BitVec 32 := Scf.iv c0_i32 c1_i32 k0_t1
  let v158 : BitVec 32 := Scalar.muli c2_i32_86 arg9
  let c256_i32_96 : BitVec 32 := 256#32
  let v181 : BitVec 32 := Scalar.muli v158 c256_i32_96
  let v182 : BitVec 32 := v181
  let v183 : Index := Scalar.indexCast v182
  ![0, 0, 0, v183.toNat]
def k0_mult119 (k0_t1 : Fin k0_t1_loop.trips) : BitVec 32 :=
  let c2_i32_86 : BitVec 32 := 2#32
  let c0_i32 : BitVec 32 := 0#32
  let c1_i32 : BitVec 32 := 1#32
  let arg9 : BitVec 32 := Scf.iv c0_i32 c1_i32 k0_t1
  let v158 : BitVec 32 := Scalar.muli c2_i32_86 arg9
  let c256_i32_113 : BitVec 32 := 256#32
  let v213 : BitVec 32 := Scalar.muli v158 c256_i32_113
  v213
def k0_off42 (k0_t1 : Fin k0_t1_loop.trips) : Fin 4 → Nat :=
  let c0_114 : Index := 0#32
  let c1_115 : Index := 1#32
  let c0_116 : Index := 0#32
  let c2_i32_86 : BitVec 32 := 2#32
  let c0_i32 : BitVec 32 := 0#32
  let c1_i32 : BitVec 32 := 1#32
  let arg9 : BitVec 32 := Scf.iv c0_i32 c1_i32 k0_t1
  let v158 : BitVec 32 := Scalar.muli c2_i32_86 arg9
  let c256_i32_113 : BitVec 32 := 256#32
  let v213 : BitVec 32 := Scalar.muli v158 c256_i32_113
  let v214 : BitVec 32 := v213
  let v215 : Index := Scalar.indexCast v214
  ![0, 1, 0, v215.toNat]
def k0_mult120 (k0_t1 : Fin k0_t1_loop.trips) : BitVec 32 :=
  let c2_i32_121 : BitVec 32 := 2#32
  let c0_i32 : BitVec 32 := 0#32
  let c1_i32 : BitVec 32 := 1#32
  let arg9 : BitVec 32 := Scf.iv c0_i32 c1_i32 k0_t1
  let v223 : BitVec 32 := Scalar.muli c2_i32_121 arg9
  let c1_i32_122 : BitVec 32 := 1#32
  let v224 : BitVec 32 := Scalar.addi v223 c1_i32_122
  let c256_i32_132 : BitVec 32 := 256#32
  let v247 : BitVec 32 := Scalar.muli v224 c256_i32_132
  v247
def k0_off43 (k0_t1 : Fin k0_t1_loop.trips) : Fin 4 → Nat :=
  let c0_133 : Index := 0#32
  let c0_134 : Index := 0#32
  let c0_135 : Index := 0#32
  let c2_i32_121 : BitVec 32 := 2#32
  let c0_i32 : BitVec 32 := 0#32
  let c1_i32 : BitVec 32 := 1#32
  let arg9 : BitVec 32 := Scf.iv c0_i32 c1_i32 k0_t1
  let v223 : BitVec 32 := Scalar.muli c2_i32_121 arg9
  let c1_i32_122 : BitVec 32 := 1#32
  let v224 : BitVec 32 := Scalar.addi v223 c1_i32_122
  let c256_i32_132 : BitVec 32 := 256#32
  let v247 : BitVec 32 := Scalar.muli v224 c256_i32_132
  let v248 : BitVec 32 := v247
  let v249 : Index := Scalar.indexCast v248
  ![0, 0, 0, v249.toNat]
def k0_mult121 (k0_t1 : Fin k0_t1_loop.trips) : BitVec 32 :=
  let c2_i32_121 : BitVec 32 := 2#32
  let c0_i32 : BitVec 32 := 0#32
  let c1_i32 : BitVec 32 := 1#32
  let arg9 : BitVec 32 := Scf.iv c0_i32 c1_i32 k0_t1
  let v223 : BitVec 32 := Scalar.muli c2_i32_121 arg9
  let c1_i32_122 : BitVec 32 := 1#32
  let v224 : BitVec 32 := Scalar.addi v223 c1_i32_122
  let c256_i32_149 : BitVec 32 := 256#32
  let v279 : BitVec 32 := Scalar.muli v224 c256_i32_149
  v279
def k0_off44 (k0_t1 : Fin k0_t1_loop.trips) : Fin 4 → Nat :=
  let c0_150 : Index := 0#32
  let c1_151 : Index := 1#32
  let c0_152 : Index := 0#32
  let c2_i32_121 : BitVec 32 := 2#32
  let c0_i32 : BitVec 32 := 0#32
  let c1_i32 : BitVec 32 := 1#32
  let arg9 : BitVec 32 := Scf.iv c0_i32 c1_i32 k0_t1
  let v223 : BitVec 32 := Scalar.muli c2_i32_121 arg9
  let c1_i32_122 : BitVec 32 := 1#32
  let v224 : BitVec 32 := Scalar.addi v223 c1_i32_122
  let c256_i32_149 : BitVec 32 := 256#32
  let v279 : BitVec 32 := Scalar.muli v224 c256_i32_149
  let v280 : BitVec 32 := v279
  let v281 : Index := Scalar.indexCast v280
  ![0, 1, 0, v281.toNat]
def k0_off45 (k0_t1 : Fin k0_t1_loop.trips) : Fin 4 → Nat :=
  let c0_168 : Index := 0#32
  let c0_169 : Index := 0#32
  let c0_i32 : BitVec 32 := 0#32
  let c1_i32 : BitVec 32 := 1#32
  let arg9 : BitVec 32 := Scf.iv c0_i32 c1_i32 k0_t1
  let c512_i32 : BitVec 32 := 512#32
  let v1 : BitVec 32 := Scalar.muli arg9 c512_i32
  let v2 : BitVec 32 := v1
  let v304 : Index := Scalar.indexCast v2
  let c0_170 : Index := 0#32
  ![0, 0, v304.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x80x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x8192x16x64 : Shape := ⟨4, ![4, 8192, 16, 64]⟩
abbrev S4x16x8192 : Shape := ⟨3, ![4, 16, 8192]⟩
abbrev S4x16x8192x8192 : Shape := ⟨4, ![4, 16, 8192, 8192]⟩
abbrev S_ : Shape := ⟨0, ![]⟩
abbrev S4x16x8192x1 : Shape := ⟨4, ![4, 16, 8192, 1]⟩
abbrev S4x16x1x8192 : Shape := ⟨4, ![4, 16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x16x64x8192 : Shape := ⟨4, ![4, 16, 64, 8192]⟩
abbrev S4x8192x8x128 : Shape := ⟨4, ![4, 8192, 8, 128]⟩
abbrev S4x8x8192x128 : Shape := ⟨4, ![4, 8, 8192, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x16x64, .f32⟩
  | .hbm, ⟨2, _⟩ => ⟨S4x8192x16x64, .f32⟩
  | .hbm, ⟨3, _⟩ => ⟨S4x16x8192, .f32⟩
  | .hbm, ⟨4, _⟩ => ⟨S4x16x8192x8192, .f32⟩
  | .hbm, ⟨5, _⟩ => ⟨S_, .f32⟩
  | .hbm, ⟨6, _⟩ => ⟨S4x16x8192x8192, .f32⟩
  | .hbm, ⟨7, _⟩ => ⟨S4x16x8192x8192, .f32⟩
  | .hbm, ⟨8, _⟩ => ⟨S4x16x8192x1, .f32⟩
  | .hbm, ⟨9, _⟩ => ⟨S4x16x8192x8192, .f32⟩
  | .hbm, ⟨10, _⟩ => ⟨S4x16x8192x8192, .f32⟩
  | .hbm, ⟨11, _⟩ => ⟨S4x16x1x8192, .f32⟩
  | .hbm, ⟨12, _⟩ => ⟨S4x16x8192x8192, .f32⟩
  | .hbm, ⟨13, _⟩ => ⟨S4x16x8192x8192, .f32⟩
  | .hbm, ⟨14, _⟩ => ⟨S8192, .i32⟩
  | .hbm, ⟨15, _⟩ => ⟨S8192x1, .i32⟩
  | .hbm, ⟨16, _⟩ => ⟨S8192, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S4x16x8192x8192, .i1⟩
  | .hbm, ⟨24, _⟩ => ⟨S4x16x8192x8192, .f32⟩
  | .hbm, ⟨25, _⟩ => ⟨S4x16x8192x8192, .f32⟩
  | .hbm, ⟨26, _⟩ => ⟨S_, .f32⟩
  | .hbm, ⟨27, _⟩ => ⟨S4x16x8192, .f32⟩
  | .hbm, ⟨28, _⟩ => ⟨S_, .f32⟩
  | .hbm, ⟨29, _⟩ => ⟨S4x16x8192, .f32⟩
  | .hbm, ⟨30, _⟩ => ⟨S4x16x8192, .f32⟩
  | .hbm, ⟨31, _⟩ => ⟨S4x16x8192x1, .f32⟩
  | .hbm, ⟨32, _⟩ => ⟨S4x16x8192x8192, .f32⟩
  | .hbm, ⟨33, _⟩ => ⟨S4x16x8192x8192, .f32⟩
  | .hbm, ⟨34, _⟩ => ⟨S4x16x8192x8192, .f32⟩
  | .hbm, ⟨35, _⟩ => ⟨S_, .f32⟩
  | .hbm, ⟨36, _⟩ => ⟨S4x16x8192, .f32⟩
  | .hbm, ⟨37, _⟩ => ⟨S4x16x8192x1, .f32⟩
  | .hbm, ⟨38, _⟩ => ⟨S4x16x8192x8192, .f32⟩
  | .hbm, ⟨39, _⟩ => ⟨S4x16x8192x8192, .f32⟩
  | .hbm, ⟨40, _⟩ => ⟨S4x16x64x8192, .f32⟩
  | .hbm, ⟨41, _⟩ => ⟨S4x8192x16x64, .f32⟩
  | .hbm, ⟨42, _⟩ => ⟨S4x8192x8x128, .f32⟩
  | .hbm, ⟨43, _⟩ => ⟨S4x8x8192x128, .f32⟩
  | .hbm, ⟨44, _⟩ => ⟨S4x8x8192x128, .bf16⟩
  | _, _ => ⟨S4x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S69632x1024 : Shape := ⟨2, ![69632, 1024]⟩
abbrev S136 : Shape := ⟨1, ![136]⟩
abbrev S1 : Shape := ⟨1, ![1]⟩
abbrev S8x1024x2816 : Shape := ⟨3, ![8, 1024, 2816]⟩
abbrev S8x2816x1024 : Shape := ⟨3, ![8, 2816, 1024]⟩
abbrev S557056x128 : Shape := ⟨2, ![557056, 128]⟩
abbrev S4096x128 : Shape := ⟨2, ![4096, 128]⟩
abbrev S1x1024x2816 : Shape := ⟨3, ![1, 1024, 2816]⟩
abbrev S1x2816x1024 : Shape := ⟨3, ![1, 2816, 1024]⟩
abbrev S512x128 : Shape := ⟨2, ![512, 128]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 9
  | .vmem => 10
  | .smem => 2
  | _ => 0

abbrev bufTy : (tb : Table) → Fin (tcTables nBuf tb) → BufTy
  | .hbm, ⟨0, _⟩ => ⟨S69632x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S557056x128, .f32⟩
  | .hbm, ⟨5, _⟩ => ⟨S8x1024x2816, .bf16⟩
  | .hbm, ⟨6, _⟩ => ⟨S8x1024x2816, .bf16⟩
  | .hbm, ⟨7, _⟩ => ⟨S8x2816x1024, .bf16⟩
  | .hbm, ⟨8, _⟩ => ⟨S557056x128, .f32⟩
  | .local _ .vmem, ⟨0, _⟩ => ⟨S4096x128, .f32⟩
  | .local _ .vmem, ⟨1, _⟩ => ⟨S4096x128, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S4096x128, .f32⟩
  | .local _ .vmem, ⟨9, _⟩ => ⟨S4096x128, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S69632x1024 : Shape := ⟨2, ![69632, 1024]⟩
abbrev S136 : Shape := ⟨1, ![136]⟩
abbrev S1 : Shape := ⟨1, ![1]⟩
abbrev S8x1024x2816 : Shape := ⟨3, ![8, 1024, 2816]⟩
abbrev S8x2816x1024 : Shape := ⟨3, ![8, 2816, 1024]⟩
abbrev S8 : Shape := ⟨1, ![8]⟩
abbrev S8x1 : Shape := ⟨2, ![8, 1]⟩
abbrev S1x136 : Shape := ⟨2, ![1, 136]⟩
abbrev S8x136 : Shape := ⟨2, ![8, 136]⟩
abbrev S_ : Shape := ⟨0, ![]⟩
abbrev S8x136x512 : Shape := ⟨3, ![8, 136, 512]⟩
abbrev S8x69632 : Shape := ⟨2, ![8, 69632]⟩
abbrev S69632x8x2816 : Shape := ⟨3, ![69632, 8, 2816]⟩
abbrev S8x69632x1024 : Shape := ⟨3, ![8, 69632, 1024]⟩
abbrev S8x69632x1 : Shape := ⟨3, ![8, 69632, 1]⟩
abbrev S557056x128 : Shape := ⟨2, ![557056, 128]⟩

abbrev nBuf : Space → Nat
  | .hbm => 43
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S136, .i32⟩
  | .hbm, ⟨2, _⟩ => ⟨S1, .i32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S8, .i32⟩
  | .hbm, ⟨7, _⟩ => ⟨S8x1, .i32⟩
  | .hbm, ⟨8, _⟩ => ⟨S1x136, .i32⟩
  | .hbm, ⟨9, _⟩ => ⟨S8x136, .i32⟩
  | .hbm, ⟨10, _⟩ => ⟨S8x136, .i32⟩
  | .hbm, ⟨11, _⟩ => ⟨S8x136, .i1⟩
  | .hbm, ⟨12, _⟩ => ⟨S136, .i32⟩
  | .hbm, ⟨13, _⟩ => ⟨S_, .i32⟩
  | .hbm, ⟨14, _⟩ => ⟨S136, .i32⟩
  | .hbm, ⟨15, _⟩ => ⟨S136, .i1⟩
  | .hbm, ⟨16, _⟩ => ⟨S1x136, .i1⟩
  | .hbm, ⟨17, _⟩ => ⟨S8x136, .i1⟩
  | .hbm, ⟨18, _⟩ => ⟨S8x136, .i1⟩
  | .hbm, ⟨19, _⟩ => ⟨S8x136x512, .i1⟩
  | .hbm, ⟨20, _⟩ => ⟨S8x69632, .i1⟩
  | .hbm, ⟨21, _⟩ => ⟨S69632x8x2816, .f32⟩
  | .hbm, ⟨22, _⟩ => ⟨S69632x8x2816, .f32⟩
  | .hbm, ⟨23, _⟩ => ⟨S69632x8x2816, .f32⟩
  | .hbm, ⟨24, _⟩ => ⟨S69632x8x2816, .f32⟩
  | .hbm, ⟨25, _⟩ => ⟨S_, .f32⟩
  | .hbm, ⟨26, _⟩ => ⟨S69632x8x2816, .f32⟩
  | .hbm, ⟨27, _⟩ => ⟨S69632x8x2816, .f32⟩
  | .hbm, ⟨28, _⟩ => ⟨S_, .f32⟩
  | .hbm, ⟨29, _⟩ => ⟨S69632x8x2816, .f32⟩
  | .hbm, ⟨30, _⟩ => ⟨S69632x8x2816, .f32⟩
  | .hbm, ⟨31, _⟩ => ⟨S69632x8x2816, .f32⟩
  | .hbm, ⟨32, _⟩ => ⟨S69632x8x2816, .f32⟩
  | .hbm, ⟨33, _⟩ => ⟨S8x69632x1024, .f32⟩
  | .hbm, ⟨34, _⟩ => ⟨S8x69632x1, .i1⟩
  | .hbm, ⟨35, _⟩ => ⟨S_, .f32⟩
  | .hbm, ⟨36, _⟩ => ⟨S_, .f32⟩
  | .hbm, ⟨37, _⟩ => ⟨S8x69632x1024, .i1⟩
  | .hbm, ⟨38, _⟩ => ⟨S8x69632x1024, .f32⟩
  | .hbm, ⟨39, _⟩ => ⟨S8x69632x1024, .f32⟩
  | .hbm, ⟨40, _⟩ => ⟨S_, .f32⟩
  | .hbm, ⟨41, _⟩ => ⟨S69632x1024, .f32⟩
  | .hbm, ⟨42, _⟩ => ⟨S557056x128, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x2816, .f32⟩
  | .hbm, ⟨22, _⟩ => ⟨S4x8192x2816, .f32⟩
  | .hbm, ⟨23, _⟩ => ⟨S4x8192x2816, .f32⟩
  | .hbm, ⟨24, _⟩ => ⟨S_, .f32⟩
  | .hbm, ⟨25, _⟩ => ⟨S4x8192x2816, .f32⟩
  | .hbm, ⟨26, _⟩ => ⟨S4x8192x2816, .f32⟩
  | .hbm, ⟨27, _⟩ => ⟨S_, .f32⟩
  | .hbm, ⟨28, _⟩ => ⟨S4x8192x2816, .f32⟩
  | .hbm, ⟨29, _⟩ => ⟨S4x8192x2816, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S4x8192x1024, .f32⟩
  | .hbm, ⟨34, _⟩ => ⟨S4x8192x1024, .f32⟩
  | .hbm, ⟨35, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x1024 : Shape := ⟨2, ![1024, 1024]⟩
abbrev S1024x2064 : Shape := ⟨2, ![1024, 2064]⟩
abbrev S16 : Shape := ⟨1, ![16]⟩
abbrev S1024x16 : Shape := ⟨2, ![1024, 16]⟩
abbrev S1x1024x1x16 : Shape := ⟨4, ![1, 1024, 1, 16]⟩
abbrev S1x1024x3x16 : Shape := ⟨4, ![1, 1024, 3, 16]⟩
abbrev S1024x48 : Shape := ⟨2, ![1024, 48]⟩
abbrev S_ : Shape := ⟨0, ![]⟩
abbrev S1024x128 : Shape := ⟨2, ![1024, 128]⟩
abbrev S1024x256 : Shape := ⟨2, ![1024, 256]⟩
abbrev S1x128 : Shape := ⟨2, ![1, 128]⟩
abbrev S1x16 : Shape := ⟨2, ![1, 16]⟩
abbrev S3x16 : Shape := ⟨2, ![3, 16]⟩
abbrev S48 : Shape := ⟨1, ![48]⟩
abbrev S1 : Shape := ⟨1, ![1]⟩
abbrev S2 : Shape := ⟨1, ![2]⟩
abbrev S3 : Shape := ⟨1, ![3]⟩
abbrev S3x1 : Shape := ⟨2, ![3, 1]⟩
abbrev S128x2048 : Shape := ⟨2, ![128, 2048]⟩
abbrev S48x1 : Shape := ⟨2, ![48, 1]⟩
abbrev S48x2 : Shape := ⟨2, ![48, 2]⟩
abbrev S1x2048 : Shape := ⟨2, ![1, 2048]⟩
abbrev S1x1024 : Shape := ⟨2, ![1, 1024]⟩
abbrev S4x8x256x8192 : Shape := ⟨4, ![4, 8, 256, 8192]⟩
abbrev S4x8x8192x256 : Shape := ⟨4, ![4, 8, 8192, 256]⟩
abbrev S4x16x80x8192 : Shape := ⟨4, ![4, 16, 80, 8192]⟩
abbrev S1x512x1024 : Shape := ⟨3, ![1, 512, 1024]⟩
abbrev S1x8x256x512 : Shape := ⟨4, ![1, 8, 256, 512]⟩
abbrev S1x8x512x256 : Shape := ⟨4, ![1, 8, 512, 256]⟩
abbrev S1x16x80x512 : Shape := ⟨4, ![1, 16, 80, 512]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S512x512 : Shape := ⟨2, ![512, 512]⟩
abbrev S512x2048 : Shape := ⟨2, ![512, 2048]⟩
abbrev S1x1x512x128 : Shape := ⟨4, ![1, 1, 512, 128]⟩
abbrev S256x512 : Shape := ⟨2, ![256, 512]⟩
abbrev S1x1x256x512 : Shape := ⟨4, ![1, 1, 256, 512]⟩
abbrev S1024x512 : Shape := ⟨2, ![1024, 512]⟩
abbrev S16x512 : Shape := ⟨2, ![16, 512]⟩
abbrev S64x512 : Shape := ⟨2, ![64, 512]⟩
abbrev S1x1x64x512 : Shape := ⟨4, ![1, 1, 64, 512]⟩
abbrev S1x1x16x512 : Shape := ⟨4, ![1, 1, 16, 512]⟩

abbrev nBuf : Space → Nat
  | .hbm => 177
  | .vmem => 20
  | .smem => 0
  | _ => 0

abbrev hbmTy0_0 (i : Nat) : BufTy := match i % 128 with
  | 0 => ⟨S4x8192x1024, .f32⟩
  | 1 => ⟨S1024, .f32⟩
  | 2 => ⟨S1024, .f32⟩
  | 3 => ⟨S1024x1024, .f32⟩
  | 4 => ⟨S1024x2064, .f32⟩
  | 5 => ⟨S16, .f32⟩
  | 6 => ⟨S1024x1024, .f32⟩
  | 7 => ⟨S1024x1024, .f32⟩
  | 8 => ⟨S1024x1024, .f32⟩
  | 9 => ⟨S1024x16, .f32⟩
  | 10 => ⟨S1x1024x1x16, .f32⟩
  | 11 => ⟨S1x1024x3x16, .f32⟩
  | 12 => ⟨S1024x48, .f32⟩
  | 13 => ⟨S_, .i32⟩
  | 14 => ⟨S_, .f32⟩
  | 15 => ⟨S1024x128, .f32⟩
  | 16 => ⟨S1024x128, .bf16⟩
  | 17 => ⟨S1024x128, .f32⟩
  | 18 => ⟨S1024x128, .f32⟩
  | 19 => ⟨S1024x128, .bf16⟩
  | 20 => ⟨S1024x256, .bf16⟩
  | 21 => ⟨S_, .f32⟩
  | 22 => ⟨S1x128, .f32⟩
  | 23 => ⟨S1x16, .f32⟩
  | 24 => ⟨S3x16, .f32⟩
  | 25 => ⟨S48, .f32⟩
  | 26 => ⟨S_, .i32⟩
  | 27 => ⟨S1, .i32⟩
  | 28 => ⟨S_, .i32⟩
  | 29 => ⟨S1, .i32⟩
  | 30 => ⟨S2, .i32⟩
  | 31 => ⟨S1x128, .f32⟩
  | 32 => ⟨S3, .i32⟩
  | 33 => ⟨S3x1, .i32⟩
  | 34 => ⟨S16, .i32⟩
  | 35 => ⟨S1x16, .i32⟩
  | 36 => ⟨S_, .i32⟩
  | 37 => ⟨S3x1, .i32⟩
  | 38 => ⟨S3x1, .i32⟩
  | 39 => ⟨S3x16, .i32⟩
  | 40 => ⟨S3x16, .i32⟩
  | 41 => ⟨S3x16, .i32⟩
  | 42 => ⟨S48, .i32⟩
  | 43 => ⟨S_, .bf16⟩
  | 44 => ⟨S128x2048, .bf16⟩
  | 45 => ⟨S_, .i32⟩
  | 46 => ⟨S1x16, .i32⟩
  | 47 => ⟨S1x16, .i32⟩
  | 48 => ⟨S_, .i32⟩
  | 49 => ⟨S1x16, .i32⟩
  | 50 => ⟨S1x16, .i32⟩
  | 51 => ⟨S3x16, .i32⟩
  | 52 => ⟨S3x16, .i32⟩
  | 53 => ⟨S3x16, .i32⟩
  | 54 => ⟨S48, .i32⟩
  | 55 => ⟨S_, .i32⟩
  | 56 => ⟨S48, .i32⟩
  | 57 => ⟨S48, .i1⟩
  | 58 => ⟨S_, .i32⟩
  | 59 => ⟨S48, .i32⟩
  | 60 => ⟨S48, .i32⟩
  | 61 => ⟨S48, .i32⟩
  | 62 => ⟨S_, .i32⟩
  | 63 => ⟨S48, .i32⟩
  | 64 => ⟨S48, .i1⟩
  | 65 => ⟨S_, .i32⟩
  | 66 => ⟨S48, .i32⟩
  | 67 => ⟨S48, .i32⟩
  | 68 => ⟨S48, .i32⟩
  | 69 => ⟨S48x1, .i32⟩
  | 70 => ⟨S48x1, .i32⟩
  | 71 => ⟨S48x2, .i32⟩
  | 72 => ⟨S_, .bf16⟩
  | 73 => ⟨S48, .bf16⟩
  | 74 => ⟨S128x2048, .bf16⟩
  | 75 => ⟨S_, .bf16⟩
  | 76 => ⟨S128x2048, .bf16⟩
  | 77 => ⟨S_, .i32⟩
  | 78 => ⟨S3x1, .i32⟩
  | 79 => ⟨S3x1, .i32⟩
  | 80 => ⟨S_, .i32⟩
  | 81 => ⟨S1x16, .i32⟩
  | 82 => ⟨S1x16, .i32⟩
  | 83 => ⟨S_, .i32⟩
  | 84 => ⟨S1x16, .i32⟩
  | 85 => ⟨S1x16, .i32⟩
  | 86 => ⟨S3x16, .i32⟩
  | 87 => ⟨S3x16, .i32⟩
  | 88 => ⟨S3x16, .i32⟩
  | 89 => ⟨S48, .i32⟩
  | 90 => ⟨S_, .i32⟩
  | 91 => ⟨S48, .i32⟩
  | 92 => ⟨S48, .i1⟩
  | 93 => ⟨S_, .i32⟩
  | 94 => ⟨S48, .i32⟩
  | 95 => ⟨S48, .i32⟩
  | 96 => ⟨S48, .i32⟩
  | 97 => ⟨S_, .i32⟩
  | 98 => ⟨S48, .i32⟩
  | 99 => ⟨S48, .i1⟩
  | 100 => ⟨S_, .i32⟩
  | 101 => ⟨S48, .i32⟩
  | 102 => ⟨S48, .i32⟩
  | 103 => ⟨S48, .i32⟩
  | 104 => ⟨S48x1, .i32⟩
  | 105 => ⟨S48x1, .i32⟩
  | 106 => ⟨S48x2, .i32⟩
  | 107 => ⟨S_, .bf16⟩
  | 108 => ⟨S48, .bf16⟩
  | 109 => ⟨S128x2048, .bf16⟩
  | 110 => ⟨S_, .f32⟩
  | 111 => ⟨S1x2048, .f32⟩
  | 112 => ⟨S_, .i32⟩
  | 113 => ⟨S3x1, .i32⟩
  | 114 => ⟨S3x1, .i32⟩
  | 115 => ⟨S_, .i32⟩
  | 116 => ⟨S1x16, .i32⟩
  | 117 => ⟨S1x16, .i32⟩
  | 118 => ⟨S_, .i32⟩
  | 119 => ⟨S1x16, .i32⟩
  | 120 => ⟨S1x16, .i32⟩
  | 121 => ⟨S3x16, .i32⟩
  | 122 => ⟨S3x16, .i32⟩
  | 123 => ⟨S3x16, .i32⟩
  | 124 => ⟨S48, .i32⟩
  | 125 => ⟨S_, .i32⟩
  | 126 => ⟨S48, .i32⟩
  | 127 => ⟨S48, .i1⟩
  | _ => ⟨S4x8192x1024, .f32⟩

abbrev hbmTy0_1 (i : Nat) : BufTy := match i % 128 with
  | 0 => ⟨S_, .i32⟩
  | 1 => ⟨S48, .i32⟩
  | 2 => ⟨S48, .i32⟩
  | 3 => ⟨S48, .i32⟩
  | 4 => ⟨S_, .i32⟩
  | 5 => ⟨S48, .i32⟩
  | 6 => ⟨S48, .i32⟩
  | 7 => ⟨S48x1, .i32⟩
  | 8 => ⟨S48x1, .i32⟩
  | 9 => ⟨S48x2, .i32⟩
  | 10 => ⟨S_, .f32⟩
  | 11 => ⟨S48, .f32⟩
  | 12 => ⟨S1x2048, .f32⟩
  | 13 => ⟨S_, .f32⟩
  | 14 => ⟨S1x2048, .f32⟩
  | 15 => ⟨S_, .i32⟩
  | 16 => ⟨S1x16, .i32⟩
  | 17 => ⟨S1x16, .i32⟩
  | 18 => ⟨S_, .i32⟩
  | 19 => ⟨S1x16, .i32⟩
  | 20 => ⟨S1x16, .i32⟩
  | 21 => ⟨S3x16, .i32⟩
  | 22 => ⟨S3x16, .i32⟩
  | 23 => ⟨S3x16, .i32⟩
  | 24 => ⟨S48, .i32⟩
  | 25 => ⟨S_, .i32⟩
  | 26 => ⟨S48, .i32⟩
  | 27 => ⟨S48, .i1⟩
  | 28 => ⟨S_, .i32⟩
  | 29 => ⟨S48, .i32⟩
  | 30 => ⟨S48, .i32⟩
  | 31 => ⟨S48, .i32⟩
  | 32 => ⟨S_, .i32⟩
  | 33 => ⟨S48, .i32⟩
  | 34 => ⟨S48, .i32⟩
  | 35 => ⟨S48x1, .i32⟩
  | 36 => ⟨S48x1, .i32⟩
  | 37 => ⟨S48x2, .i32⟩
  | 38 => ⟨S_, .f32⟩
  | 39 => ⟨S48, .f32⟩
  | 40 => ⟨S1x2048, .f32⟩
  | 41 => ⟨S1x1024, .f32⟩
  | 42 => ⟨S1x1024, .f32⟩
  | 43 => ⟨S1024x1024, .bf16⟩
  | 44 => ⟨S1024x1024, .bf16⟩
  | 45 => ⟨S1024x1024, .bf16⟩
  | 46 => ⟨S4x8x256x8192, .bf16⟩
  | 47 => ⟨S4x8x8192x256, .bf16⟩
  | 48 => ⟨S4x16x80x8192, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x256, .bf16⟩
  | .local _ .vmem, ⟨8, _⟩ => ⟨S1x128, .f32⟩
  | .local _ .vmem, ⟨9, _⟩ => ⟨S128x2048, .bf16⟩
  | .local _ .vmem, ⟨10, _⟩ => ⟨S128x2048, .bf16⟩
  | .local _ .vmem, ⟨11, _⟩ => ⟨S1x2048, .f32⟩
  | .local _ .vmem, ⟨12, _⟩ => ⟨S1x2048, .f32⟩
  | .local _ .vmem, ⟨13, _⟩ => ⟨S1x8x256x512, .bf16⟩
  | .local _ .vmem, ⟨14, _⟩ => ⟨S1x8x256x512, .bf16⟩
  | .local _ .vmem, ⟨15, _⟩ => ⟨S1x8x512x256, .bf16⟩
  | .local _ .vmem, ⟨16, _⟩ => ⟨S1x8x512x256, .bf16⟩
  | .local _ .vmem, ⟨17, _⟩ => ⟨S1x16x80x512, .bf16⟩
  | .local _ .vmem, ⟨18, _⟩ => ⟨S1x16x80x512, .bf16⟩
  | .local _ .vmem, ⟨19, _⟩ => ⟨S8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_c_12 : Ref sig .tc := ⟨.hbm, 77, rfl⟩
abbrev main_v56 : Ref sig .tc := ⟨.hbm, 78, rfl⟩
abbrev main_v57 : Ref sig .tc := ⟨.hbm, 79, rfl⟩
abbrev main_c_13 : Ref sig .tc := ⟨.hbm, 80, rfl⟩
abbrev main_v58 : Ref sig .tc := ⟨.hbm, 81, rfl⟩
abbrev main_v59 : Ref sig .tc := ⟨.hbm, 82, rfl⟩
abbrev main_c_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_c_16 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_17 : Ref sig .tc := ⟨.hbm, 97, rfl⟩
abbrev main_v71 : Ref sig .tc := ⟨.hbm, 98, rfl⟩
abbrev main_v72 : Ref sig .tc := ⟨.hbm, 99, rfl⟩
abbrev main_c_18 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_19 : Ref sig .tc := ⟨.hbm, 107, rfl⟩
abbrev main_v79 : Ref sig .tc := ⟨.hbm, 108, rfl⟩
abbrev main_v80 : Ref sig .tc := ⟨.hbm, 109, rfl⟩
abbrev main_cst_20 : Ref sig .tc := ⟨.hbm, 110, rfl⟩
abbrev main_v81 : Ref sig .tc := ⟨.hbm, 111, rfl⟩
abbrev main_c_21 : Ref sig .tc := ⟨.hbm, 112, rfl⟩
abbrev main_v82 : Ref sig .tc := ⟨.hbm, 113, rfl⟩
abbrev main_v83 : Ref sig .tc := ⟨.hbm, 114, rfl⟩
abbrev main_c_22 : Ref sig .tc := ⟨.hbm, 115, rfl⟩
abbrev main_v84 : Ref sig .tc := ⟨.hbm, 116, rfl⟩
abbrev main_v85 : Ref sig .tc := ⟨.hbm, 117, rfl⟩
abbrev main_c_23 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_24 : Ref sig .tc := ⟨.hbm, 125, rfl⟩
abbrev main_v92 : Ref sig .tc := ⟨.hbm, 126, rfl⟩
abbrev main_v93 : Ref sig .tc := ⟨.hbm, 127, rfl⟩
abbrev main_c_25 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_26 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_27 : Ref sig .tc := ⟨.hbm, 138, rfl⟩
abbrev main_v102 : Ref sig .tc := ⟨.hbm, 139, rfl⟩
abbrev main_v103 : Ref sig .tc := ⟨.hbm, 140, rfl⟩
abbrev main_cst_28 : Ref sig .tc := ⟨.hbm, 141, rfl⟩
abbrev main_v104 : Ref sig .tc := ⟨.hbm, 142, rfl⟩
abbrev main_c_29 : Ref sig .tc := ⟨.hbm, 143, rfl⟩
abbrev main_v105 : Ref sig .tc := ⟨.hbm, 144, rfl⟩
abbrev main_v106 : Ref sig .tc := ⟨.hbm, 145, rfl⟩
abbrev main_c_30 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_31 : Ref sig .tc := ⟨.hbm, 153, rfl⟩
abbrev main_v113 : Ref sig .tc := ⟨.hbm, 154, rfl⟩
abbrev main_v114 : Ref sig .tc := ⟨.hbm, 155, rfl⟩
abbrev main_c_32 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_33 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_34 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130_0 : Ref sig .tc := ⟨.hbm, 174, rfl⟩
abbrev main_v130_1 : Ref sig .tc := ⟨.hbm, 175, rfl⟩
abbrev main_v130_2 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x80x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S4x8192x1024 : Shape := ⟨3, ![4, 8192, 1024]⟩
abbrev S1024 : Shape := ⟨1, ![1024]⟩
abbrev S1024x1024 : Shape := ⟨2, ![1024, 1024]⟩
abbrev S1024x2064 : Shape := ⟨2, ![1024, 2064]⟩
abbrev S16 : Shape := ⟨1, ![16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x16x64 : Shape := ⟨4, ![4, 8192, 16, 64]⟩
abbrev S4x16x64x8192 : Shape := ⟨4, ![4, 16, 64, 8192]⟩
abbrev S4x16x1x8192 : Shape := ⟨4, ![4, 16, 1, 8192]⟩
abbrev S4x16x15x8192 : Shape := ⟨4, ![4, 16, 15, 8192]⟩
abbrev S4x16x80x8192 : Shape := ⟨4, ![4, 16, 80, 8192]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x2064, .f32⟩
  | .hbm, ⟨5, _⟩ => ⟨S16, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x1024, .f32⟩
  | .hbm, ⟨23, _⟩ => ⟨S4x8192x1024, .f32⟩
  | .hbm, ⟨24, _⟩ => ⟨S4x8192x16x64, .f32⟩
  | .hbm, ⟨25, _⟩ => ⟨S4x16x64x8192, .f32⟩
  | .hbm, ⟨26, _⟩ => ⟨S_, .f32⟩
  | .hbm, ⟨27, _⟩ => ⟨S4x16x1x8192, .f32⟩
  | .hbm, ⟨28, _⟩ => ⟨S_, .f32⟩
  | .hbm, ⟨29, _⟩ => ⟨S4x16x15x8192, .f32⟩
  | .hbm, ⟨30, _⟩ => ⟨S4x16x80x8192, .f32⟩
  | .hbm, ⟨31, _⟩ => ⟨S4x16x80x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.Attn.Offsets.lean ====
/-
  Where the attention kernel reads: the offsets of every load at a query tile `k` (512 queries) and a trip of a key
  loop, as closed forms. Head 0 of a pair has columns 0–127 of a key row (rows 0–127 of a query column), head 1 the
  next 128; a key block is 256 keys.
-/
module

public import proofs.«01_k».proof.Proof.Gen.KernelIdeal.Skeleton

@[expose] public section

set_option maxRecDepth 16384

namespace Cert.Attn

open Cert.KernelIdeal Cert.KernelIdeal.Gen
open Idealize.ShloMosaic

/-- A query tile is one of sixteen. -/
theorem trips1 : k0_t1_loop.trips = 16 := by decide +kernel

/-- The four-pair loop runs once for four query tiles before this one. -/
theorem trips2 : ∀ k : Fin k0_t1_loop.trips, (k0_t2_loop k).trips = k.val / 4 := by decide +kernel
theorem trips3 : ∀ k : Fin k0_t1_loop.trips, (k0_t3_loop k).trips = 0 := by decide +kernel
theorem trips4 : ∀ k : Fin k0_t1_loop.trips, (k0_t4_loop k).trips = k.val / 2 - k.val / 4 * 2 := by decide +kernel
theorem trips5 : ∀ k : Fin k0_t1_loop.trips, (k0_t5_loop k).trips = 0 := by decide +kernel
theorem trips6 : ∀ k : Fin k0_t1_loop.trips, (k0_t6_loop k).trips = k.val - k.val / 2 * 2 := by decide +kernel
theorem trips7 : ∀ k : Fin k0_t1_loop.trips, (k0_t7_loop k).trips = 0 := by decide +kernel

theorem off1 : ∀ k : Fin k0_t1_loop.trips, k0_off1 k = ![0, 0, 0, 512 * k.val] := by decide +kernel
theorem off2 : ∀ k : Fin k0_t1_loop.trips, k0_off2 k = ![0, 0, 128, 512 * k.val] := by decide +kernel

/-! ## The one-pair loop: its trip `t` takes key blocks `4 (k / 2) + 2 t` and the next -/

theorem off27a : ∀ (k : Fin k0_t1_loop.trips) (t : Fin (k0_t6_loop k).trips),
    k0_off27 k t 1#32 = ![0, 0, 256 * (4 * (k.val / 2) + 2 * t.val + 1), 0] := by decide +kernel
theorem off27b : ∀ (k : Fin k0_t1_loop.trips) (t : Fin (k0_t6_loop k).trips),
    k0_off27 k t 2#32 = ![0, 0, 256 * (4 * (k.val / 2) + 2 * t.val + 2), 0] := by decide +kernel
theorem off28a : ∀ (k : Fin k0_t1_loop.trips) (t : Fin (k0_t6_loop k).trips),
    k0_off28 k t 1#32 = ![0, 0, 256 * (4 * (k.val / 2) + 2 * t.val + 1), 128] := by decide +kernel
theorem off28b : ∀ (k : Fin k0_t1_loop.trips) (t : Fin (k0_t6_loop k).trips),
    k0_off28 k t 2#32 = ![0, 0, 256 * (4 * (k.val / 2) + 2 * t.val + 2), 128] := by decide +kernel
theorem off29 : ∀ (k : Fin k0_t1_loop.trips) (t : Fin (k0_t6_loop k).trips),
    k0_off29 k t = ![0, 0, 0, 256 * (4 * (k.val / 2) + 2 * t.val)] := by decide +kernel
theorem off30 : ∀ (k : Fin k0_t1_loop.trips) (t : Fin (k0_t6_loop k).trips),
    k0_off30 k t = ![0, 1, 0, 256 * (4 * (k.val / 2) + 2 * t.val)] := by decide +kernel
theorem off31 : ∀ (k : Fin k0_t1_loop.trips) (t : Fin (k0_t6_loop k).trips),
    k0_off31 k t = ![0, 0, 0, 256 * (4 * (k.val / 2) + 2 * t.val + 1)] := by decide +kernel
theorem off32 : ∀ (k : Fin k0_t1_loop.trips) (t : Fin (k0_t6_loop k).trips),
    k0_off32 k t = ![0, 1, 0, 256 * (4 * (k.val / 2) + 2 * t.val + 1)] := by decide +kernel

/-! ## The two-pair loop: its trip `t` takes four key blocks from `8 (k / 4) + 4 t` -/

theorem off15 : ∀ (k : Fin k0_t1_loop.trips) (t : Fin (k0_t4_loop k).trips),
    k0_off15 k t 0#32 1#32 = ![0, 0, 256 * (8 * (k.val / 4) + 4 * t.val + 1), 0]
    ∧ k0_off15 k t 0#32 2#32 = ![0, 0, 256 * (8 * (k.val / 4) + 4 * t.val + 2), 0]
    ∧ k0_off15 k t 1#32 1#32 = ![0, 0, 256 * (8 * (k.val / 4) + 4 * t.val + 3), 0]
    ∧ k0_off15 k t 1#32 2#32 = ![0, 0, 256 * (8 * (k.val / 4) + 4 * t.val + 4), 0] := by decide +kernel

theorem off16 : ∀ (k : Fin k0_t1_loop.trips) (t : Fin (k0_t4_loop k).trips),
    k0_off16 k t 0#32 1#32 = ![0, 0, 256 * (8 * (k.val / 4) + 4 * t.val + 1), 128]
    ∧ k0_off16 k t 0#32 2#32 = ![0, 0, 256 * (8 * (k.val / 4) + 4 * t.val + 2), 128]
    ∧ k0_off16 k t 1#32 1#32 = ![0, 0, 256 * (8 * (k.val / 4) + 4 * t.val + 3), 128]
    ∧ k0_off16 k t 1#32 2#32 = ![0, 0, 256 * (8 * (k.val / 4) + 4 * t.val + 4), 128] := by decide +kernel

theorem off17 : ∀ (k : Fin k0_t1_loop.trips) (t : Fin (k0_t4_loop k).trips),
    k0_off17 k t 0#32 = ![0, 0, 0, 256 * (8 * (k.val / 4) + 4 * t.val)]
    ∧ k0_off17 k t 1#32 = ![0, 0, 0, 256 * (8 * (k.val / 4) + 4 * t.val + 2)] := by decide +kernel

theorem off18 : ∀ (k : Fin k0_t1_loop.trips) (t : Fin (k0_t4_loop k).trips),
    k0_off18 k t 0#32 = ![0, 1, 0, 256 * (8 * (k.val / 4) + 4 * t.val)]
    ∧ k0_off18 k t 1#32 = ![0, 1, 0, 256 * (8 * (k.val / 4) + 4 * t.val + 2)] := by decide +kernel

theorem off19 : ∀ (k : Fin k0_t1_loop.trips) (t : Fin (k0_t4_loop k).trips),
    k0_off19 k t 0#32 = ![0, 0, 0, 256 * (8 * (k.val / 4) + 4 * t.val + 1)]
    ∧ k0_off19 k t 1#32 = ![0, 0, 0, 256 * (8 * (k.val / 4) + 4 * t.val + 3)] := by decide +kernel

theorem off20 : ∀ (k : Fin k0_t1_loop.trips) (t : Fin (k0_t4_loop k).trips),
    k0_off20 k t 0#32 = ![0, 1, 0, 256 * (8 * (k.val / 4) + 4 * t.val + 1)]
    ∧ k0_off20 k t 1#32 = ![0, 1, 0, 256 * (8 * (k.val / 4) + 4 * t.val + 3)] := by decide +kernel

/-! ## The four-pair loop: its trip `t` takes eight key blocks from `8 t` -/

theorem off3 : ∀ (k : Fin k0_t1_loop.trips) (t : Fin (k0_t2_loop k).trips),
    k0_off3 k t 0#32 1#32 = ![0, 0, 256 * (8 * t.val + 1), 0]
    ∧ k0_off3 k t 0#32 2#32 = ![0, 0, 256 * (8 * t.val + 2), 0]
    ∧ k0_off3 k t 1#32 1#32 = ![0, 0, 256 * (8 * t.val + 3), 0]
    ∧ k0_off3 k t 1#32 2#32 = ![0, 0, 256 * (8 * t.val + 4), 0]
    ∧ k0_off3 k t 2#32 1#32 = ![0, 0, 256 * (8 * t.val + 5), 0]
    ∧ k0_off3 k t 2#32 2#32 = ![0, 0, 256 * (8 * t.val + 6), 0]
    ∧ k0_off3 k t 3#32 1#32 = ![0, 0, 256 * (8 * t.val + 7), 0]
    ∧ k0_off3 k t 3#32 2#32 = ![0, 0, 256 * (8 * t.val + 8), 0] := by decide +kernel

theorem off4 : ∀ (k : Fin k0_t1_loop.trips) (t : Fin (k0_t2_loop k).trips),
    k0_off4 k t 0#32 1#32 = ![0, 0, 256 * (8 * t.val + 1), 128]
    ∧ k0_off4 k t 0#32 2#32 = ![0, 0, 256 * (8 * t.val + 2), 128]
    ∧ k0_off4 k t 1#32 1#32 = ![0, 0, 256 * (8 * t.val + 3), 128]
    ∧ k0_off4 k t 1#32 2#32 = ![0, 0, 256 * (8 * t.val + 4), 128]
    ∧ k0_off4 k t 2#32 1#32 = ![0, 0, 256 * (8 * t.val + 5), 128]
    ∧ k0_off4 k t 2#32 2#32 = ![0, 0, 256 * (8 * t.val + 6), 128]
    ∧ k0_off4 k t 3#32 1#32 = ![0, 0, 256 * (8 * t.val + 7), 128]
    ∧ k0_off4 k t 3#32 2#32 = ![0, 0, 256 * (8 * t.val + 8), 128] := by decide +kernel

theorem off5 : ∀ (k : Fin k0_t1_loop.trips) (t : Fin (k0_t2_loop k).trips),
    k0_off5 k t 0#32 = ![0, 0, 0, 256 * (8 * t.val)]
    ∧ k0_off5 k t 1#32 = ![0, 0, 0, 256 * (8 * t.val + 2)]
    ∧ k0_off5 k t 2#32 = ![0, 0, 0, 256 * (8 * t.val + 4)]
    ∧ k0_off5 k t 3#32 = ![0, 0, 0, 256 * (8 * t.val + 6)] := by decide +kernel

theorem off6 : ∀ (k : Fin k0_t1_loop.trips) (t : Fin (k0_t2_loop k).trips),
    k0_off6 k t 0#32 = ![0, 1, 0, 256 * (8 * t.val)]
    ∧ k0_off6 k t 1#32 = ![0, 1, 0, 256 * (8 * t.val + 2)]
    ∧ k0_off6 k t 2#32 = ![0, 1, 0, 256 * (8 * t.val + 4)]
    ∧ k0_off6 k t 3#32 = ![0, 1, 0, 256 * (8 * t.val + 6)] := by decide +kernel

theorem off7 : ∀ (k : Fin k0_t1_loop.trips) (t : Fin (k0_t2_loop k).trips),
    k0_off7 k t 0#32 = ![0, 0, 0, 256 * (8 * t.val + 1)]
    ∧ k0_off7 k t 1#32 = ![0, 0, 0, 256 * (8 * t.val + 3)]
    ∧ k0_off7 k t 2#32 = ![0, 0, 0, 256 * (8 * t.val + 5)]
    ∧ k0_off7 k t 3#32 = ![0, 0, 0, 256 * (8 * t.val + 7)] := by decide +kernel

theorem off8 : ∀ (k : Fin k0_t1_loop.trips) (t : Fin (k0_t2_loop k).trips),
    k0_off8 k t 0#32 = ![0, 1, 0, 256 * (8 * t.val + 1)]
    ∧ k0_off8 k t 1#32 = ![0, 1, 0, 256 * (8 * t.val + 3)]
    ∧ k0_off8 k t 2#32 = ![0, 1, 0, 256 * (8 * t.val + 5)]
    ∧ k0_off8 k t 3#32 = ![0, 1, 0, 256 * (8 * t.val + 7)] := by decide +kernel

/-! ## After the loops: the two key blocks on the diagonal, and the store -/

theorem off39 : ∀ k : Fin k0_t1_loop.trips, k0_off39 k = ![0, 0, 256 * (2 * k.val + 1), 0] := by decide +kernel
theorem off40 : ∀ k : Fin k0_t1_loop.trips, k0_off40 k = ![0, 0, 256 * (2 * k.val + 1), 128] := by decide +kernel
theorem off41 : ∀ k : Fin k0_t1_loop.trips, k0_off41 k = ![0, 0, 0, 256 * (2 * k.val)] := by decide +kernel
theorem off42 : ∀ k : Fin k0_t1_loop.trips, k0_off42 k = ![0, 1, 0, 256 * (2 * k.val)] := by decide +kernel
theorem off43 : ∀ k : Fin k0_t1_loop.trips, k0_off43 k = ![0, 0, 0, 256 * (2 * k.val + 1)] := by decide +kernel
theorem off44 : ∀ k : Fin k0_t1_loop.trips, k0_off44 k = ![0, 1, 0, 256 * (2 * k.val + 1)] := by decide +kernel
theorem off45 : ∀ k : Fin k0_t1_loop.trips, k0_off45 k = ![0, 0, 512 * k.val, 0] := by decide +kernel

end Cert.Attn
-- ==== Proof.Attn.Model.lean ====
/-
  The attention kernel as a function: for one query tile and one head, the running maximum and the weighted sums after
  `n` key blocks, by recursion on `n`, over any interpretation `F` of the float operations.
-/
module

public import proofs.«01_k».proof.Proof.Attn.Offsets
public import proofs.«01_k».proof.Proof.Gen.KernelIdeal.Frame

@[expose] public section

set_option maxRecDepth 16384

noncomputable section

namespace Cert.Attn

open Cert.KernelIdeal Cert.KernelIdeal.Gen
open Idealize.ShloMosaic

variable {F : FTy → Type} [FloatOps F]

/-- A key block lies within the keys. -/
theorem kB_inb (h n : ℕ) : ∀ a, (![0, 0, 256 * (n % 32), 128 * (h % 2)] : Fin 4 → ℕ) a + S1x1x256x128.size a ≤ S1x1x8192x256.size a := by
  have := Nat.mod_lt n (show 0 < 32 by decide)
  have := Nat.mod_lt h (show 0 < 2 by decide)
  intro a; fin_cases a <;> simp <;> omega

/-- A value block lies within the values. -/
theorem vB_inb (h n : ℕ) : ∀ a, (![0, h % 2, 0, 256 * (n % 32)] : Fin 4 → ℕ) a + S1x1x80x256.size a ≤ S1x2x80x8192.size a := by
  have := Nat.mod_lt n (show 0 < 32 by decide)
  have := Nat.mod_lt h (show 0 < 2 by decide)
  intro a; fin_cases a <;> simp <;> omega

/-- A query tile lies within the queries. -/
theorem qB_inb (h k : ℕ) : ∀ a, (![0, 0, 128 * (h % 2), 512 * (k % 16)] : Fin 4 → ℕ) a + S1x1x128x512.size a ≤ S1x1x256x8192.size a := by
  have := Nat.mod_lt k (show 0 < 16 by decide)
  have := Nat.mod_lt h (show 0 < 2 by decide)
  intro a; fin_cases a <;> simp <;> omega

/-- Key block `n` of head `h`, out of the pair's packed keys. -/
def kB (x : Vec F S1x1x8192x256 .bf16) (h n : ℕ) : Vec F S1x1x256x128 .bf16 :=
  View.ld (Val := Elt F) x (Rect.unit (s := S1x1x8192x256) ![0, 0, 256 * (n % 32), 128 * (h % 2)] S1x1x256x128.size (kB_inb h n))

/-- Value block `n` of head `h`. -/
def vB (x : Vec F S1x2x80x8192 .bf16) (h n : ℕ) : Vec F S1x1x80x256 .bf16 :=
  View.ld (Val := Elt F) x (Rect.unit (s := S1x2x80x8192) ![0, h % 2, 0, 256 * (n % 32)] S1x1x80x256.size (vB_inb h n))

/-- Query tile `k` of head `h`. -/
def qB (x : Vec F S1x1x256x8192 .bf16) (h k : ℕ) : FVec F S128x512 .bf16 :=
  k0_pay296 (View.ld (Val := Elt F) x (Rect.unit (s := S1x1x256x8192) ![0, 0, 128 * (h % 2), 512 * (k % 16)] S1x1x128x512.size (qB_inb h k)))

/-- The scores of a key block against a query tile. -/
def score (q : FVec F S128x512 .bf16) (kb : Vec F S1x1x256x128 .bf16) : FVec F S1x256x512 .f32 := k0_pay252 q kb

/-- The running maximum and the weighted sums of the values, the weights' own sum in row 64. -/
abbrev St (F : FTy → Type) := FVec F S1x512 .f32 × FVec F S1x80x512 .f32

/-- One key block taken in: the maximum raised to the block's, the sums rescaled and the block's added. -/
def upd (st : St F) (s : FVec F S1x256x512 .f32) (vb : Vec F S1x1x80x256 .bf16) : St F :=
  (k0_pay255 st.1 s, k0_pay257 st.1 (k0_pay255 st.1 s) (k0_pay256 st.1 s) st.2 vb)

/-- No key block taken in. -/
def st0 : St F := (k0_pay299, fun _ => Scalar.ofBits .f32 0x00000000#32)

/-- The state after the key blocks `0 … n - 1`. -/
def chain (q : FVec F S128x512 .bf16) (x3 : Vec F S1x1x8192x256 .bf16) (x4 : Vec F S1x2x80x8192 .bf16) (h : ℕ) : ℕ → St F
  | 0 => st0
  | n + 1 => upd (chain q x3 x4 h n) (score q (kB x3 h n)) (vB x4 h n)

/-- The chain of `n + 1` blocks is one step after the chain of `n`. -/
theorem chain_succ (q : FVec F S128x512 .bf16) (x3 : Vec F S1x1x8192x256 .bf16) (x4 : Vec F S1x2x80x8192 .bf16) (h n : ℕ) :
    chain q x3 x4 h (n + 1) = upd (chain q x3 x4 h n) (score q (kB x3 h n)) (vB x4 h n) := rfl

/-! ## The diagonal: two masked blocks and the quotient -/

/-- The raised maximum, from scores without the leading unit axis. -/
def newMax (m : FVec F S1x512 .f32) (e : FVec F S256x512 .f32) : FVec F S1x512 .f32 :=
  maximumf m (shapeCast S1x512 (multiReduction .maximumf [0] S512 e 0xFF800000#32 reduces_S256x512_S512 (.inl rfl) rfl) shapeCasts_S512_S1x512)

/-- The rescaled sums with the block's added. -/
def newAcc (m : FVec F S1x512 .f32) (e : FVec F S256x512 .f32) (a : FVec F S1x80x512 .f32) (vb : Vec F S1x1x80x256 .bf16) :
    FVec F S1x80x512 .f32 :=
  shapeCast S1x80x512
    (addf
      (mulf (broadcastTo S80x512 (exp2 (subf m (newMax m e))) broadcasts_S1x512_S80x512) (shapeCast S80x512 a shapeCasts_S1x80x512_S80x512))
      (matmul dot_S80x256_S256x512_S80x512_1_0_0_1_n_n none (shapeCast S80x256 vb shapeCasts_S1x1x80x256_S80x256)
        (truncf .bf16 (exp2 (subf e (broadcastTo S256x512 (newMax m e) broadcasts_S1x512_S256x512))) bitsLt_bf16_f32)
        (constant S80x512 .f32 0x00000000#32)))
    shapeCasts_S80x512_S1x80x512

/-- `upd` at scores without the leading unit axis. -/
def updM (st : St F) (e : FVec F S256x512 .f32) (vb : Vec F S1x1x80x256 .bf16) : St F :=
  (newMax st.1 e, newAcc st.1 e st.2 vb)

theorem upd_eq (st : St F) (s : FVec F S1x256x512 .f32) (vb : Vec F S1x1x80x256 .bf16) :
    upd st s vb = updM st (shapeCast S256x512 s shapeCasts_S1x256x512_S256x512) vb := rfl

/-- A block of scores with −∞ where the key comes after the query, the block's first key `w` rows into the tile. -/
def masked (w : BitVec 32) (s : FVec F S1x256x512 .f32) : FVec F S256x512 .f32 :=
  select (cmpi .sle (addi (broadcast S256x512 w) (iota .tc S256x512 32 [0] iota_S256x512_d0_w32)) (iota .tc S256x512 32 [1] iota_S256x512_d1_w32))
    (shapeCast S256x512 s shapeCasts_S1x256x512_S256x512) (broadcast S256x512 (Scalar.ofBits (F := F) .f32 0xFF800000#32))

/-- The state after every key block query tile `k` attends to. -/
def full (q : FVec F S128x512 .bf16) (x3 : Vec F S1x1x8192x256 .bf16) (x4 : Vec F S1x2x80x8192 .bf16) (h k : ℕ) : St F :=
  updM (updM (chain q x3 x4 h (2 * k)) (masked 0#32 (score q (kB x3 h (2 * k)))) (vB x4 h (2 * k)))
    (masked 256#32 (score q (kB x3 h (2 * k + 1)))) (vB x4 h (2 * k + 1))

/-- Rows 0 … 63 of the accumulator: the weighted sums of the values. -/
def top (a : FVec F S1x80x512 .f32) : Vec F S1x64x512 .f32 :=
  View.ld (Val := Elt F) a (Rect.unit (s := S1x80x512) ![0, 0, 0] ![1, 64, 512] (by decide))

/-- Row 64: the sum of the weights. -/
def one (a : FVec F S1x80x512 .f32) : Vec F S1x1x512 .f32 :=
  View.ld (Val := Elt F) a (Rect.unit (s := S1x80x512) ![0, 64, 0] ![1, 1, 512] (by decide))

/-- The 512 rows of the result that query tile `k` of the head pair gives. -/
def tile (x2 : Vec F S1x1x256x8192 .bf16) (x3 : Vec F S1x1x8192x256 .bf16) (x4 : Vec F S1x2x80x8192 .bf16) (k : ℕ) :
    FVec F S1x1x512x128 .bf16 :=
  k0_pay1
    (k0_pay322 (top (full (qB x2 0 k) x3 x4 0 k).2) (one (full (qB x2 0 k) x3 x4 0 k).2))
    (k0_pay323 (top (full (qB x2 1 k) x3 x4 1 k).2))
    (one (full (qB x2 1 k) x3 x4 1 k).2)

/-! ## The kernel's own spellings of the two diagonal updates -/

theorem diag0 (m : FVec F S1x512 .f32) (a : FVec F S1x80x512 .f32) (s s' : FVec F S1x256x512 .f32) (v v' : Vec F S1x1x80x256 .bf16) :
    k0_pay318 (k0_pay311 m s) s' (k0_pay314 (k0_pay312 m s a) (k0_pay313 m s v)) v'
      = (updM (updM (m, a) (masked 0#32 s) v) (masked 256#32 s') v').2 := rfl

theorem diag1 (m : FVec F S1x512 .f32) (a : FVec F S1x80x512 .f32) (s s' : FVec F S1x256x512 .f32) (v v' : Vec F S1x1x80x256 .bf16) :
    k0_pay321 (k0_pay316 m s) (k0_pay319 s') (iota .tc S256x512 32 [0] iota_S256x512_d0_w32) k0_pay320 (k0_pay317 m s a v) v'
      = (updM (updM (m, a) (masked 0#32 s) v) (masked 256#32 s') v').2 := rfl

theorem score0 (q : FVec F S128x512 .bf16) (kb : Vec F S1x1x256x128 .bf16) : k0_pay308 q kb = score q kb := rfl

theorem score1 (q : FVec F S128x512 .bf16) (kb : Vec F S1x1x256x128 .bf16) : k0_pay309 q kb = score q kb := rfl

end Cert.Attn
-- ==== Proof.Attn.Trip.lean ====
/-
  What a trip of a key loop keeps: the two heads' states in the carried maxima and the accumulator, the next block's
  scores in the even score buffer.
-/
module

public import proofs.«01_k».proof.Proof.Attn.Model
public import proofs.«01_k».proof.Proof.Gen.KernelIdeal.Frame
public import Idealize.ShloMosaic.Lib.Tactic
public import Idealize.ShloMosaic.Lib.Exec
public import Idealize.ShloMosaic.Lib.VecWindow
public import Idealize.ShloMosaic.Lib.Tactic.Stretches

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Reading the inputs' blocks -/

/-- Reading a key block. -/
theorem readK (arg3 : Memref sig .tc .vmem S1x1x8192x256 .bf16) (X : BufTy.Contents (Elt F) arg3.view.ty)
    (h n : ℕ) {off : Fin 4 → ℕ} (inb : ∀ a, off a + S1x1x256x128.size a ≤ S1x1x8192x256.size a)
    (he : off = ![0, 0, 256 * n, 128 * h]) (hn : n < 32) (hh : h < 2) :
    arg3.view.readAt (Elt F) (Rect.unit (s := S1x1x8192x256) off S1x1x256x128.size inb).toLoadRect X
      = kB (arg3.view.read (Elt F) X) h n := by
  subst he
  have h1 : n % 32 = n := Nat.mod_eq_of_lt hn
  have h2 : h % 2 = h := Nat.mod_eq_of_lt hh
  unfold kB
  rw [View.readAt_eq_ld]
  congr 2 <;> simp only [h1, h2]

/-- Reading a value block. -/
theorem readV (arg4 : Memref sig .tc .vmem S1x2x80x8192 .bf16) (X : BufTy.Contents (Elt F) arg4.view.ty)
    (h n : ℕ) {off : Fin 4 → ℕ} (inb : ∀ a, off a + S1x1x80x256.size a ≤ S1x2x80x8192.size a)
    (he : off = ![0, h, 0, 256 * n]) (hn : n < 32) (hh : h < 2) :
    arg4.view.readAt (Elt F) (Rect.unit (s := S1x2x80x8192) off S1x1x80x256.size inb).toLoadRect X
      = vB (arg4.view.read (Elt F) X) h n := by
  subst he
  have h1 : n % 32 = n := Nat.mod_eq_of_lt hn
  have h2 : h % 2 = h := Nat.mod_eq_of_lt hh
  unfold vB
  rw [View.readAt_eq_ld]
  congr 2 <;> simp only [h1, h2]

/-- Reading a query tile. -/
theorem readQ (arg2 : Memref sig .tc .vmem S1x1x256x8192 .bf16) (X : BufTy.Contents (Elt F) arg2.view.ty)
    (h k : ℕ) {off : Fin 4 → ℕ} (inb : ∀ a, off a + S1x1x128x512.size a ≤ S1x1x256x8192.size a)
    (he : off = ![0, 0, 128 * h, 512 * k]) (hk : k < 16) (hh : h < 2) :
    k0_pay296 (arg2.view.readAt (Elt F) (Rect.unit (s := S1x1x256x8192) off S1x1x128x512.size inb).toLoadRect X)
      = qB (arg2.view.read (Elt F) X) h k := by
  subst he
  have h1 : k % 16 = k := Nat.mod_eq_of_lt hk
  have h2 : h % 2 = h := Nat.mod_eq_of_lt hh
  unfold qB
  rw [View.readAt_eq_ld]
  congr 3 <;> simp only [h1, h2]

/-! ## Reading the halves of the scratch buffers -/

/-- The half of head `0` of a score buffer. -/
abbrev rd0 (m : Memref sig .tc .vmem S2x256x512 .f32) (f : BufTy.Contents (Elt F) m.view.ty) : FVec F S1x256x512 .f32 :=
  m.view.readAt (Elt F) (Rect.unit (s := S2x256x512) ![0, 0, 0] ![1, 256, 512] inb_S2x256x512_S1x256x512_0_0_0).toLoadRect f

/-- The half of head `1` of a score buffer. -/
abbrev rd1 (m : Memref sig .tc .vmem S2x256x512 .f32) (f : BufTy.Contents (Elt F) m.view.ty) : FVec F S1x256x512 .f32 :=
  m.view.readAt (Elt F) (Rect.unit (s := S2x256x512) ![1, 0, 0] ![1, 256, 512] inb_S2x256x512_S1x256x512_1_0_0).toLoadRect f

/-- The half of head `0` of the accumulator. -/
abbrev ac0 (m : Memref sig .tc .vmem S2x80x512 .f32) (f : BufTy.Contents (Elt F) m.view.ty) : FVec F S1x80x512 .f32 :=
  m.view.readAt (Elt F) (Rect.unit (s := S2x80x512) ![0, 0, 0] ![1, 80, 512] inb_S2x80x512_S1x80x512_0_0_0).toLoadRect f

/-- The half of head `1` of the accumulator. -/
abbrev ac1 (m : Memref sig .tc .vmem S2x80x512 .f32) (f : BufTy.Contents (Elt F) m.view.ty) : FVec F S1x80x512 .f32 :=
  m.view.readAt (Elt F) (Rect.unit (s := S2x80x512) ![1, 0, 0] ![1, 80, 512] inb_S2x80x512_S1x80x512_1_0_0).toLoadRect f

section
variable (m : Memref sig .tc .vmem S2x256x512 .f32) (f : BufTy.Contents (Elt F) m.view.ty)
  (w : FVec F S1x256x512 .f32) (L : List (View.Piece (Elt F) S2x256x512 .f32))

/-- Head 0's scores, read back after they were stored. -/
theorem rd0_hit : rd0 m (m.view.writes (Elt F) f (⟨Rect.unit (s := S2x256x512) ![0, 0, 0] ![1, 256, 512] inb_S2x256x512_S1x256x512_0_0_0, w⟩ :: L)) = w := by
  unfold rd0
  rw [View.readAt_unit _ _ _ rfl inb_S2x256x512_S1x256x512_0_0_0, View.read_writes_cons_put _ _ _ _ _ rfl, VecWindow.window_put_same]

/-- Head 1's scores, read back after they were stored. -/
theorem rd1_hit : rd1 m (m.view.writes (Elt F) f (⟨Rect.unit (s := S2x256x512) ![1, 0, 0] ![1, 256, 512] inb_S2x256x512_S1x256x512_1_0_0, w⟩ :: L)) = w := by
  unfold rd1
  rw [View.readAt_unit _ _ _ rfl inb_S2x256x512_S1x256x512_1_0_0, View.read_writes_cons_put _ _ _ _ _ rfl, VecWindow.window_put_same]

/-- Head 0's scores are untouched by head 1's store. -/
theorem rd0_miss : rd0 m (m.view.writes (Elt F) f (⟨Rect.unit (s := S2x256x512) ![1, 0, 0] ![1, 256, 512] inb_S2x256x512_S1x256x512_1_0_0, w⟩ :: L)) = rd0 m (m.view.writes (Elt F) f L) := by
  unfold rd0
  rw [View.readAt_unit _ _ _ rfl inb_S2x256x512_S1x256x512_0_0_0, View.read_writes_cons_put _ _ _ _ _ rfl,
    VecWindow.window_put_of_disjoint (a := 0) (ha := by decide)]
  rfl

/-- Head 1's scores are untouched by head 0's store. -/
theorem rd1_miss : rd1 m (m.view.writes (Elt F) f (⟨Rect.unit (s := S2x256x512) ![0, 0, 0] ![1, 256, 512] inb_S2x256x512_S1x256x512_0_0_0, w⟩ :: L)) = rd1 m (m.view.writes (Elt F) f L) := by
  unfold rd1
  rw [View.readAt_unit _ _ _ rfl inb_S2x256x512_S1x256x512_1_0_0, View.read_writes_cons_put _ _ _ _ _ rfl,
    VecWindow.window_put_of_disjoint (a := 0) (ha := by decide)]
  rfl
end

section
variable (m : Memref sig .tc .vmem S2x80x512 .f32) (f : BufTy.Contents (Elt F) m.view.ty)
  (w : FVec F S1x80x512 .f32) (L : List (View.Piece (Elt F) S2x80x512 .f32))

/-- Head 0's sums, read back after they were stored. -/
theorem ac0_hit : ac0 m (m.view.writes (Elt F) f (⟨Rect.unit (s := S2x80x512) ![0, 0, 0] ![1, 80, 512] inb_S2x80x512_S1x80x512_0_0_0, w⟩ :: L)) = w := by
  unfold ac0
  rw [View.readAt_unit _ _ _ rfl inb_S2x80x512_S1x80x512_0_0_0, View.read_writes_cons_put _ _ _ _ _ rfl, VecWindow.window_put_same]

/-- Head 1's sums, read back after they were stored. -/
theorem ac1_hit : ac1 m (m.view.writes (Elt F) f (⟨Rect.unit (s := S2x80x512) ![1, 0, 0] ![1, 80, 512] inb_S2x80x512_S1x80x512_1_0_0, w⟩ :: L)) = w := by
  unfold ac1
  rw [View.readAt_unit _ _ _ rfl inb_S2x80x512_S1x80x512_1_0_0, View.read_writes_cons_put _ _ _ _ _ rfl, VecWindow.window_put_same]

/-- Head 0's sums are untouched by head 1's store. -/
theorem ac0_miss : ac0 m (m.view.writes (Elt F) f (⟨Rect.unit (s := S2x80x512) ![1, 0, 0] ![1, 80, 512] inb_S2x80x512_S1x80x512_1_0_0, w⟩ :: L)) = ac0 m (m.view.writes (Elt F) f L) := by
  unfold ac0
  rw [View.readAt_unit _ _ _ rfl inb_S2x80x512_S1x80x512_0_0_0, View.read_writes_cons_put _ _ _ _ _ rfl,
    VecWindow.window_put_of_disjoint (a := 0) (ha := by decide)]
  rfl

/-- Head 1's sums are untouched by head 0's store. -/
theorem ac1_miss : ac1 m (m.view.writes (Elt F) f (⟨Rect.unit (s := S2x80x512) ![0, 0, 0] ![1, 80, 512] inb_S2x80x512_S1x80x512_0_0_0, w⟩ :: L)) = ac1 m (m.view.writes (Elt F) f L) := by
  unfold ac1
  rw [View.readAt_unit _ _ _ rfl inb_S2x80x512_S1x80x512_1_0_0, View.read_writes_cons_put _ _ _ _ _ rfl,
    VecWindow.window_put_of_disjoint (a := 0) (ha := by decide)]
  rfl
end

/-- Rows 0 … 63 of head 0's half of the accumulator. -/
theorem top0 (m : Memref sig .tc .vmem S2x80x512 .f32) (f : BufTy.Contents (Elt F) m.view.ty) :
    m.view.readAt (Elt F) (Rect.unit (s := S2x80x512) ![0, 0, 0] ![1, 64, 512] inb_S2x80x512_S1x64x512_0_0_0).toLoadRect f = top (ac0 m f) :=
  funext fun y => congrArg (m.view.read (Elt F) f) (funext fun a => Fin.ext (by fin_cases a <;> simp [Rect.emb, Rect.unit]))

/-- Row 64 of head 0's half. -/
theorem one0 (m : Memref sig .tc .vmem S2x80x512 .f32) (f : BufTy.Contents (Elt F) m.view.ty) :
    m.view.readAt (Elt F) (Rect.unit (s := S2x80x512) ![0, 64, 0] ![1, 1, 512] inb_S2x80x512_S1x1x512_0_64_0).toLoadRect f = one (ac0 m f) :=
  funext fun y => congrArg (m.view.read (Elt F) f) (funext fun a => Fin.ext (by fin_cases a <;> simp [Rect.emb, Rect.unit]))

/-- Rows 0 … 63 of head 1's half. -/
theorem top1 (m : Memref sig .tc .vmem S2x80x512 .f32) (f : BufTy.Contents (Elt F) m.view.ty) :
    m.view.readAt (Elt F) (Rect.unit (s := S2x80x512) ![1, 0, 0] ![1, 64, 512] inb_S2x80x512_S1x64x512_1_0_0).toLoadRect f = top (ac1 m f) :=
  funext fun y => congrArg (m.view.read (Elt F) f) (funext fun a => Fin.ext (by fin_cases a <;> simp [Rect.emb, Rect.unit]))

/-- Row 64 of head 1's half. -/
theorem one1 (m : Memref sig .tc .vmem S2x80x512 .f32) (f : BufTy.Contents (Elt F) m.view.ty) :
    m.view.readAt (Elt F) (Rect.unit (s := S2x80x512) ![1, 64, 0] ![1, 1, 512] inb_S2x80x512_S1x1x512_1_64_0).toLoadRect f = one (ac1 m f) :=
  funext fun y => congrArg (m.view.read (Elt F) f) (funext fun a => Fin.ext (by fin_cases a <;> simp [Rect.emb, Rect.unit]))

/-- The whole accumulator zeroed: either half is zero. -/
theorem ac0_zero (m : Memref sig .tc .vmem S2x80x512 .f32) (f : BufTy.Contents (Elt F) m.view.ty) (L : List (View.Piece (Elt F) S2x80x512 .f32)) :
    ac0 m (m.view.writes (Elt F) f (⟨Rect.unit (s := S2x80x512) ![0, 0, 0] ![2, 80, 512] inb_S2x80x512_S2x80x512_0_0_0, k0_pay298 (F := F)⟩ :: L))
      = fun _ => Scalar.ofBits .f32 0x00000000#32 := by
  unfold ac0
  rw [View.readAt_unit _ _ _ rfl inb_S2x80x512_S1x80x512_0_0_0]
  erw [View.read_writes_full]
  rfl

/-- Head 1's sums start at zero. -/
theorem ac1_zero (m : Memref sig .tc .vmem S2x80x512 .f32) (f : BufTy.Contents (Elt F) m.view.ty) (L : List (View.Piece (Elt F) S2x80x512 .f32)) :
    ac1 m (m.view.writes (Elt F) f (⟨Rect.unit (s := S2x80x512) ![0, 0, 0] ![2, 80, 512] inb_S2x80x512_S2x80x512_0_0_0, k0_pay298 (F := F)⟩ :: L))
      = fun _ => Scalar.ofBits .f32 0x00000000#32 := by
  unfold ac1
  rw [View.readAt_unit _ _ _ rfl inb_S2x80x512_S1x80x512_1_0_0]
  erw [View.read_writes_full]
  rfl

/-! ## The trip's resources and what holds of them -/

/-- What a trip of a key loop holds: keys and values as they were, the three scratch buffers at some contents. -/
abbrev Held (c : Dev nD) (arg3 : Memref sig .tc .vmem S1x1x8192x256 .bf16) (arg4 : Memref sig .tc .vmem S1x2x80x8192 .bf16)
    (arg6 arg7 : Memref sig .tc .vmem S2x256x512 .f32) (arg8 : Memref sig .tc .vmem S2x80x512 .f32)
    (X3 : BufTy.Contents (Elt F) arg3.view.ty) (X4 : BufTy.Contents (Elt F) arg4.view.ty)
    (f6 : BufTy.Contents (Elt F) arg6.view.ty) (f7 : BufTy.Contents (Elt F) arg7.view.ty) (f8 : BufTy.Contents (Elt F) arg8.view.ty) : sProp 𝕄 :=
  iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

/-- After `n` key blocks: the carried maxima and the accumulator are the two heads' states, and the even score buffer
    has block `n`'s scores. -/
def Good (q0 q1 : FVec F S128x512 .bf16) (x3 : Vec F S1x1x8192x256 .bf16) (x4 : Vec F S1x2x80x8192 .bf16) (n : ℕ)
    (ms : FVec F S1x512 .f32 × FVec F S1x512 .f32) (s0 s1 : FVec F S1x256x512 .f32) (a0 a1 : FVec F S1x80x512 .f32) : Prop :=
  ms = ((chain q0 x3 x4 0 n).1, (chain q1 x3 x4 1 n).1) ∧ s0 = score q0 (kB x3 0 n) ∧ s1 = score q1 (kB x3 1 n)
    ∧ a0 = (chain q0 x3 x4 0 n).2 ∧ a1 = (chain q1 x3 x4 1 n).2

/-- The same resources, at some contents of the scratch buffers that are as they should be after `n` key blocks. -/
abbrev HeldGood (c : Dev nD) (arg3 : Memref sig .tc .vmem S1x1x8192x256 .bf16) (arg4 : Memref sig .tc .vmem S1x2x80x8192 .bf16)
    (arg6 arg7 : Memref sig .tc .vmem S2x256x512 .f32) (arg8 : Memref sig .tc .vmem S2x80x512 .f32)
    (q0 q1 : FVec F S128x512 .bf16) (X3 : BufTy.Contents (Elt F) arg3.view.ty) (X4 : BufTy.Contents (Elt F) arg4.view.ty) (n : ℕ)
    (ms : FVec F S1x512 .f32 × FVec F S1x512 .f32) : sProp 𝕄 :=
  iprop(∃ g6 g7 g8, ⌜Good q0 q1 (arg3.view.read (Elt F) X3) (arg4.view.read (Elt F) X4) n ms
    (rd0 arg6 g6) (rd1 arg6 g6) (ac0 arg8 g8) (ac1 arg8 g8)⌝ ∗ Held c arg3 arg4 arg6 arg7 arg8 X3 X4 g6 g7 g8)

end Cert.Attn
-- ==== Proof.Attn.T2.lean ====
/-
  One trip of each of the three key loops, run over any interpretation of the floats: it takes the two heads' states
  from after `n` key blocks to after `n + 2`, `n + 4` or `n + 8`, and leaves the next block's scores.
-/
module

public import proofs.«01_k».proof.Proof.Attn.Trip

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)
  (arg2 : Memref sig .tc .vmem S1x1x256x8192 .bf16) (harg2 : arg2.IsWhole)
  (arg3 : Memref sig .tc .vmem S1x1x8192x256 .bf16) (harg3 : arg3.IsWhole)
  (arg4 : Memref sig .tc .vmem S1x2x80x8192 .bf16) (harg4 : arg4.IsWhole)
  (arg5 : Memref sig .tc .vmem S1x1x8192x128 .bf16) (harg5 : arg5.IsWhole)
  (arg6 : Memref sig .tc .vmem S2x256x512 .f32) (harg6 : arg6.IsWhole)
  (arg7 : Memref sig .tc .vmem S2x256x512 .f32) (harg7 : arg7.IsWhole)
  (arg8 : Memref sig .tc .vmem S2x80x512 .f32) (harg8 : arg8.IsWhole)
  (k : Fin k0_t1_loop.trips) (arg9 : BitVec 32) (v5 v8 : FVec F S128x512 .bf16)
  (X3 : BufTy.Contents (Elt F) arg3.view.ty) (X4 : BufTy.Contents (Elt F) arg4.view.ty)
  (f6 : BufTy.Contents (Elt F) arg6.view.ty) (f7 : BufTy.Contents (Elt F) arg7.view.ty)
  (f8 : BufTy.Contents (Elt F) arg8.view.ty) (E : Set ℕ) (acc : FVec F S1x512 .f32 × FVec F S1x512 .f32)

set_option maxHeartbeats 2000000 in
/-- A trip of the four-pair loop takes eight key blocks. -/
theorem t2_step (w0 : FVec F S1x512 .f32) (w1 : FVec F S1x256x512 .f32) (t : Fin (k0_t2_loop k).trips)
    (hg : Good v5 v8 (arg3.view.read (Elt F) X3) (arg4.view.read (Elt F) X4) (8 * t.val) acc
      (rd0 arg6 f6) (rd1 arg6 f6) (ac0 arg8 f8) (ac1 arg8 f8)) :
    Held c arg3 arg4 arg6 arg7 arg8 X3 X4 f6 f7 f8
      ⊢ wp frame (wpE (defs₀ (F := F)) 𝒱 (c : Thread nD τ) bd) E (k0_t2_body (F := F) i arg2 harg2 arg3 harg3 arg4 harg4 arg5 harg5 arg6 harg6 arg7 harg7 arg8 harg8 k arg9 v5 v8 w0 w1 t acc)
          (HeldGood c arg3 arg4 arg6 arg7 arg8 v5 v8 X3 X4 (8 * (t.val + 1))) := by
  obtain ⟨a, b⟩ := acc
  obtain ⟨hm, h60, h61, h80, h81⟩ := hg
  obtain ⟨rfl, rfl⟩ := Prod.mk.inj hm
  unfold k0_t2_body
  iintro ⟨H3, H4, H6, H7, H8⟩
  sl_exec
  sl_step
  iexists _, _, _
  isplitr
  rotate_left
  · sl_close
  ipureintro
  sl_open_run
  have e1 := k.isLt.trans_eq trips1
  have e2 := t.isLt.trans_eq (trips2 k)
  simp only [View.readCov, rd0_hit, rd1_hit, rd0_miss, rd1_miss, ac0_hit, ac1_hit, ac0_miss, ac1_miss, h80, h81,
    readK _ X3 0 _ _ (off3 k t).1 (by omega) (by decide), readK _ X3 0 _ _ (off3 k t).2.1 (by omega) (by decide),
    readK _ X3 0 _ _ (off3 k t).2.2.1 (by omega) (by decide), readK _ X3 0 _ _ (off3 k t).2.2.2.1 (by omega) (by decide),
    readK _ X3 0 _ _ (off3 k t).2.2.2.2.1 (by omega) (by decide), readK _ X3 0 _ _ (off3 k t).2.2.2.2.2.1 (by omega) (by decide),
    readK _ X3 0 _ _ (off3 k t).2.2.2.2.2.2.1 (by omega) (by decide), readK _ X3 0 _ _ (off3 k t).2.2.2.2.2.2.2 (by omega) (by decide),
    readK _ X3 1 _ _ (off4 k t).1 (by omega) (by decide), readK _ X3 1 _ _ (off4 k t).2.1 (by omega) (by decide),
    readK _ X3 1 _ _ (off4 k t).2.2.1 (by omega) (by decide), readK _ X3 1 _ _ (off4 k t).2.2.2.1 (by omega) (by decide),
    readK _ X3 1 _ _ (off4 k t).2.2.2.2.1 (by omega) (by decide), readK _ X3 1 _ _ (off4 k t).2.2.2.2.2.1 (by omega) (by decide),
    readK _ X3 1 _ _ (off4 k t).2.2.2.2.2.2.1 (by omega) (by decide), readK _ X3 1 _ _ (off4 k t).2.2.2.2.2.2.2 (by omega) (by decide),
    readV _ X4 0 _ _ (off5 k t).1 (by omega) (by decide), readV _ X4 0 _ _ (off5 k t).2.1 (by omega) (by decide),
    readV _ X4 0 _ _ (off5 k t).2.2.1 (by omega) (by decide), readV _ X4 0 _ _ (off5 k t).2.2.2 (by omega) (by decide),
    readV _ X4 1 _ _ (off6 k t).1 (by omega) (by decide), readV _ X4 1 _ _ (off6 k t).2.1 (by omega) (by decide),
    readV _ X4 1 _ _ (off6 k t).2.2.1 (by omega) (by decide), readV _ X4 1 _ _ (off6 k t).2.2.2 (by omega) (by decide),
    readV _ X4 0 _ _ (off7 k t).1 (by omega) (by decide), readV _ X4 0 _ _ (off7 k t).2.1 (by omega) (by decide),
    readV _ X4 0 _ _ (off7 k t).2.2.1 (by omega) (by decide), readV _ X4 0 _ _ (off7 k t).2.2.2 (by omega) (by decide),
    readV _ X4 1 _ _ (off8 k t).1 (by omega) (by decide), readV _ X4 1 _ _ (off8 k t).2.1 (by omega) (by decide),
    readV _ X4 1 _ _ (off8 k t).2.2.1 (by omega) (by decide), readV _ X4 1 _ _ (off8 k t).2.2.2 (by omega) (by decide)]
  rw [show 8 * (t.val + 1) = 8 * t.val + 1 + 1 + 1 + 1 + 1 + 1 + 1 + 1 by omega]
  exact ⟨rfl, rfl, rfl, rfl, rfl⟩

end Cert.Attn
-- ==== Proof.Attn.T4.lean ====
/-
  One trip of each of the three key loops, run over any interpretation of the floats: it takes the two heads' states
  from after `n` key blocks to after `n + 2`, `n + 4` or `n + 8`, and leaves the next block's scores.
-/
module

public import proofs.«01_k».proof.Proof.Attn.Trip

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)
  (arg2 : Memref sig .tc .vmem S1x1x256x8192 .bf16) (harg2 : arg2.IsWhole)
  (arg3 : Memref sig .tc .vmem S1x1x8192x256 .bf16) (harg3 : arg3.IsWhole)
  (arg4 : Memref sig .tc .vmem S1x2x80x8192 .bf16) (harg4 : arg4.IsWhole)
  (arg5 : Memref sig .tc .vmem S1x1x8192x128 .bf16) (harg5 : arg5.IsWhole)
  (arg6 : Memref sig .tc .vmem S2x256x512 .f32) (harg6 : arg6.IsWhole)
  (arg7 : Memref sig .tc .vmem S2x256x512 .f32) (harg7 : arg7.IsWhole)
  (arg8 : Memref sig .tc .vmem S2x80x512 .f32) (harg8 : arg8.IsWhole)
  (k : Fin k0_t1_loop.trips) (arg9 : BitVec 32) (v5 v8 : FVec F S128x512 .bf16)
  (X3 : BufTy.Contents (Elt F) arg3.view.ty) (X4 : BufTy.Contents (Elt F) arg4.view.ty)
  (f6 : BufTy.Contents (Elt F) arg6.view.ty) (f7 : BufTy.Contents (Elt F) arg7.view.ty)
  (f8 : BufTy.Contents (Elt F) arg8.view.ty) (E : Set ℕ) (acc : FVec F S1x512 .f32 × FVec F S1x512 .f32)

/-- A trip of the two-pair loop takes four key blocks. -/
theorem t4_step (w0 w1 : FVec F S1x512 .f32) (w2 w3 : BitVec 32) (t : Fin (k0_t4_loop k).trips)
    (hg : Good v5 v8 (arg3.view.read (Elt F) X3) (arg4.view.read (Elt F) X4) (8 * (k.val / 4) + 4 * t.val) acc
      (rd0 arg6 f6) (rd1 arg6 f6) (ac0 arg8 f8) (ac1 arg8 f8)) :
    Held c arg3 arg4 arg6 arg7 arg8 X3 X4 f6 f7 f8
      ⊢ wp frame (wpE (defs₀ (F := F)) 𝒱 (c : Thread nD τ) bd) E (k0_t4_body (F := F) i arg2 harg2 arg3 harg3 arg4 harg4 arg5 harg5 arg6 harg6 arg7 harg7 arg8 harg8 k arg9 v5 v8 w0 w1 w2 w3 t acc)
          (HeldGood c arg3 arg4 arg6 arg7 arg8 v5 v8 X3 X4 (8 * (k.val / 4) + 4 * (t.val + 1))) := by
  obtain ⟨a, b⟩ := acc
  obtain ⟨hm, h60, h61, h80, h81⟩ := hg
  obtain ⟨rfl, rfl⟩ := Prod.mk.inj hm
  unfold k0_t4_body
  iintro ⟨H3, H4, H6, H7, H8⟩
  sl_exec
  sl_step
  iexists _, _, _
  isplitr
  rotate_left
  · sl_close
  ipureintro
  sl_open_run
  have e1 := k.isLt.trans_eq trips1
  have e2 := t.isLt.trans_eq (trips4 k)
  simp only [View.readCov, rd0_hit, rd1_hit, rd0_miss, rd1_miss, ac0_hit, ac1_hit, ac0_miss, ac1_miss, h80, h81,
    readK _ X3 0 _ _ (off15 k t).1 (by omega) (by decide), readK _ X3 0 _ _ (off15 k t).2.1 (by omega) (by decide),
    readK _ X3 0 _ _ (off15 k t).2.2.1 (by omega) (by decide), readK _ X3 0 _ _ (off15 k t).2.2.2 (by omega) (by decide),
    readK _ X3 1 _ _ (off16 k t).1 (by omega) (by decide), readK _ X3 1 _ _ (off16 k t).2.1 (by omega) (by decide),
    readK _ X3 1 _ _ (off16 k t).2.2.1 (by omega) (by decide), readK _ X3 1 _ _ (off16 k t).2.2.2 (by omega) (by decide),
    readV _ X4 0 _ _ (off17 k t).1 (by omega) (by decide), readV _ X4 0 _ _ (off17 k t).2 (by omega) (by decide),
    readV _ X4 1 _ _ (off18 k t).1 (by omega) (by decide), readV _ X4 1 _ _ (off18 k t).2 (by omega) (by decide),
    readV _ X4 0 _ _ (off19 k t).1 (by omega) (by decide), readV _ X4 0 _ _ (off19 k t).2 (by omega) (by decide),
    readV _ X4 1 _ _ (off20 k t).1 (by omega) (by decide), readV _ X4 1 _ _ (off20 k t).2 (by omega) (by decide)]
  rw [show 8 * (k.val / 4) + 4 * (t.val + 1) = 8 * (k.val / 4) + 4 * t.val + 1 + 1 + 1 + 1 by omega]
  exact ⟨rfl, rfl, rfl, rfl, rfl⟩

end Cert.Attn
-- ==== Proof.Attn.T6.lean ====
/-
  One trip of each of the three key loops, run over any interpretation of the floats: it takes the two heads' states
  from after `n` key blocks to after `n + 2`, `n + 4` or `n + 8`, and leaves the next block's scores.
-/
module

public import proofs.«01_k».proof.Proof.Attn.Trip

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)
  (arg2 : Memref sig .tc .vmem S1x1x256x8192 .bf16) (harg2 : arg2.IsWhole)
  (arg3 : Memref sig .tc .vmem S1x1x8192x256 .bf16) (harg3 : arg3.IsWhole)
  (arg4 : Memref sig .tc .vmem S1x2x80x8192 .bf16) (harg4 : arg4.IsWhole)
  (arg5 : Memref sig .tc .vmem S1x1x8192x128 .bf16) (harg5 : arg5.IsWhole)
  (arg6 : Memref sig .tc .vmem S2x256x512 .f32) (harg6 : arg6.IsWhole)
  (arg7 : Memref sig .tc .vmem S2x256x512 .f32) (harg7 : arg7.IsWhole)
  (arg8 : Memref sig .tc .vmem S2x80x512 .f32) (harg8 : arg8.IsWhole)
  (k : Fin k0_t1_loop.trips) (arg9 : BitVec 32) (v5 v8 : FVec F S128x512 .bf16)
  (X3 : BufTy.Contents (Elt F) arg3.view.ty) (X4 : BufTy.Contents (Elt F) arg4.view.ty)
  (f6 : BufTy.Contents (Elt F) arg6.view.ty) (f7 : BufTy.Contents (Elt F) arg7.view.ty)
  (f8 : BufTy.Contents (Elt F) arg8.view.ty) (E : Set ℕ) (acc : FVec F S1x512 .f32 × FVec F S1x512 .f32)

/-- A trip of the one-pair loop takes two key blocks. -/
theorem t6_step (w0 w1 : FVec F S1x512 .f32) (w2 w3 : BitVec 32) (t : Fin (k0_t6_loop k).trips)
    (hg : Good v5 v8 (arg3.view.read (Elt F) X3) (arg4.view.read (Elt F) X4) (4 * (k.val / 2) + 2 * t.val) acc
      (rd0 arg6 f6) (rd1 arg6 f6) (ac0 arg8 f8) (ac1 arg8 f8)) :
    Held c arg3 arg4 arg6 arg7 arg8 X3 X4 f6 f7 f8
      ⊢ wp frame (wpE (defs₀ (F := F)) 𝒱 (c : Thread nD τ) bd) E (k0_t6_body (F := F) i arg2 harg2 arg3 harg3 arg4 harg4 arg5 harg5 arg6 harg6 arg7 harg7 arg8 harg8 k arg9 v5 v8 w0 w1 w2 w3 t acc)
          (HeldGood c arg3 arg4 arg6 arg7 arg8 v5 v8 X3 X4 (4 * (k.val / 2) + 2 * (t.val + 1))) := by
  obtain ⟨a, b⟩ := acc
  obtain ⟨hm, h60, h61, h80, h81⟩ := hg
  obtain ⟨rfl, rfl⟩ := Prod.mk.inj hm
  unfold k0_t6_body
  iintro ⟨H3, H4, H6, H7, H8⟩
  sl_exec
  sl_step
  iexists _, _, _
  isplitr
  rotate_left
  · sl_close
  ipureintro
  sl_open_run
  have e1 := k.isLt.trans_eq trips1
  have e2 := t.isLt.trans_eq (trips6 k)
  simp only [View.readCov, rd0_hit, rd1_hit, rd0_miss, rd1_miss, ac0_hit, ac1_hit, ac0_miss, ac1_miss, h80, h81,
    readK _ X3 0 _ _ (off27a k t) (by omega) (by decide),
    readK _ X3 1 _ _ (off28a k t) (by omega) (by decide),
    readK _ X3 0 _ _ (off27b k t) (by omega) (by decide),
    readK _ X3 1 _ _ (off28b k t) (by omega) (by decide),
    readV _ X4 0 _ _ (off29 k t) (by omega) (by decide),
    readV _ X4 1 _ _ (off30 k t) (by omega) (by decide),
    readV _ X4 0 _ _ (off31 k t) (by omega) (by decide),
    readV _ X4 1 _ _ (off32 k t) (by omega) (by decide)]
  rw [show 4 * (k.val / 2) + 2 * (t.val + 1) = 4 * (k.val / 2) + 2 * t.val + 1 + 1 by omega]
  exact ⟨rfl, rfl, rfl, rfl, rfl⟩

end Cert.Attn
-- ==== Proof.Attn.T1.lean ====
/-
  One trip of the query loop: whatever the scratch buffers hold, the trip stores query tile `k`'s 512 rows.
-/
module

public import proofs.«01_k».proof.Proof.Attn.T2
public import proofs.«01_k».proof.Proof.Attn.T4
public import proofs.«01_k».proof.Proof.Attn.T6

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One query tile: the loop's body stores `tile` and passes on. -/
theorem t1_step (𝒱 : Variants) (c : Dev nD) (bd : Option 𝒱.V) (i : grid0.Coords)
    (arg2 : Memref sig .tc .vmem S1x1x256x8192 .bf16) (harg2 : arg2.IsWhole)
    (arg3 : Memref sig .tc .vmem S1x1x8192x256 .bf16) (harg3 : arg3.IsWhole)
    (arg4 : Memref sig .tc .vmem S1x2x80x8192 .bf16) (harg4 : arg4.IsWhole)
    (arg5 : Memref sig .tc .vmem S1x1x8192x128 .bf16) (harg5 : arg5.IsWhole)
    (arg6 : Memref sig .tc .vmem S2x256x512 .f32) (harg6 : arg6.IsWhole)
    (arg7 : Memref sig .tc .vmem S2x256x512 .f32) (harg7 : arg7.IsWhole)
    (arg8 : Memref sig .tc .vmem S2x80x512 .f32) (harg8 : arg8.IsWhole)
    (X2 : BufTy.Contents (Elt F) arg2.view.ty)
    (X3 : BufTy.Contents (Elt F) arg3.view.ty) (X4 : BufTy.Contents (Elt F) arg4.view.ty)
    (f5 : BufTy.Contents (Elt F) arg5.view.ty) (f6 : BufTy.Contents (Elt F) arg6.view.ty)
    (f7 : BufTy.Contents (Elt F) arg7.view.ty) (f8 : BufTy.Contents (Elt F) arg8.view.ty)
    (E : Set ℕ) (k : Fin k0_t1_loop.trips) (acc : Unit) :
    iprop((arg2.view.loc (c : Thread nD τ) ↦[arg2.view.set]{fullShare} X2) ∗ (arg5.view.loc (c : Thread nD τ) ↦[arg5.view.set]{fullShare} f5)
        ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 k acc)
          (fun _ => iprop(∃ g5 g6 g7 g8, ⌜g5 = arg5.view.writes (Elt F) f5
                [⟨Rect.unit (s := S1x1x8192x128) (k0_off45 k) S1x1x512x128.size (k0_off45_inb k), tile (arg2.view.read (Elt F) X2) (arg3.view.read (Elt F) X3) (arg4.view.read (Elt F) X4) k.val⟩]⌝
            ∗ (arg2.view.loc (c : Thread nD τ) ↦[arg2.view.set]{fullShare} X2)
            ∗ (arg5.view.loc (c : Thread nD τ) ↦[arg5.view.set]{fullShare} g5)
            ∗ Held c arg3 arg4 arg6 arg7 arg8 X3 X4 g6 g7 g8)) := by
  have h3 := trips3 k
  have h5 := trips5 k
  have h7 := trips7 k
  unfold k0_t1_body
  iintro ⟨H2, H5, H3, H4, H6, H7, H8⟩
  sl_exec
  have e1 := k.isLt.trans_eq trips1
  have hq0 : t1_step.sl.r arg2 X2 k = qB (arg2.view.read (Elt F) X2) 0 k.val := by
    sl_open_run
    exact readQ _ _ 0 _ _ (off1 k) (by omega) (by decide)
  have hq1 : t1_step.sl.r_1 arg2 X2 k = qB (arg2.view.read (Elt F) X2) 1 k.val := by
    sl_open_run
    exact readQ _ _ 1 _ _ (off2 k) (by omega) (by decide)
  sl_for (fun n ms => HeldGood c arg3 arg4 arg6 arg7 arg8 (t1_step.sl.r arg2 X2 k) (t1_step.sl.r_1 arg2 X2 k) X3 X4 (8 * n) ms) $$ [H3 H4 H6 H7 H8]
  case region =>
    intro t acc
    iintro ⟨%g6, %g7, %g8, %hg, H⟩
    iapply (t2_step 𝒱 c bd i arg2 harg2 arg3 harg3 arg4 harg4 arg5 harg5 arg6 harg6 arg7 harg7 arg8 harg8 k _ _ _ X3 X4 g6 g7 g8 E acc _ _ t hg)
    iexact H
  · iexists _, _, _
    isplitr
    rotate_left
    · sl_close
    ipureintro
    sl_open_run
    simp only [rd0_hit, rd1_hit, rd0_miss, ac0_zero, ac1_zero,
      readK _ X3 0 0 _ (show (![0, 0, 0, 0] : Fin 4 → ℕ) = ![0, 0, 256 * 0, 128 * 0] from rfl) (by decide) (by decide),
      readK _ X3 1 0 _ (show (![0, 0, 0, 128] : Fin 4 → ℕ) = ![0, 0, 256 * 0, 128 * 1] from rfl) (by decide) (by decide)]
    exact ⟨rfl, rfl, rfl, rfl, rfl⟩
  iintro %ms ⟨%g6, %g7, %g8, %hg, H3, H4, H6, H7, H8⟩
  have e2 : Scf.trips (k0_t2_loop k).lb (k0_t2_loop k).ub (k0_t2_loop k).st = k.val / 4 := trips2 k
  rw [e2] at hg
  sl_exec
  sl_for (fun n ms => HeldGood c arg3 arg4 arg6 arg7 arg8 (t1_step.sl.r arg2 X2 k) (t1_step.sl.r_1 arg2 X2 k) X3 X4 (8 * (k.val / 4) + 4 * n) ms) $$ [H3 H4 H6 H7 H8]
  case region =>
    intro t acc
    iintro ⟨%g6, %g7, %g8, %hg, H⟩
    iapply (t4_step 𝒱 c bd i arg2 harg2 arg3 harg3 arg4 harg4 arg5 harg5 arg6 harg6 arg7 harg7 arg8 harg8 k _ _ _ X3 X4 g6 g7 g8 E acc _ _ _ _ t hg)
    iexact H
  · iexists g6, g7, g8
    isplitr
    · ipureintro; exact hg
    sl_close
  iintro %ms ⟨%g6, %g7, %g8, %hg, H3, H4, H6, H7, H8⟩
  have e4 : 8 * (k.val / 4) + 4 * Scf.trips (k0_t4_loop k).lb (k0_t4_loop k).ub (k0_t4_loop k).st = 4 * (k.val / 2) := by
    rw [show Scf.trips (k0_t4_loop k).lb (k0_t4_loop k).ub (k0_t4_loop k).st = _ from trips4 k]
    omega
  rw [e4] at hg
  sl_exec
  sl_for (fun n ms => HeldGood c arg3 arg4 arg6 arg7 arg8 (t1_step.sl.r arg2 X2 k) (t1_step.sl.r_1 arg2 X2 k) X3 X4 (4 * (k.val / 2) + 2 * n) ms) $$ [H3 H4 H6 H7 H8]
  case region =>
    intro t acc
    iintro ⟨%g6, %g7, %g8, %hg, H⟩
    iapply (t6_step 𝒱 c bd i arg2 harg2 arg3 harg3 arg4 harg4 arg5 harg5 arg6 harg6 arg7 harg7 arg8 harg8 k _ _ _ X3 X4 g6 g7 g8 E acc _ _ _ _ t hg)
    iexact H
  · iexists g6, g7, g8
    isplitr
    · ipureintro; exact hg
    sl_close
  iintro %ms ⟨%g6, %g7, %g8, %hg, H3, H4, H6, H7, H8⟩
  have e6 : 4 * (k.val / 2) + 2 * Scf.trips (k0_t6_loop k).lb (k0_t6_loop k).ub (k0_t6_loop k).st = 2 * k.val := by
    rw [show Scf.trips (k0_t6_loop k).lb (k0_t6_loop k).ub (k0_t6_loop k).st = _ from trips6 k]
    omega
  rw [e6] at hg
  obtain ⟨m0, m1⟩ := ms
  obtain ⟨hm, h60, h61, h80, h81⟩ := hg
  obtain ⟨rfl, rfl⟩ := Prod.mk.inj hm
  sl_exec
  sl_step
  iexists _, _, _, _
  isplitr
  rotate_left
  · sl_close
  ipureintro
  sl_open_run
  simp only [View.readCov, top0, one0, top1, one1, rd0_hit, rd1_hit, rd0_miss, rd1_miss, ac0_hit, ac1_hit, ac0_miss, ac1_miss, h60, h61, h80, h81,
    readQ _ X2 0 _ _ (off1 k) e1 (by decide), readK _ X3 0 _ _ (off39 k) (by omega) (by decide), readK _ X3 1 _ _ (off40 k) (by omega) (by decide),
    readV _ X4 0 _ _ (off41 k) (by omega) (by decide), readV _ X4 1 _ _ (off42 k) (by omega) (by decide),
    readV _ X4 0 _ _ (off43 k) (by omega) (by decide), readV _ X4 1 _ _ (off44 k) (by omega) (by decide)]
  rw [show k0_pay297 = k0_pay296 (F := F) from rfl]
  simp only [readQ _ X2 1 _ _ (off2 k) e1 (by decide)]
  simp only [score0, score1, diag0, diag1]
  rfl

end Cert.Attn
-- ==== Proof.Attn.Run.lean ====
/-
  The attention call run over any interpretation of the floats: a grid point's body leaves `outBlk` of its three input
  blocks in the result's staging buffer, so the whole program ends with the result array at what the pipeline makes of
  those blocks, its arguments unchanged and every semaphore counter at zero.
-/
module

public import proofs.«01_k».proof.Proof.Attn.T1

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-- No loop measure is needed. -/
abbrev 𝒱₀ : Variants := Variants.none

/-- The result block of a grid point: row `512 k + r` is row `r` of query tile `k`. -/
def outBlk (x2 : Vec F S1x1x256x8192 .bf16) (x3 : Vec F S1x1x8192x256 .bf16) (x4 : Vec F S1x2x80x8192 .bf16) : Vec F S1x1x8192x128 .bf16 :=
  fun y => tile x2 x3 x4 ((y 2).val / 512) (fun a => match a with
    | ⟨0, _⟩ => (0 : Fin 1)
    | ⟨1, _⟩ => (0 : Fin 1)
    | ⟨2, _⟩ => (⟨(y 2).val % 512, Nat.mod_lt _ (by decide)⟩ : Fin 512)
    | ⟨3, _⟩ => (⟨(y 3).val, (y 3).isLt⟩ : Fin 128))

/-- Storing tile `k` over a block whose first `k` tiles are in place puts the first `k + 1` in place. -/
theorem rows_step (arg5 : Memref sig .tc .vmem S1x1x8192x128 .bf16) (f : BufTy.Contents (Elt F) arg5.view.ty) (k : Fin k0_t1_loop.trips)
    (x2 : Vec F S1x1x256x8192 .bf16) (x3 : Vec F S1x1x8192x256 .bf16) (x4 : Vec F S1x2x80x8192 .bf16)
    (h : ∀ y : S1x1x8192x128.Idx, (y 2).val < 512 * k.val → arg5.view.read (Elt F) f y = outBlk x2 x3 x4 y)
    (y : S1x1x8192x128.Idx) (hy : (y 2).val < 512 * (k.val + 1)) :
    arg5.view.read (Elt F) (arg5.view.writes (Elt F) f
      [⟨Rect.unit (s := S1x1x8192x128) (k0_off45 k) S1x1x512x128.size (k0_off45_inb k), tile x2 x3 x4 k.val⟩]) y = outBlk x2 x3 x4 y := by
  by_cases hk : (y 2).val < 512 * k.val
  · rw [View.read_writes_cons_unit_of_not_mem _ _ _ _ _ y (off45 k) (2 : Fin 4) (Or.inl (by simpa using hk))]
    exact h y hk
  · have e : (y 2).val / 512 = k.val := by omega
    have y0 : (y 0).val < 1 := (y 0).isLt
    have y1 : (y 1).val < 1 := (y 1).isLt
    unfold outBlk
    rw [e]
    refine View.read_writes_cons_unit_of_mem _ _ _ _ _ y _ (off45 k) fun a => ?_
    fin_cases a
    · show (y 0).val = 0 + 0; omega
    · show (y 1).val = 0 + 0; omega
    · show (y 2).val = 512 * k.val + (y 2).val % 512; omega
    · show (y 3).val = 0 + (y 3).val; omega

/-- The body at any memrefs: it leaves the inputs as they were and `outBlk` of them in the result's. -/
theorem kernelRun (c : Dev nD) (i : grid0.Coords)
    (arg2 : Memref sig .tc .vmem S1x1x256x8192 .bf16) (harg2 : arg2.IsWhole)
    (arg3 : Memref sig .tc .vmem S1x1x8192x256 .bf16) (harg3 : arg3.IsWhole)
    (arg4 : Memref sig .tc .vmem S1x2x80x8192 .bf16) (harg4 : arg4.IsWhole)
    (arg5 : Memref sig .tc .vmem S1x1x8192x128 .bf16) (harg5 : arg5.IsWhole)
    (arg6 : Memref sig .tc .vmem S2x256x512 .f32) (harg6 : arg6.IsWhole)
    (arg7 : Memref sig .tc .vmem S2x256x512 .f32) (harg7 : arg7.IsWhole)
    (arg8 : Memref sig .tc .vmem S2x80x512 .f32) (harg8 : arg8.IsWhole)
    (x2 : Vec F S1x1x256x8192 .bf16) (x3 : Vec F S1x1x8192x256 .bf16) (x4 : Vec F S1x2x80x8192 .bf16)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (outBlk x2 x3 x4) ∗ (∃ d, owns (c : Thread nD τ) arg6 fullShare d)
            ∗ (∃ d, owns (c : Thread nD τ) arg7 fullShare d) ∗ (∃ d, owns (c : Thread nD τ) arg8 fullShare d)) -∗ K ⟨⟩))
      ⊢ wp frame (wpE (defs₀ (F := F)) 𝒱₀ c none) E (cc0_attn i arg2 harg2 arg3 harg3 arg4 harg4 arg5 harg5 arg6 harg6 arg7 harg7 arg8 harg8) K := by
  unfold owns
  iintro ⟨⟨%X2, %h2, H2⟩, ⟨%X3, %h3, H3⟩, ⟨%X4, %h4, H4⟩, ⟨%d5, %f5, -, H5⟩, ⟨%d6, %f6, -, H6⟩, ⟨%d7, %f7, -, H7⟩, ⟨%d8, %f8, -, H8⟩, Hk⟩
  subst h2 h3 h4
  sl_unfold [cc0_attn]
  sl_exec
  sl_for (fun n _ => iprop(∃ g5 g6 g7 g8, ⌜∀ y : S1x1x8192x128.Idx, (y 2).val < 512 * n → arg5.view.read (Elt F) g5 y
        = outBlk (arg2.view.read (Elt F) X2) (arg3.view.read (Elt F) X3) (arg4.view.read (Elt F) X4) y⌝
      ∗ (arg2.view.loc (c : Thread nD τ) ↦[arg2.view.set]{fullShare} X2) ∗ (arg5.view.loc (c : Thread nD τ) ↦[arg5.view.set]{fullShare} g5)
      ∗ Held c arg3 arg4 arg6 arg7 arg8 X3 X4 g6 g7 g8)) $$ [H2 H3 H4 H5 H6 H7 H8]
  case region =>
    intro k acc
    iintro ⟨%g5, %g6, %g7, %g8, %hg, H⟩
    iapply (wp_wand_r Idealize.ShloMosaic.frame (wpE (defs₀ (F := F)) 𝒱₀ (c : Thread nD τ) none) E)
    isplitl [H]
    · iapply (t1_step 𝒱₀ c none i arg2 harg2 arg3 harg3 arg4 harg4 arg5 harg5 arg6 harg6 arg7 harg7 arg8 harg8 X2 X3 X4 g5 g6 g7 g8 E k acc)
      iexact H
    · iintro %yld ⟨%j5, %j6, %j7, %j8, %hj, H⟩
      iexists j5, j6, j7, j8
      isplitr
      · ipureintro
        subst hj
        exact rows_step arg5 g5 k _ _ _ hg
      iexact H
  · iexists f5, f6, f7, f8
    isplitr
    · ipureintro
      intro y hy
      exact absurd hy (by omega)
    sl_close
  iintro %acc ⟨%g5, %g6, %g7, %g8, %hg, H2, H5, H3, H4, H6, H7, H8⟩
  have e : Scf.trips k0_t1_loop.lb k0_t1_loop.ub k0_t1_loop.st = 16 := trips1
  rw [e] at hg
  sl_exec
  sl_step
  iapply Hk
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]
  · iexists _; isplitr; swap; (· iexact H5); ipureintro
    exact funext fun y => hg y (show (y 2).val < 512 * 16 from (y 2).isLt)
  isplitl [H6]; · iexists _, _; isplitr; swap; (· iexact H6); ipureintro; rfl
  isplitl [H7]; · iexists _, _; isplitr; swap; (· iexact H7); ipureintro; rfl
  iexists _, _; isplitr; swap; (· iexact H8); ipureintro; rfl

/-! ## The pipeline's proof data -/

variable (m : (ℓ : Loc nD τ sig) → Buf (Elt F) ℓ) (ρ : Dev nD → PrngReg)

/-- The arrays as the region finds them; after the body each input's buffer at its block and the result's at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

/-- A window's array at entry is what the host operations left in it. -/
theorem A_eq (c : Dev nD) (w : Fin cfg0.W) : (dats m 0 c).A w = V m c (Pipeline.arrRef spec0 w) := rfl
/-- The body leaves the query block as it was. -/
theorem after0_0 (c : Dev nD) (t : Fin cfg0.N) : (dats m 0 c).after 0 t = iblk m c 0 t := by dsimp only [dats]
/-- The body leaves the key block as it was. -/
theorem after0_1 (c : Dev nD) (t : Fin cfg0.N) : (dats m 0 c).after 1 t = iblk m c 1 t := by dsimp only [dats]
/-- The body leaves the value block as it was. -/
theorem after0_2 (c : Dev nD) (t : Fin cfg0.N) : (dats m 0 c).after 2 t = iblk m c 2 t := by dsimp only [dats]
/-- The body leaves `outBlk` in the result's block. -/
theorem after0_3 (c : Dev nD) (t : Fin cfg0.N) :
    (dats m 0 c).after 3 t = outBlk (iblk m c 0 t) (iblk m c 1 t) (iblk m c 2 t) := by dsimp only [dats]

/-- The body finds the query block staged. -/
theorem before0_0 (c : Dev nD) (t : Fin cfg0.N) (d) : (dats m 0 c).before 0 t d = iblk m c 0 t :=
  before0_0_of m (dats m 0 c) (A_eq m c 0) (after0_0 m c) t d
/-- The body finds the key block staged. -/
theorem before0_1 (c : Dev nD) (t : Fin cfg0.N) (d) : (dats m 0 c).before 1 t d = iblk m c 1 t :=
  before0_1_of m (dats m 0 c) (A_eq m c 1) (after0_1 m c) t d
/-- The body finds the value block staged. -/
theorem before0_2 (c : Dev nD) (t : Fin cfg0.N) (d) : (dats m 0 c).before 2 t d = iblk m c 2 t :=
  before0_2_of m (dats m 0 c) (A_eq m c 2) (after0_2 m c) t d

/-- The scratch buffers as the region hands them over, each owned whole at some contents. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) := by
  rw [scopedRest0_eq]
  simp only [owns_whole]

/-- Every grid point's body meets the pipeline's obligation. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold Pipeline.ΦA
  rw [scratch_eq]
  iintro ⟨⟨⟨H6, H7, H8⟩, Hp⟩, Ho, ⟨%d0, H0⟩, ⟨%d1, H1⟩, ⟨%d2, H2⟩, ⟨%d3, H3⟩⟩
  iapply (kernelRun c _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H6]; · iexact H6
  isplitl [H7]; · iexact H7
  isplitl [H8]; · iexact H8
  iintro ⟨H0, H1, H2, H3, H6, H7, H8⟩
  isplitl [H6 H7 H8 Hp]
  · isplitl [H6 H7 H8]
    · isplitl [H6]; · iexact H6
      isplitl [H7]; · iexact H7
      iexact H8
    iexact Hp
  isplitl [Ho]; · iexact Ho
  isplitl [H0]; · iexact H0
  isplitl [H1]; · iexact H1
  isplitl [H2]; · iexact H2
  iexact H3

/-! ## The run and the frame -/

set_option backward.isDefEq.respectTransparency.types false in
/-- From any memory with zero counters every weakly fair execution terminates, every array of the pipeline at what the
    proof data make of it and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The arguments are unchanged and every counter is zero at the end. -/
theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Attn
-- ==== Proof.Attn.Same.lean ====
/-
  The kernel program and its idealization have one text: their main functions and their body tables are equal.
-/
module

public import proofs.«01_k».proof.Defs
public import proofs.«01_k».proof.Proof.Gen.Kernel
public import proofs.«01_k».proof.Proof.Gen.KernelIdeal

@[expose] public section

set_option maxRecDepth 100000

namespace Cert.Attn

open Idealize.ShloMosaic

/-- The attention bodies agree. -/
theorem body_eq : Cert.Kernel.cc0_attn (F := Bits) = Cert.KernelIdeal.cc0_attn (F := Bits) := rfl

/-- The body tables without the pipelines agree. -/
theorem defs₀_eq : Cert.Kernel.defs₀ (F := Bits) = Cert.KernelIdeal.defs₀ (F := Bits) := by
  unfold Cert.Kernel.defs₀
  rw [body_eq]
  unfold Cert.KernelIdeal.defs₀
  refine congrArg Defs.onTc (funext fun l => funext fun a => ?_)
  match l, a with
  | 0, (t, s) => rfl

/-- The body tables agree. -/
theorem defs_eq : Cert.Kernel.defs (F := Bits) = Cert.KernelIdeal.defs (F := Bits) :=
  congrArg (Pipeline.defs Cert.KernelIdeal.pcfgs) defs₀_eq

/-- The main functions agree. -/
theorem main_eq : Cert.Kernel.main (F := Bits) = Cert.KernelIdeal.main (F := Bits) := rfl

end Cert.Attn
-- ==== Proof.Attn.At.lean ====
/-
  The attention kernel's vector operations over the extended reals, read at an index: a block's scores, the raised
  maximum, the rescaled sums, the mask, the blocks of the operands and the quotient's tile.
-/
module

public import proofs.«01_k».proof.Defs
public import proofs.«01_k».proof.Proof.Attn.Model
public import Idealize.ShloMosaic.Lib.MatmulPlain
public import Idealize.ShloMosaic.Lib.ValueLayout
public import Idealize.ShloMosaic.Lib.Pipeline.Value
public import Idealize.ShloMosaic.Lib.Pointwise

@[expose] public section

set_option maxRecDepth 16384

noncomputable section

namespace Cert.Attn

open Cert.KernelIdeal Cert.KernelIdeal.Gen
open Idealize.ShloMosaic hiding ix1 ix2 ix3 ix4 ix5
open Idealize.ShloMosaic.ValueIdx

/-- Scores: key row `j` against query column `r`. -/
theorem score_at (q : FVec Ideal S128x512 .bf16) (kb : Vec Ideal S1x1x256x128 .bf16) (j : Fin 256) (r : Fin 512) :
    shapeCast S256x512 (score q kb) shapeCasts_S1x256x512_S256x512 (ix2 j r)
      = ∑ i : Fin 128, kb (ix4 0 0 j i) * q (ix2 i r) := by
  unfold score k0_pay252
  dsimp only
  rw [shapeCast_shapeCast]
  refine (Ideal.matmul_plain_apply (M := 256) (K := 128) (N := 512) none _ q _ j r).trans ?_
  rw [constant_apply]
  show Ideal.ofBits .f32 0x00000000#32 + _ = _
  rw [Ideal.ofBits_zero_f32, zero_add]
  refine Finset.sum_congr rfl fun i _ => ?_
  rw [shapeCast_apply _ _ _ (ix4 0 0 j i) (by simp [Shape.rowMajor_val_four, Shape.rowMajor_val_two])]

/-- The word of −∞ is the extended real −∞. -/
theorem bot_word : (Scalar.ofBits (F := Ideal) .f32 0xFF800000#32 : EReal) = ⊥ := by
  show Ideal.ofBits .f32 0xFF800000#32 = ⊥
  simp [Ideal.ofBits, Ideal.ieee]

/-- The raised maximum of a column. -/
theorem newMax_at (m : FVec Ideal S1x512 .f32) (e : FVec Ideal S256x512 .f32) (r : Fin 512) :
    newMax m e (ix2 0 r) = max (m (ix2 0 r)) ((Finset.univ : Finset (Fin 256)).fold max ⊥ fun j => e (ix2 j r)) := by
  unfold newMax
  rw [maximumf_apply]
  refine congrArg (max (m (ix2 0 r))) ?_
  refine (shapeCast_apply _ _ _ (ix1 r) (by simp [Shape.rowMajor_val_two, Shape.rowMajor_val_one])).trans ?_
  have hb : (FloatOps.ofBits .f32 0xFF800000#32 : Ideal .f32) = (⊥ : EReal) := bot_word
  have key : ∀ h0 h1, multiReduction .maximumf [0] S512 e 0xFF800000#32 reduces_S256x512_S512 h0 h1 (ix1 r)
      = (Finset.univ : Finset (Fin 256)).fold max ⊥ fun j => e (ix2 j r) := fun h0 h1 => by
    have h := Ideal.multiReduction_maximumf_single e 0xFF800000#32 reduces_S256x512_S512 h0 h1 (ix1 r)
    rw [hb] at h
    refine h.trans (congrArg (fun f => (Finset.univ : Finset (Fin 256)).fold max (⊥ : EReal) f) (funext fun j => ?_))
    exact congrArg e (funext fun a => Fin.ext (by match a with | ⟨0, _⟩ => rfl | ⟨1, _⟩ => rfl))
  exact key _ _

/-- The rescaled sums of a column. -/
theorem newAcc_at (m : FVec Ideal S1x512 .f32) (e : FVec Ideal S256x512 .f32) (a : FVec Ideal S1x80x512 .f32) (vb : Vec Ideal S1x1x80x256 .bf16)
    (d : Fin 80) (r : Fin 512) :
    newAcc m e a vb (ix3 0 d r) = Ideal.exp2 (m (ix2 0 r) - newMax m e (ix2 0 r)) * a (ix3 0 d r)
      + ∑ j : Fin 256, vb (ix4 0 0 d j) * Ideal.exp2 (e (ix2 j r) - newMax m e (ix2 0 r)) := by
  unfold newAcc
  rw [shapeCast_apply _ _ _ (ix2 d r) (by simp [Shape.rowMajor_val_two, Shape.rowMajor_val_three])]
  rw [addf_apply, mulf_apply]
  congr 1
  · congr 1
    · rw [broadcastTo_apply _ _ _ (ix2 0 r) (by intro a; fin_cases a <;> rfl)]; rfl
    · rw [shapeCast_apply _ _ _ (ix3 0 d r) (by simp [Shape.rowMajor_val_two, Shape.rowMajor_val_three])]
  · refine (Ideal.matmul_plain_apply (M := 80) (K := 256) (N := 512) none _ _ _ d r).trans ?_
    rw [constant_apply]
    show Ideal.ofBits .f32 0x00000000#32 + _ = _
    rw [Ideal.ofBits_zero_f32, zero_add]
    refine Finset.sum_congr rfl fun j _ => ?_
    rw [shapeCast_apply _ _ _ (ix4 0 0 d j) (by simp [Shape.rowMajor_val_four, Shape.rowMajor_val_two])]
    congr 1
    show Ideal.exp2 (e (ix2 j r) - broadcastTo S256x512 (newMax m e) broadcasts_S1x512_S256x512 (ix2 j r)) = _
    rw [broadcastTo_apply _ _ _ (ix2 0 r) (by intro a; fin_cases a <;> rfl)]

/-- The masked scores of the tile's first half of keys. -/
theorem masked0_at (s : FVec Ideal S1x256x512 .f32) (j : Fin 256) (r : Fin 512) :
    masked 0#32 s (ix2 j r) = if j.val ≤ r.val then shapeCast S256x512 s shapeCasts_S1x256x512_S256x512 (ix2 j r) else ⊥ := by
  have hj := j.isLt
  have hr := r.isLt
  have e : cmpi .sle (addi (broadcast S256x512 0#32) (iota .tc S256x512 32 [0] iota_S256x512_d0_w32)) (iota .tc S256x512 32 [1] iota_S256x512_d1_w32) (ix2 j r)
      = if j.val ≤ r.val then 1#1 else 0#1 := by
    have e1 : addi (broadcast S256x512 0#32) (iota .tc S256x512 32 [0] iota_S256x512_d0_w32) (ix2 j r) = BitVec.ofNat 32 (j.val) := by
      show BitVec.ofNat 32 0 + BitVec.ofNat 32 _ = _
      rw [← BitVec.ofNat_add]
      congr 1
      show 0 + (0 + j.val) = _
      omega
    have e2 : iota .tc S256x512 32 [1] iota_S256x512_d1_w32 (ix2 j r) = BitVec.ofNat 32 r.val := by
      show BitVec.ofNat 32 _ = _
      congr 1
      show 0 + r.val = _
      omega
    show IntOp.cmpi .sle _ _ = _
    rw [e1, e2, WordCmp.cmpi_sle_eq, WordCmp.toInt_ofNat_of_lt (by omega), WordCmp.toInt_ofNat_of_lt (by omega)]
    by_cases hc : j.val ≤ r.val
    · rw [if_pos hc, decide_eq_true (by omega)]; rfl
    · rw [if_neg hc, decide_eq_false (by omega)]; rfl
  unfold masked
  rw [select_apply, e]
  split
  · rfl
  · exact bot_word

/-- The masked scores of its second half. -/
theorem masked1_at (s : FVec Ideal S1x256x512 .f32) (j : Fin 256) (r : Fin 512) :
    masked 256#32 s (ix2 j r) = if 256 + j.val ≤ r.val then shapeCast S256x512 s shapeCasts_S1x256x512_S256x512 (ix2 j r) else ⊥ := by
  have hj := j.isLt
  have hr := r.isLt
  have e : cmpi .sle (addi (broadcast S256x512 256#32) (iota .tc S256x512 32 [0] iota_S256x512_d0_w32)) (iota .tc S256x512 32 [1] iota_S256x512_d1_w32) (ix2 j r)
      = if 256 + j.val ≤ r.val then 1#1 else 0#1 := by
    have e1 : addi (broadcast S256x512 256#32) (iota .tc S256x512 32 [0] iota_S256x512_d0_w32) (ix2 j r) = BitVec.ofNat 32 (256 + j.val) := by
      show BitVec.ofNat 32 256 + BitVec.ofNat 32 _ = _
      rw [← BitVec.ofNat_add]
      congr 1
      show 256 + (0 + j.val) = _
      omega
    have e2 : iota .tc S256x512 32 [1] iota_S256x512_d1_w32 (ix2 j r) = BitVec.ofNat 32 r.val := by
      show BitVec.ofNat 32 _ = _
      congr 1
      show 0 + r.val = _
      omega
    show IntOp.cmpi .sle _ _ = _
    rw [e1, e2, WordCmp.cmpi_sle_eq, WordCmp.toInt_ofNat_of_lt (by omega), WordCmp.toInt_ofNat_of_lt (by omega)]
    by_cases hc : 256 + j.val ≤ r.val
    · rw [if_pos hc, decide_eq_true (by omega)]; rfl
    · rw [if_neg hc, decide_eq_false (by omega)]; rfl
  unfold masked
  rw [select_apply, e]
  split
  · rfl
  · exact bot_word

/-- An element of a key block, at its place in the packed keys. -/
theorem kB_at (x : Vec Ideal S1x1x8192x256 .bf16) (h : Fin 2) (n : ℕ) (hn : n < 32) (j : Fin 256) (i : Fin 128) :
    kB x h.val n (ix4 0 0 j i) = x (ix4 0 0 ⟨256 * n + j.val, by omega⟩ ⟨128 * h.val + i.val, by omega⟩) := by
  refine congrArg x (funext fun a => Fin.ext ?_)
  have := Nat.mod_eq_of_lt hn
  have := Nat.mod_eq_of_lt h.isLt
  match a with
  | ⟨0, _⟩ => rfl
  | ⟨1, _⟩ => rfl
  | ⟨2, _⟩ => show 256 * (n % 32) + 1 * j.val = 256 * n + j.val; omega
  | ⟨3, _⟩ => show 128 * (h.val % 2) + 1 * i.val = 128 * h.val + i.val; omega

/-- An element of a value block, at its place in the packed values. -/
theorem vB_at (x : Vec Ideal S1x2x80x8192 .bf16) (h : Fin 2) (n : ℕ) (hn : n < 32) (d : Fin 80) (j : Fin 256) :
    vB x h.val n (ix4 0 0 d j) = x (ix4 0 h d ⟨256 * n + j.val, by omega⟩) := by
  refine congrArg x (funext fun a => Fin.ext ?_)
  have := Nat.mod_eq_of_lt hn
  have := Nat.mod_eq_of_lt h.isLt
  match a with
  | ⟨0, _⟩ => rfl
  | ⟨1, _⟩ => show h.val % 2 + 1 * 0 = h.val; omega
  | ⟨2, _⟩ => show 0 + 1 * d.val = d.val; omega
  | ⟨3, _⟩ => show 256 * (n % 32) + 1 * j.val = 256 * n + j.val; omega

/-- An element of a query tile, at its place in the packed queries. -/
theorem qB_at (x : Vec Ideal S1x1x256x8192 .bf16) (h : Fin 2) (k : ℕ) (hk : k < 16) (i : Fin 128) (r : Fin 512) :
    qB x h.val k (ix2 i r) = x (ix4 0 0 ⟨128 * h.val + i.val, by omega⟩ ⟨512 * k + r.val, by omega⟩) := by
  unfold qB k0_pay296
  dsimp only
  rw [shapeCast_apply _ _ _ (ix4 0 0 i r) (by simp [Shape.rowMajor_val_four, Shape.rowMajor_val_two])]
  refine congrArg x (funext fun a => Fin.ext ?_)
  have := Nat.mod_eq_of_lt hk
  have := Nat.mod_eq_of_lt h.isLt
  match a with
  | ⟨0, _⟩ => rfl
  | ⟨1, _⟩ => rfl
  | ⟨2, _⟩ => show 128 * (h.val % 2) + 1 * i.val = 128 * h.val + i.val; omega
  | ⟨3, _⟩ => show 512 * (k % 16) + 1 * r.val = 512 * k + r.val; omega

/-- Two blocks of 64 rows, one above the other. -/
theorem halves_at (x y : FVec Ideal S64x512 .f32) (hc : Shape.Concatenates [S64x512, S64x512] S128x512 0) (h : Fin 2) (d : Fin 64) (r : Fin 512) :
    concatenate S128x512 0 [⟨S64x512, x⟩, ⟨S64x512, y⟩] hc (ix2 ⟨64 * h.val + d.val, by omega⟩ r) = (if h = 0 then x else y) (ix2 d r) := by
  match h with
  | ⟨0, _⟩ =>
    exact concatenate_apply_piece (t := S128x512) 0 [⟨S64x512, x⟩, ⟨S64x512, y⟩] hc _ 0 (by simp) S64x512 x rfl rfl 0 rfl (ix2 d r)
      (by intro b hb; match b with
          | ⟨0, _⟩ => exact absurd rfl hb
          | ⟨1, _⟩ => rfl)
      (by show 0 + d.val = 64 * 0 + d.val; omega)
  | ⟨1, _⟩ =>
    exact concatenate_apply_piece (t := S128x512) 0 [⟨S64x512, x⟩, ⟨S64x512, y⟩] hc _ 1 (by simp) S64x512 y rfl rfl 64 rfl (ix2 d r)
      (by intro b hb; match b with
          | ⟨0, _⟩ => exact absurd rfl hb
          | ⟨1, _⟩ => rfl)
      (by show 64 + d.val = 64 * 1 + d.val; omega)

/-- A block of sums over its weights' sum. -/
theorem quot_at (a : FVec Ideal S1x80x512 .f32) (d : Fin 64) (r : Fin 512) :
    k0_pay322 (top a) (one a) (ix2 d r) = Ideal.div (a (ix3 0 ⟨d.val, by omega⟩ r)) (a (ix3 0 64 r)) := by
  unfold k0_pay322
  rw [divf_apply, broadcastTo_apply _ _ _ (ix2 0 r) (by intro a; fin_cases a <;> rfl)]
  rw [shapeCast_apply _ _ _ (ix3 0 d r) (by simp [Shape.rowMajor_val_three, Shape.rowMajor_val_two])]
  rw [shapeCast_apply _ _ _ (ix3 0 0 r) (by simp [Shape.rowMajor_val_three, Shape.rowMajor_val_two])]
  congr 1
  · refine congrArg a (funext fun b => Fin.ext ?_)
    match b with
    | ⟨0, _⟩ => rfl
    | ⟨1, _⟩ => show 0 + 1 * d.val = d.val; omega
    | ⟨2, _⟩ => show 0 + 1 * r.val = r.val; omega
  · refine congrArg a (funext fun b => Fin.ext ?_)
    match b with
    | ⟨0, _⟩ => rfl
    | ⟨1, _⟩ => rfl
    | ⟨2, _⟩ => show 0 + 1 * r.val = r.val; omega

/-- A result tile: row `r`, lane `64 h + d` is the quotient of the head's sum `d` and its sum of the weights. -/
theorem tile_at (x2 : Vec Ideal S1x1x256x8192 .bf16) (x3 : Vec Ideal S1x1x8192x256 .bf16) (x4 : Vec Ideal S1x2x80x8192 .bf16) (k : ℕ)
    (r : Fin 512) (h : Fin 2) (d : Fin 64) :
    tile x2 x3 x4 k (ix4 0 0 r ⟨64 * h.val + d.val, by omega⟩)
      = Ideal.div ((full (qB x2 h.val k) x3 x4 h.val k).2 (ix3 0 ⟨d.val, by omega⟩ r))
          ((full (qB x2 h.val k) x3 x4 h.val k).2 (ix3 0 64 r)) := by
  have hd := d.isLt
  have hh := h.isLt
  show shapeCast S1x1x512x128 (truncf .bf16 (transpose S512x128 [1, 0] (concatenate S128x512 0
    [⟨S64x512, k0_pay322 (top (full (qB x2 0 k) x3 x4 0 k).2) (one (full (qB x2 0 k) x3 x4 0 k).2)⟩,
     ⟨S64x512, k0_pay322 (top (full (qB x2 1 k) x3 x4 1 k).2) (one (full (qB x2 1 k) x3 x4 1 k).2)⟩]
    concatenates_S64x512_S64x512_S128x512_d0) transposes_S128x512_p1_0_S512x128) bitsLt_bf16_f32) shapeCasts_S512x128_S1x1x512x128 _ = _
  rw [shapeCast_apply _ _ _ (ix2 r ⟨64 * h.val + d.val, by omega⟩) (by simp [Shape.rowMajor_val_four, Shape.rowMajor_val_two])]
  rw [truncf_apply, transpose_apply _ _ _ _ (ix2 ⟨64 * h.val + d.val, by omega⟩ r) (by intro b; fin_cases b <;> rfl)]
  rw [halves_at, ← quot_at]
  match h with
  | ⟨0, _⟩ => rfl
  | ⟨1, _⟩ => rfl

end Cert.Attn
-- ==== Proof.Attn.Result.lean ====
/-
  The result array of the attention call: element `(b, p, t, l)` is that of the block of grid point `(b, p)`, computed
  from the blocks of the packed arrays at the same batch entry and pair of heads.
-/
module

public import proofs.«01_k».proof.Proof.Attn.Run
public import proofs.«01_k».proof.Proof.Attn.At
public import Idealize.ShloMosaic.Lib.Pipeline.ValueKit

@[expose] public section

set_option maxRecDepth 16384

noncomputable section

namespace Cert.Attn

open Cert.KernelIdeal Cert.KernelIdeal.Gen
open Idealize.ShloMosaic hiding ix1 ix2 ix3 ix4 ix5
open Idealize.ShloMosaic.ValueIdx
open Idealize.ShloMosaic.TcCoe Idealize.ShloMosaic.Tactic
open Idealize.SL Idealize.SL.RA
open Idealize.ShloMosaic.Pipeline

variable {F : FTy → Type} [FloatOps F]
variable (m : (ℓ : Loc nD τ sig) → Buf (Elt F) ℓ) (ρ : Dev nD → PrngReg)

/-- The block of queries of batch entry `b` and pair `p`. -/
def qBlk (A : Vec F S4x8x256x8192 .bf16) (b : Fin 4) (p : Fin 8) : Vec F S1x1x256x8192 .bf16 :=
  fun j => A (ix4 b p (⟨(j 2).val, (j 2).isLt⟩ : Fin 256) (⟨(j 3).val, (j 3).isLt⟩ : Fin 8192))

/-- The block of keys of batch entry `b` and pair `p`. -/
def kBlk (A : Vec F S4x8x8192x256 .bf16) (b : Fin 4) (p : Fin 8) : Vec F S1x1x8192x256 .bf16 :=
  fun j => A (ix4 b p (⟨(j 2).val, (j 2).isLt⟩ : Fin 8192) (⟨(j 3).val, (j 3).isLt⟩ : Fin 256))

/-- The block of values of batch entry `b` and pair `p`: the pair's two heads. -/
def vBlk (A : Vec F S4x16x80x8192 .bf16) (b : Fin 4) (p : Fin 8) : Vec F S1x2x80x8192 .bf16 :=
  fun j => A (ix4 b (⟨2 * p.val + (j 1).val, by have h1 := p.isLt; have h2 : (j 1).val < 2 := (j 1).isLt; omega⟩ : Fin 16) (⟨(j 2).val, (j 2).isLt⟩ : Fin 80) (⟨(j 3).val, (j 3).isLt⟩ : Fin 8192))

/-- The result array as a function of the three packed arrays. -/
def outArr (A0 : Vec F S4x8x256x8192 .bf16) (A1 : Vec F S4x8x8192x256 .bf16) (A2 : Vec F S4x16x80x8192 .bf16) : Vec F S4x8x8192x128 .bf16 :=
  fun y => outBlk (qBlk A0 (⟨(y 0).val, (y 0).isLt⟩ : Fin 4) (⟨(y 1).val, (y 1).isLt⟩ : Fin 8))
    (kBlk A1 (⟨(y 0).val, (y 0).isLt⟩ : Fin 4) (⟨(y 1).val, (y 1).isLt⟩ : Fin 8))
    (vBlk A2 (⟨(y 0).val, (y 0).isLt⟩ : Fin 4) (⟨(y 1).val, (y 1).isLt⟩ : Fin 8))
    (ix4 (0 : Fin 1) (0 : Fin 1) (⟨(y 2).val, (y 2).isLt⟩ : Fin 8192) (⟨(y 3).val, (y 3).isLt⟩ : Fin 128))

/-- The query window's block at a grid point. -/
theorem index0 : ∀ t : Fin cfg0.N, win0_0.index t = ![(grid0.coords t 0).val, (grid0.coords t 1).val, 0, 0] := (by decide +kernel : ∀ t : Fin grid0.N, _)
/-- The key window's. -/
theorem index1 : ∀ t : Fin cfg0.N, win0_1.index t = ![(grid0.coords t 0).val, (grid0.coords t 1).val, 0, 0] := (by decide +kernel : ∀ t : Fin grid0.N, _)
/-- The value window's. -/
theorem index2 : ∀ t : Fin cfg0.N, win0_2.index t = ![(grid0.coords t 0).val, (grid0.coords t 1).val, 0, 0] := (by decide +kernel : ∀ t : Fin grid0.N, _)
/-- The result window's. -/
theorem index3 : ∀ t : Fin cfg0.N, win0_3.index t = ![(grid0.coords t 0).val, (grid0.coords t 1).val, 0, 0] := (by decide +kernel : ∀ t : Fin grid0.N, _)

/-- A grid point's batch entry and pair of heads. -/
abbrev batchOf (t : Fin cfg0.N) : Fin 4 := ⟨(grid0.coords t 0).val, (grid0.coords t 0).isLt⟩
/-- A grid point's pair of heads. -/
abbrev pairOf (t : Fin cfg0.N) : Fin 8 := ⟨(grid0.coords t 1).val, (grid0.coords t 1).isLt⟩

/-- The query block at a grid point, cut from the packed queries. -/
theorem iblk0 (c : Dev nD) (t : Fin cfg0.N) : iblk m c 0 t = qBlk (V m c main_v30) (batchOf t) (pairOf t) := by
  funext j
  have h0 : (j 0).val < 1 := (j 0).isLt
  have h1 : (j 1).val < 1 := (j 1).isLt
  unfold qBlk
  blk_simp [iblk]
  refine congrArg _ ?_
  blk_ext [index0]

/-- The key block at a grid point. -/
theorem iblk1 (c : Dev nD) (t : Fin cfg0.N) : iblk m c 1 t = kBlk (V m c main_v33) (batchOf t) (pairOf t) := by
  funext j
  have h0 : (j 0).val < 1 := (j 0).isLt
  have h1 : (j 1).val < 1 := (j 1).isLt
  unfold kBlk
  blk_simp [iblk]
  refine congrArg _ ?_
  blk_ext [index1]

/-- The value block at a grid point. -/
theorem iblk2 (c : Dev nD) (t : Fin cfg0.N) : iblk m c 2 t = vBlk (V m c main_v35) (batchOf t) (pairOf t) := by
  funext j
  have h0 : (j 0).val < 1 := (j 0).isLt
  unfold vBlk
  blk_simp [iblk]
  refine congrArg _ ?_
  blk_ext [index2]

/-- What the call leaves in its result array. -/
theorem result_eq (c : Dev nD) : (dats m 0 c).arrAt 3 cfg0.N = outArr (V m c main_v30) (V m c main_v33) (V m c main_v35) := by
  refine (dats m 0 c).arrAt_eq_of_covers 3 _ (by decide +kernel) fun t hf y => ?_
  blk_simp
  rw [after0_3]
  rw [iblk0, iblk1, iblk2]
  have y0 : (y 0).val < 1 := (y 0).isLt
  have y1 : (y 1).val < 1 := (y 1).isLt
  have e0 : (⟨(((win0_3.blk t).view.emb y) 0).val, (((win0_3.blk t).view.emb y) 0).isLt⟩ : Fin 4) = batchOf t := by
    apply Fin.ext; blk_simp [index3]
  have e1 : (⟨(((win0_3.blk t).view.emb y) 1).val, (((win0_3.blk t).view.emb y) 1).isLt⟩ : Fin 8) = pairOf t := by
    apply Fin.ext; blk_simp [index3]
  unfold outArr
  rw [e0, e1]
  refine congrArg _ ?_
  funext a; apply Fin.ext
  match a with
  | ⟨0, _⟩ => show (y 0).val = 0; omega
  | ⟨1, _⟩ => show (y 1).val = 0; omega
  | ⟨2, _⟩ => show (y 2).val = (((win0_3.blk t).view.emb y) 2).val; blk_simp [index3]
  | ⟨3, _⟩ => show (y 3).val = (((win0_3.blk t).view.emb y) 3).val; blk_simp [index3]

end Cert.Attn
-- ==== Proof.Attn.Softmax.lean ====
/-
  The mathematics of the running softmax over the extended reals: blocks of keys taken in one after another, the sums
  rescaled whenever the maximum rises, give the softmax-weighted sum of the values that a direct softmax gives. The
  values are any extended reals; the scores are real, or −∞ where the key is masked.
-/
module

public import Idealize.ShloMosaic.PureOps.Ideal.Laws

@[expose] public section

noncomputable section

namespace Cert.Attn

open Idealize.ShloMosaic
open Finset (range)

/-- The score of key `s` at query `t`: −∞ for a key after the query. -/
def sc (σ : ℕ → ℝ) (t s : ℕ) : EReal := if s ≤ t then ((σ s : ℝ) : EReal) else ⊥

/-- Key `s`'s weight at query `t`, to base two and relative to `r`. -/
def wt (σ : ℕ → ℝ) (t : ℕ) (r : ℝ) (s : ℕ) : ℝ := if s ≤ t then (2 : ℝ) ^ (σ s - r) else 0

/-- The softmax-weighted sum of the values `v` at query `t`. -/
def soft (σ : ℕ → ℝ) (t : ℕ) (v : ℕ → EReal) : EReal :=
  ∑ s ∈ range (t + 1), v s * (((2 : ℝ) ^ σ s / ∑ s' ∈ range (t + 1), (2 : ℝ) ^ σ s' : ℝ) : EReal)

/-- A score is never +∞. -/
theorem sc_ne_top (σ : ℕ → ℝ) (t s : ℕ) : sc σ t s ≠ ⊤ := by
  unfold sc; split
  · exact EReal.coe_ne_top _
  · exact bot_ne_top

/-- A score of a key up to the query is not −∞. -/
theorem sc_ne_bot (σ : ℕ → ℝ) {t s : ℕ} (h : s ≤ t) : sc σ t s ≠ ⊥ := by
  unfold sc; rw [if_pos h]; exact EReal.coe_ne_bot _

/-- Two to the power of a shifted score is the key's weight. -/
theorem exp2_sc (σ : ℕ → ℝ) (t s : ℕ) (r : ℝ) : Ideal.exp2 (sc σ t s - (r : EReal)) = (wt σ t r s : EReal) := by
  unfold sc wt
  split
  · rw [← EReal.coe_sub, Ideal.exp2_coe]; rfl
  · rw [EReal.bot_sub, Ideal.exp2_bot, EReal.coe_zero]

/-- A real factor that is not negative goes into a sum of extended reals. -/
theorem coe_mul_sum {ι : Type} (c : ℝ) (hc : 0 ≤ c) (f : ι → EReal) (S : Finset ι) :
    (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top _) _ _

/-- A finite sum of reals, as extended reals. -/
theorem coe_sum {ι : Type} (f : ι → ℝ) (S : Finset ι) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Weights are not negative. -/
theorem wt_nonneg (σ : ℕ → ℝ) (t : ℕ) (r : ℝ) (s : ℕ) : 0 ≤ wt σ t r s := by
  unfold wt; split
  · positivity
  · exact le_rfl

/-- Weights relative to two numbers differ by one factor. -/
theorem wt_shift (σ : ℕ → ℝ) (t : ℕ) (r r' : ℝ) (s : ℕ) : (2 : ℝ) ^ (r - r') * wt σ t r s = wt σ t r' s := by
  unfold wt; split
  · rw [← Real.rpow_add (by simp)]; congr 1; ring
  · exact mul_zero _

/-- After the keys below `N`, the maximum is `m` (any extended real below +∞, above −∞ once a key is in) and the sum
    of the values `v`, weighted relative to `m`, is `a`. -/
structure Upto (σ : ℕ → ℝ) (t : ℕ) (v : ℕ → EReal) (N : ℕ) (m a : EReal) : Prop where
  top : m ≠ ⊤
  bot : 0 < N → m ≠ ⊥
  sum : a = ∑ s ∈ range N, v s * Ideal.exp2 (sc σ t s - m)

/-- The initial state, before any key. -/
theorem Upto.start (σ : ℕ → ℝ) (t : ℕ) (v : ℕ → EReal) : Upto σ t v 0 ⊥ 0 :=
  ⟨bot_ne_top, fun h => absurd h (Nat.lt_irrefl 0), by simp⟩

/-- One block of `B` keys taken in: `m'` is the raised maximum. -/
theorem Upto.step {σ : ℕ → ℝ} {t : ℕ} {v : ℕ → EReal} {N : ℕ} {m a : EReal} (h : Upto σ t v N m a) (B : ℕ) (m' : EReal)
    (ht : m' ≠ ⊤) (hb : m' ≠ ⊥) :
    Upto σ t v (N + B) m' (Ideal.exp2 (m - m') * a + ∑ j : Fin B, v (N + j.val) * Ideal.exp2 (sc σ t (N + j.val) - m')) := by
  refine ⟨ht, fun _ => hb, ?_⟩
  lift m' to ℝ using ⟨ht, hb⟩
  rw [Finset.sum_range_add, ← Fin.sum_univ_eq_sum_range (fun x => v (N + x) * Ideal.exp2 (sc σ t (N + x) - (m' : EReal)))]
  congr 1
  rcases Nat.eq_zero_or_pos N with rfl | hN
  · rw [h.sum]; simp
  · have hm := h.bot hN
    have hs := h.sum
    have hm' := h.top
    lift m to ℝ using ⟨hm', hm⟩
    rw [hs, ← EReal.coe_sub, Ideal.exp2_coe, coe_mul_sum (Real.rpow 2 (m - m')) (Real.rpow_nonneg (by simp) _)]
    refine Finset.sum_congr rfl fun s _ => ?_
    rw [exp2_sc, exp2_sc, mul_left_comm, ← EReal.coe_mul, ← wt_shift σ t m m' s]
    rfl

/-- The weights' sum over enough keys is the sum up to the query. -/
theorem sum_wt (σ : ℕ → ℝ) (t : ℕ) (v : ℕ → EReal) (r : ℝ) {N : ℕ} (hN : t < N) :
    ∑ s ∈ range N, v s * ((wt σ t r s : ℝ) : EReal) = ∑ s ∈ range (t + 1), v s * (((2 : ℝ) ^ (σ s - r) : ℝ) : EReal) := by
  rw [← Finset.sum_subset (Finset.range_mono (show t + 1 ≤ N from hN))]
  · refine Finset.sum_congr rfl fun s hs => ?_
    rw [wt, if_pos (by have := Finset.mem_range.1 hs; omega)]
  · intro s _ hs
    rw [wt, if_neg (by rw [Finset.mem_range] at hs; omega), EReal.coe_zero, mul_zero]

/-- The sum of the weights up to the query is positive. -/
theorem denom_pos (σ : ℕ → ℝ) (t : ℕ) (r : ℝ) : 0 < ∑ s ∈ range (t + 1), (2 : ℝ) ^ (σ s - r) :=
  Finset.sum_pos (fun _ _ => Real.rpow_pos_of_pos (by simp) _) ⟨0, by simp⟩

/-- A weight's share of the sum does not depend on what the weights are relative to. -/
theorem share (σ : ℕ → ℝ) (t : ℕ) (r : ℝ) (s : ℕ) :
    (2 : ℝ) ^ (σ s - r) * (1 / ∑ s ∈ range (t + 1), (2 : ℝ) ^ (σ s - r)) = (2 : ℝ) ^ σ s / ∑ s' ∈ range (t + 1), (2 : ℝ) ^ σ s' := by
  have e : ∀ x : ℝ, (2 : ℝ) ^ (x - r) = (2 : ℝ) ^ x * (2 : ℝ) ^ (-r) := fun x => by
    rw [sub_eq_add_neg, Real.rpow_add (by simp)]
  have h2 : (2 : ℝ) ^ (-r) ≠ 0 := (Real.rpow_pos_of_pos (by simp) _).ne'
  simp only [e, ← Finset.sum_mul]
  rw [mul_one_div]
  exact mul_div_mul_right _ _ h2

/-- The quotient of the two sums over all keys up to the query is the softmax-weighted sum. -/
theorem Upto.ratio {σ : ℕ → ℝ} {t : ℕ} {v : ℕ → EReal} {N : ℕ} {m a l : EReal} (hN : t < N)
    (h : Upto σ t v N m a) (h1 : Upto σ t (fun _ => 1) N m l) : Ideal.div a l = soft σ t v := by
  have hb := h.bot (by omega)
  have ht := h.top
  have hs := h.sum
  have hs1 := h1.sum
  lift m to ℝ using ⟨ht, hb⟩
  simp only [exp2_sc] at hs hs1
  rw [sum_wt σ t v m hN] at hs
  rw [sum_wt σ t (fun _ => 1) m hN] at hs1
  simp only [one_mul] at hs1
  rw [← coe_sum] at hs1
  rw [hs, hs1, Ideal.div_coe (denom_pos σ t m).ne', mul_comm, coe_mul_sum _ (by have := denom_pos σ t m; positivity)]
  refine Finset.sum_congr rfl fun s _ => ?_
  rw [mul_left_comm, ← EReal.coe_mul, mul_comm (1 / _ : ℝ), share]

/-- The direct softmax to base `e`, over all `K` keys with those after the query masked and shifted by any real, is
    the same sum. -/
theorem direct (σ : ℕ → ℝ) (t K : ℕ) (hK : t < K) (v : ℕ → EReal) (x : ℕ → EReal)
    (hx : ∀ s, x s = if s ≤ t then ((σ s * Real.log 2 : ℝ) : EReal) else ⊥) (X : EReal) (ht : X ≠ ⊤) (hb : X ≠ ⊥) :
    ∑ s : Fin K, v s.val * Ideal.div (Ideal.exp (x s.val - X)) (∑ s' : Fin K, Ideal.exp (x s'.val - X)) = soft σ t v := by
  lift X to ℝ using ⟨ht, hb⟩
  have hl : Real.log 2 ≠ 0 := (Real.log_pos (by simp)).ne'
  have e : ∀ s, Ideal.exp (x s - (X : EReal)) = ((wt σ t (X / Real.log 2) s : ℝ) : EReal) := fun s => by
    rw [hx, wt]
    split
    · rw [← EReal.coe_sub, Ideal.exp_coe, Real.rpow_def_of_pos (by simp)]
      congr 2
      field_simp
    · rw [EReal.bot_sub, Ideal.exp_bot, EReal.coe_zero]
  simp only [e]
  have d : ∑ s' : Fin K, ((wt σ t (X / Real.log 2) s'.val : ℝ) : EReal)
      = ((∑ s ∈ range (t + 1), (2 : ℝ) ^ (σ s - X / Real.log 2) : ℝ) : EReal) := by
    have := sum_wt σ t (fun _ => 1) (X / Real.log 2) hK
    simp only [one_mul] at this
    rw [Fin.sum_univ_eq_sum_range (fun s => ((wt σ t (X / Real.log 2) s : ℝ) : EReal)), this, coe_sum]
  rw [d]
  simp only [Ideal.div_coe (denom_pos σ t (X / Real.log 2)).ne']
  rw [Fin.sum_univ_eq_sum_range (fun s => v s * (((wt σ t (X / Real.log 2) s : ℝ) : EReal) * _))]
  rw [← Finset.sum_subset (Finset.range_mono (show t + 1 ≤ K from hK))]
  · refine Finset.sum_congr rfl fun s hs => ?_
    rw [wt, if_pos (by have := Finset.mem_range.1 hs; omega), ← EReal.coe_mul, share]
  · intro s _ hs
    rw [wt, if_neg (by rw [Finset.mem_range] at hs; omega), EReal.coe_zero, zero_mul, mul_zero]

/-- The maximum of a finite family of extended reals below +∞ is below +∞. -/
theorem fold_max_ne_top {ι : Type} (S : Finset ι) (b : EReal) (f : ι → EReal) (hb : b ≠ ⊤) (h : ∀ i, f i ≠ ⊤) : S.fold max b f ≠ ⊤ :=
  (Finset.fold_max_lt _).2 ⟨hb.lt_top, fun i _ => (h i).lt_top⟩ |>.ne

/-- It is above −∞ if one of them is. -/
theorem fold_max_ne_bot {ι : Type} (S : Finset ι) (b : EReal) (f : ι → EReal) (i : ι) (hi : i ∈ S) (h : f i ≠ ⊥) : S.fold max b f ≠ ⊥ :=
  fun e => h (le_bot_iff.1 (e ▸ (Finset.le_fold_max _).2 (Or.inr ⟨i, hi, le_rfl⟩)))

end Cert.Attn
-- ==== Proof.Attn.Column.lean ====
/-
  One column of the attention kernel over the extended reals: where the packed operands' products are real scores and
  the value rows are given, the state after a query tile's key blocks is the running softmax of those scores, and the
  tile holds the softmax-weighted sums.
-/
module

public import proofs.«01_k».proof.Proof.Attn.At
public import proofs.«01_k».proof.Proof.Attn.Softmax

@[expose] public section

set_option maxRecDepth 16384

noncomputable section

namespace Cert.Attn

open Cert.KernelIdeal Cert.KernelIdeal.Gen
open Idealize.ShloMosaic hiding ix1 ix2 ix3 ix4 ix5
open Idealize.ShloMosaic.ValueIdx

/-- One block taken in, by columns: if the block's scores are those of the keys `N, N + 1, …` and its value row is
    theirs, and one of the first key and the state so far is not masked, the state becomes that of `N + 256` keys. -/
theorem updM_upto {σ : ℕ → ℝ} {t : ℕ} {v : ℕ → EReal} {N : ℕ} {st : St Ideal} {r : Fin 512} {d : Fin 80}
    (h : Upto σ t v N (st.1 (ix2 0 r)) (st.2 (ix3 0 d r))) (e : FVec Ideal S256x512 .f32) (vb : Vec Ideal S1x1x80x256 .bf16)
    (he : ∀ j : Fin 256, e (ix2 j r) = sc σ t (N + j.val)) (hv : ∀ j : Fin 256, vb (ix4 0 0 d j) = v (N + j.val)) :
    Upto σ t v (N + 256) ((updM st e vb).1 (ix2 0 r)) ((updM st e vb).2 (ix3 0 d r)) := by
  show Upto σ t v (N + 256) (newMax st.1 e (ix2 0 r)) (newAcc st.1 e st.2 vb (ix3 0 d r))
  rw [newAcc_at]
  simp only [hv, he]
  have hm : newMax st.1 e (ix2 0 r) = max (st.1 (ix2 0 r)) ((Finset.univ : Finset (Fin 256)).fold max ⊥ fun j => sc σ t (N + j.val)) := by
    rw [newMax_at]; simp only [he]
  refine h.step 256 _ ?_ ?_
  · rw [hm]
    exact (max_lt h.top.lt_top (fold_max_ne_top _ _ _ bot_ne_top fun j => sc_ne_top σ t _).lt_top).ne
  · rw [hm]
    rcases Nat.eq_zero_or_pos N with rfl | hN
    · intro e
      exact fold_max_ne_bot Finset.univ ⊥ (fun j : Fin 256 => sc σ t (0 + j.val)) 0 (Finset.mem_univ _) (sc_ne_bot σ (Nat.zero_le t)) (max_eq_bot.1 e).2
    · intro e
      exact h.bot hN (max_eq_bot.1 e).1

section Column

variable {σ : ℕ → ℝ} {v : ℕ → EReal} {k : ℕ} {h : Fin 2} {r : Fin 512} {d : Fin 80}
  {x2 : Vec Ideal S1x1x256x8192 .bf16} {x3 : Vec Ideal S1x1x8192x256 .bf16} {x4 : Vec Ideal S1x2x80x8192 .bf16}

/-- The scores of a block, from the packed operands' products. -/
theorem score_of (hk : k < 16)
    (hσ : ∀ s : Fin 8192, ∑ i : Fin 128, x3 (ix4 0 0 s ⟨128 * h.val + i.val, by omega⟩) * x2 (ix4 0 0 ⟨128 * h.val + i.val, by omega⟩ ⟨512 * k + r.val, by omega⟩) = ((σ s.val : ℝ) : EReal))
    (n : ℕ) (hn : n < 32) (j : Fin 256) :
    shapeCast S256x512 (score (qB x2 h.val k) (kB x3 h.val n)) shapeCasts_S1x256x512_S256x512 (ix2 j r) = ((σ (256 * n + j.val) : ℝ) : EReal) := by
  rw [score_at, ← hσ ⟨256 * n + j.val, by omega⟩]
  exact Finset.sum_congr rfl fun i _ => by rw [kB_at x3 h n hn, qB_at x2 h k hk]

/-- After `n` unmasked blocks a column's state is the running softmax of their keys. -/
theorem chain_upto (hk : k < 16)
    (hσ : ∀ s : Fin 8192, ∑ i : Fin 128, x3 (ix4 0 0 s ⟨128 * h.val + i.val, by omega⟩) * x2 (ix4 0 0 ⟨128 * h.val + i.val, by omega⟩ ⟨512 * k + r.val, by omega⟩) = ((σ s.val : ℝ) : EReal))
    (hv : ∀ s : Fin 8192, x4 (ix4 0 h d s) = v s.val) :
    ∀ n, n ≤ 2 * k → Upto σ (512 * k + r.val) v (256 * n) ((chain (qB x2 h.val k) x3 x4 h.val n).1 (ix2 0 r)) ((chain (qB x2 h.val k) x3 x4 h.val n).2 (ix3 0 d r))
  | 0, _ => by
    have e1 : (chain (qB x2 h.val k) x3 x4 h.val 0).1 (ix2 0 r) = (⊥ : EReal) := bot_word
    have e2 : (chain (qB x2 h.val k) x3 x4 h.val 0).2 (ix3 0 d r) = (0 : EReal) := by
      show Ideal.ofBits .f32 0x00000000#32 = 0
      exact Ideal.ofBits_zero_f32
    rw [e1, e2]
    exact Upto.start _ _ _
  | n + 1, hn => by
    rw [chain_succ, upd_eq, Nat.mul_succ]
    refine updM_upto (chain_upto hk hσ hv n (by omega)) _ _ (fun j => ?_) fun j => ?_
    · rw [score_of hk hσ n (by omega) j, sc, if_pos (by have := j.isLt; omega)]
    · rw [vB_at x4 h n (by omega) d j, hv]

/-- After the two masked blocks too it is that of every key the query sees. -/
theorem full_upto (hk : k < 16)
    (hσ : ∀ s : Fin 8192, ∑ i : Fin 128, x3 (ix4 0 0 s ⟨128 * h.val + i.val, by omega⟩) * x2 (ix4 0 0 ⟨128 * h.val + i.val, by omega⟩ ⟨512 * k + r.val, by omega⟩) = ((σ s.val : ℝ) : EReal))
    (hv : ∀ s : Fin 8192, x4 (ix4 0 h d s) = v s.val) :
    Upto σ (512 * k + r.val) v (256 * (2 * k) + 256 + 256) ((full (qB x2 h.val k) x3 x4 h.val k).1 (ix2 0 r)) ((full (qB x2 h.val k) x3 x4 h.val k).2 (ix3 0 d r)) := by
  unfold full
  refine updM_upto (updM_upto (chain_upto hk hσ hv (2 * k) le_rfl) _ _ (fun j => ?_) fun j => ?_) _ _ (fun j => ?_) fun j => ?_
  · rw [masked0_at, score_of hk hσ (2 * k) (by omega) j, sc]
    exact if_congr (by omega) rfl rfl
  · rw [vB_at x4 h (2 * k) (by omega) d j, hv]
  · rw [masked1_at, score_of hk hσ (2 * k + 1) (by omega) j, sc, show 256 * (2 * k + 1) + j.val = 256 * (2 * k) + 256 + j.val by omega]
    exact if_congr (by omega) rfl rfl
  · rw [vB_at x4 h (2 * k + 1) (by omega) d j, hv]
    exact congrArg v (show 256 * (2 * k + 1) + j.val = 256 * (2 * k) + 256 + j.val by omega)

end Column

/-- The tile: row `r`, lane `64 h + d` is the softmax-weighted sum of value row `d` at query `512 k + r`. -/
theorem tile_soft {σ : ℕ → ℝ} {v : ℕ → EReal} {k : ℕ} {h : Fin 2} {r : Fin 512} {d : Fin 64}
    {x2 : Vec Ideal S1x1x256x8192 .bf16} {x3 : Vec Ideal S1x1x8192x256 .bf16} {x4 : Vec Ideal S1x2x80x8192 .bf16} (hk : k < 16)
    (hσ : ∀ s : Fin 8192, ∑ i : Fin 128, x3 (ix4 0 0 s ⟨128 * h.val + i.val, by omega⟩) * x2 (ix4 0 0 ⟨128 * h.val + i.val, by omega⟩ ⟨512 * k + r.val, by omega⟩) = ((σ s.val : ℝ) : EReal))
    (hv : ∀ s : Fin 8192, x4 (ix4 0 h ⟨d.val, by omega⟩ s) = v s.val) (h1 : ∀ s : Fin 8192, x4 (ix4 0 h 64 s) = (1 : EReal)) :
    tile x2 x3 x4 k (ix4 0 0 r ⟨64 * h.val + d.val, by omega⟩) = soft σ (512 * k + r.val) v := by
  rw [tile_at]
  exact Upto.ratio (N := 256 * (2 * k) + 256 + 256) (by have := r.isLt; omega) (full_upto hk hσ hv) (full_upto (v := fun _ => 1) hk hσ h1)

end Cert.Attn
-- ==== Proof.Attn.Pack.lean ====
/-
  The packed arrays the call is given, over the extended reals: for finite queries, keys and decays every element of the
  packed queries and keys is a real number, and the product of a key row with a query column is the score to base two.
-/
module

public import proofs.«01_k».proof.Proof.Attn.Result
public import proofs.«01_k».proof.Proof.Attn.Column
public import Idealize.ShloMosaic.Lib.StableHlo.ReadAt
import Mathlib.Tactic.NormNum
import Mathlib.Tactic.Ring

@[expose] public section

set_option maxRecDepth 16384

noncomputable section

namespace Cert.Attn

open Cert.KernelIdeal Cert.KernelIdeal.Gen
open Idealize.ShloMosaic hiding ix1 ix2 ix3 ix4 ix5
open Idealize.ShloMosaic.ValueIdx
open Idealize.ShloMosaic.TcCoe Idealize.ShloMosaic.Tactic

variable (m : (ℓ : Loc nD τ sig) → Buf (Elt Ideal) ℓ) (c : Dev nD)

/-- Every row 64 of the packed values is one. -/
theorem v35_one (b : Fin 4) (h : Fin 16) (s : Fin 8192) :
    V m c main_v35 (ix4 b h 64 s) = (1 : EReal) := by
  unfold V
  after_reads_at
  after_reads_at

/-- The first 64 rows of the packed values are the values. -/
theorem v35_value (b : Fin 4) (h : Fin 16) (d : Fin 64) (s : Fin 8192) :
    V m c main_v35 (ix4 b h ⟨d.val, by omega⟩ s) = m ((c.tc : Thread nD τ).loc main_arg2) (ix4 b s h d) := by
  unfold V
  after_reads_at
  after_reads_simp
  refine congrArg _ ?_
  funext a
  match a with
  | ⟨0, _⟩ => rfl
  | ⟨1, _⟩ => rfl
  | ⟨2, _⟩ => rfl
  | ⟨3, _⟩ => rfl

/-- The reciprocal of the natural logarithm of two. -/
def w : ℝ := 1 / Real.log 2

/-- The host's `1 / log 2`. -/
theorem w_word : Ideal.div 1 (Ideal.log (Ideal.ofBits FTy.f32 1073741824#32)) = (w : EReal) := by
  have e : Ideal.ofBits FTy.f32 1073741824#32 = ((2 : ℝ) : EReal) := by
    simp [Ideal.ofBits, Ideal.ieee, -EReal.coe_mul]; norm_num
  have hl : 0 < Real.log 2 := Real.log_pos (by simp)
  rw [e, Ideal.log_coe, if_neg (by simp), Ideal.div_coe hl.ne', one_mul]
  rfl

/-- The scale of the queries, one eighth. -/
theorem eighth_word : Ideal.ofBits FTy.f32 1040187392#32 = ((1 / 8 : ℝ) : EReal) := by
  simp [Ideal.ofBits, Ideal.ieee, -EReal.coe_mul]; norm_num

section
variable {Q K : Fin 4 → Fin 8192 → Fin 16 → Fin 64 → ℝ} {D : Fin 4 → Fin 16 → Fin 8192 → ℝ}
variable (hQ : ∀ b t h i, m ((c.tc : Thread nD τ).loc main_arg0) (ix4 b t h i) = ((Q b t h i : ℝ) : EReal))
variable (hK : ∀ b t h i, m ((c.tc : Thread nD τ).loc main_arg1) (ix4 b t h i) = ((K b t h i : ℝ) : EReal))
variable (hD : ∀ b h t, m ((c.tc : Thread nD τ).loc main_arg3) (ix3 b h t) = ((D b h t : ℝ) : EReal))

include hD in
/-- The three pieces of a decay to base two: over the reals the first is the whole. -/
theorem v16_at (b : Fin 4) (h : Fin 16) (t : Fin 8192) (i : Fin 3) :
    V m c main_v16 (ix4 b t h i) = ((if i.val = 0 then D b h t * w else 0 : ℝ) : EReal) := by
  have e : ∀ a, a = ix3 b h t → m (c, Proc.tc.devRef main_arg3) a = ((D b h t : ℝ) : EReal) := fun a ha => ha ▸ hD b h t
  match i with
  | ⟨0, _⟩ =>
    unfold V
    after_reads_at
    after_reads_at
    rw [w_word, e _ (by funext a; match a with | ⟨0, _⟩ => rfl | ⟨1, _⟩ => rfl | ⟨2, _⟩ => rfl)]
    simp
  | ⟨1, _⟩ =>
    unfold V
    after_reads_at
    after_reads_at
    rw [w_word, e _ (by funext a; match a with | ⟨0, _⟩ => rfl | ⟨1, _⟩ => rfl | ⟨2, _⟩ => rfl), ← EReal.coe_mul, ← EReal.coe_sub]
    simp
  | ⟨2, _⟩ =>
    unfold V
    after_reads_at
    after_reads_at
    rw [w_word, e _ (by funext a; match a with | ⟨0, _⟩ => rfl | ⟨1, _⟩ => rfl | ⟨2, _⟩ => rfl), ← EReal.coe_mul, ← EReal.coe_sub, ← EReal.coe_sub]
    simp

/-- The pieces of the decays are in place before the keys are joined. -/
theorem upto16' : StableHlo.upto hostOps0 (fun b => m (c, b)) 29 (Proc.tc.devRef main_v16) = V m c main_v16 := by
  unfold V
  after_reads_simp

/-- The pieces of the decays are in place before the queries are joined. -/
theorem upto16 : StableHlo.upto hostOps0 (fun b => m (c, b)) 28 (Proc.tc.devRef main_v16) = V m c main_v16 := by
  unfold V
  after_reads_simp

/-- Head `h` of pair `p`. -/
abbrev headOf (p : Fin 8) (h : Fin 2) : Fin 16 := ⟨2 * p.val + h.val, by omega⟩

include hQ in
/-- The first 64 features of a packed query: the query, scaled. -/
theorem v30_q (b : Fin 4) (p : Fin 8) (h : Fin 2) (i : Fin 64) (t : Fin 8192) :
    V m c main_v30 (ix4 b p ⟨128 * h.val + i.val, by omega⟩ t) = ((Q b t (headOf p h) i * (1 / 8 * w) : ℝ) : EReal) := by
  have e : ∀ a, a = ix4 b t (headOf p h) i → m (c, Proc.tc.devRef main_arg0) a = ((Q b t (headOf p h) i : ℝ) : EReal) := fun a ha => ha ▸ hQ b t _ i
  unfold V
  after_reads_at
  have hc : (128 * h.val + i.val) % 128 < 64 := by omega
  rw [dif_pos hc]
  after_reads_at
  rw [w_word, eighth_word, EReal.coe_mul, EReal.coe_mul]
  refine congrArg (· * _) (e _ ?_)
  funext a; apply Fin.ext
  match a with
  | ⟨0, _⟩ => rfl
  | ⟨1, _⟩ => rfl
  | ⟨2, _⟩ => show p.val * 2 + (128 * h.val + i.val) / 128 = 2 * p.val + h.val; omega
  | ⟨3, _⟩ => show (128 * h.val + i.val) % 128 = i.val; omega

include hD in
/-- The next three: the pieces of its decay. -/
theorem v30_x (b : Fin 4) (p : Fin 8) (h : Fin 2) (i : Fin 3) (t : Fin 8192) :
    V m c main_v30 (ix4 b p ⟨128 * h.val + (64 + i.val), by omega⟩ t) = ((if i.val = 0 then D b (headOf p h) t * w else 0 : ℝ) : EReal) := by
  unfold V
  after_reads_at
  have hc : ¬ (128 * h.val + (64 + i.val)) % 128 < 64 := by omega
  have hc2 : (128 * h.val + (64 + i.val)) % 128 - 64 < 3 := by omega
  rw [dif_neg hc, dif_pos hc2, upto16]
  refine Eq.trans (congrArg _ ?_) (v16_at m c hD b (headOf p h) t i)
  funext a; apply Fin.ext
  match a with
  | ⟨0, _⟩ => rfl
  | ⟨1, _⟩ => rfl
  | ⟨2, _⟩ => show p.val * 2 + (128 * h.val + (64 + i.val)) / 128 = 2 * p.val + h.val; omega
  | ⟨3, _⟩ => show (128 * h.val + (64 + i.val)) % 128 - 64 = i.val; omega

/-- The next three: minus one. -/
theorem v30_m (b : Fin 4) (p : Fin 8) (h : Fin 2) (i : Fin 3) (t : Fin 8192) :
    V m c main_v30 (ix4 b p ⟨128 * h.val + (67 + i.val), by omega⟩ t) = ((-1 : ℝ) : EReal) := by
  unfold V
  after_reads_at
  have hc : ¬ (128 * h.val + (67 + i.val)) % 128 < 64 := by omega
  have hc2 : ¬ (128 * h.val + (67 + i.val)) % 128 - 64 < 3 := by omega
  have hc3 : (128 * h.val + (67 + i.val)) % 128 - 64 - 3 < 3 := by omega
  rw [dif_neg hc, dif_neg hc2, dif_pos hc3]
  after_reads_at
  exact (EReal.coe_neg 1).symm

/-- The last 58: zero. -/
theorem v30_z (b : Fin 4) (p : Fin 8) (h : Fin 2) (i : Fin 58) (t : Fin 8192) :
    V m c main_v30 (ix4 b p ⟨128 * h.val + (70 + i.val), by omega⟩ t) = ((0 : ℝ) : EReal) := by
  unfold V
  after_reads_at
  have hc : ¬ (128 * h.val + (70 + i.val)) % 128 < 64 := by omega
  have hc2 : ¬ (128 * h.val + (70 + i.val)) % 128 - 64 < 3 := by omega
  have hc3 : ¬ (128 * h.val + (70 + i.val)) % 128 - 64 - 3 < 3 := by omega
  rw [dif_neg hc, dif_neg hc2, dif_neg hc3]
  after_reads_at
  exact EReal.coe_zero.symm

include hK in
/-- The first 64 features of a packed key: the key. -/
theorem v33_k (b : Fin 4) (p : Fin 8) (h : Fin 2) (i : Fin 64) (s : Fin 8192) :
    V m c main_v33 (ix4 b p s ⟨128 * h.val + i.val, by omega⟩) = ((K b s (headOf p h) i : ℝ) : EReal) := by
  have e : ∀ a, a = ix4 b s (headOf p h) i → m (c, Proc.tc.devRef main_arg1) a = ((K b s (headOf p h) i : ℝ) : EReal) := fun a ha => ha ▸ hK b s _ i
  unfold V
  after_reads_at
  have hc : (128 * h.val + i.val) % 128 < 64 := by omega
  rw [dif_pos hc]
  after_reads_simp
  refine e _ ?_
  funext a; apply Fin.ext
  match a with
  | ⟨0, _⟩ => rfl
  | ⟨1, _⟩ => rfl
  | ⟨2, _⟩ => show p.val * 2 + (128 * h.val + i.val) / 128 = 2 * p.val + h.val; omega
  | ⟨3, _⟩ => show (128 * h.val + i.val) % 128 = i.val; omega

/-- The next three: one. -/
theorem v33_o (b : Fin 4) (p : Fin 8) (h : Fin 2) (i : Fin 3) (s : Fin 8192) :
    V m c main_v33 (ix4 b p s ⟨128 * h.val + (64 + i.val), by omega⟩) = ((1 : ℝ) : EReal) := by
  unfold V
  after_reads_at
  have hc : ¬ (128 * h.val + (64 + i.val)) % 128 < 64 := by omega
  have hc2 : (128 * h.val + (64 + i.val)) % 128 - 64 < 3 := by omega
  rw [dif_neg hc, dif_pos hc2]
  after_reads_at
  exact EReal.coe_one.symm

include hD in
/-- The next three: the pieces of its decay. -/
theorem v33_x (b : Fin 4) (p : Fin 8) (h : Fin 2) (i : Fin 3) (s : Fin 8192) :
    V m c main_v33 (ix4 b p s ⟨128 * h.val + (67 + i.val), by omega⟩) = ((if i.val = 0 then D b (headOf p h) s * w else 0 : ℝ) : EReal) := by
  unfold V
  after_reads_at
  have hc : ¬ (128 * h.val + (67 + i.val)) % 128 < 64 := by omega
  have hc2 : ¬ (128 * h.val + (67 + i.val)) % 128 - 64 < 3 := by omega
  have hc3 : (128 * h.val + (67 + i.val)) % 128 - 64 - 3 < 3 := by omega
  rw [dif_neg hc, dif_neg hc2, dif_pos hc3, upto16']
  refine Eq.trans (congrArg _ ?_) (v16_at m c hD b (headOf p h) s i)
  funext a; apply Fin.ext
  match a with
  | ⟨0, _⟩ => rfl
  | ⟨1, _⟩ => rfl
  | ⟨2, _⟩ => show p.val * 2 + (128 * h.val + (67 + i.val)) / 128 = 2 * p.val + h.val; omega
  | ⟨3, _⟩ => show (128 * h.val + (67 + i.val)) % 128 - 64 - 3 = i.val; omega

/-- The last 58: zero. -/
theorem v33_z (b : Fin 4) (p : Fin 8) (h : Fin 2) (i : Fin 58) (s : Fin 8192) :
    V m c main_v33 (ix4 b p s ⟨128 * h.val + (70 + i.val), by omega⟩) = ((0 : ℝ) : EReal) := by
  unfold V
  after_reads_at
  have hc : ¬ (128 * h.val + (70 + i.val)) % 128 < 64 := by omega
  have hc2 : ¬ (128 * h.val + (70 + i.val)) % 128 - 64 < 3 := by omega
  have hc3 : ¬ (128 * h.val + (70 + i.val)) % 128 - 64 - 3 < 3 := by omega
  rw [dif_neg hc, dif_neg hc2, dif_neg hc3]
  after_reads_at
  exact EReal.coe_zero.symm

/-- A sum over the 128 packed features, by their four parts. -/
theorem sum128 (f : Fin 128 → EReal) : ∑ i, f i = ∑ i : Fin 64, f ⟨i.val, by omega⟩ + (∑ i : Fin 3, f ⟨64 + i.val, by omega⟩
    + (∑ i : Fin 3, f ⟨67 + i.val, by omega⟩ + ∑ i : Fin 58, f ⟨70 + i.val, by omega⟩)) := by
  have tail (g : Fin 64 → EReal) : ∑ i, g i = ∑ i : Fin 3, g ⟨i.val, by omega⟩ + (∑ i : Fin 3, g ⟨3 + i.val, by omega⟩
      + ∑ i : Fin 58, g ⟨3 + (3 + i.val), by omega⟩) := by
    rw [Fin.sum_univ_add (a := 3) (b := 61) g, Fin.sum_univ_add (a := 3) (b := 58) fun i => g (Fin.natAdd 3 i)]
    rfl
  rw [Fin.sum_univ_add (a := 64) (b := 64) f, tail fun i => f (Fin.natAdd 64 i)]
  refine congrArg _ (congrArg _ (congr (congrArg _ ?_) ?_)) <;>
    exact Finset.sum_congr rfl fun i _ => congrArg f (Fin.ext (by simp [Fin.natAdd]; omega))

/-- The score of key `s` at query `t`, to base two. -/
def sigma (Q K : Fin 4 → Fin 8192 → Fin 16 → Fin 64 → ℝ) (D : Fin 4 → Fin 16 → Fin 8192 → ℝ) (b : Fin 4) (h : Fin 16) (t s : Fin 8192) : ℝ :=
  ((∑ i : Fin 64, Q b t h i * K b s h i) * (1 / 8) + D b h t - D b h s) * w

include hQ hK hD in
/-- A packed key row times a packed query column is the score to base two. -/
theorem packed_score (b : Fin 4) (p : Fin 8) (h : Fin 2) (t s : Fin 8192) :
    ∑ i : Fin 128, kBlk (V m c main_v33) b p (ix4 0 0 s ⟨128 * h.val + i.val, by omega⟩) * qBlk (V m c main_v30) b p (ix4 0 0 ⟨128 * h.val + i.val, by omega⟩ t)
      = ((sigma Q K D b (headOf p h) t s : ℝ) : EReal) := by
  have ek : ∀ i : Fin 256, kBlk (V m c main_v33) b p (ix4 0 0 s i) = V m c main_v33 (ix4 b p s i) := fun _ => rfl
  have eq : ∀ i : Fin 256, qBlk (V m c main_v30) b p (ix4 0 0 i t) = V m c main_v30 (ix4 b p i t) := fun _ => rfl
  rw [sum128]
  simp only [ek, eq, v33_k m c hK, v33_o m c, v33_x m c hD, v33_z m c, v30_q m c hQ, v30_x m c hD, v30_m m c, v30_z m c, ← EReal.coe_mul, ← coe_sum, ← EReal.coe_add]
  refine congrArg _ ?_
  simp only [Fin.sum_univ_three]
  simp only [mul_zero, Finset.sum_const_zero]
  have e : ∑ i : Fin 64, K b s (headOf p h) i * (Q b t (headOf p h) i * (1 / 8 * w)) = (∑ i : Fin 64, Q b t (headOf p h) i * K b s (headOf p h) i) * (1 / 8) * w := by
    rw [Finset.sum_mul, Finset.sum_mul]
    exact Finset.sum_congr rfl fun i _ => by ring
  rw [e]
  unfold sigma
  simp
  ring
end

end Cert.Attn
-- ==== Proof.Attn.Value.lean ====
/-
  The attention call's result over the extended reals: for finite queries, keys and decays each element is the
  softmax-weighted sum of the values.
-/
module

public import proofs.«01_k».proof.Proof.Attn.Pack

@[expose] public section

set_option maxRecDepth 16384

noncomputable section

namespace Cert.Attn

open Cert.KernelIdeal Cert.KernelIdeal.Gen
open Idealize.ShloMosaic hiding ix1 ix2 ix3 ix4 ix5
open Idealize.ShloMosaic.ValueIdx
open Idealize.ShloMosaic.TcCoe Idealize.ShloMosaic.Tactic

variable (m : (ℓ : Loc nD τ sig) → Buf (Elt Ideal) ℓ) (c : Dev nD)
variable {Q K : Fin 4 → Fin 8192 → Fin 16 → Fin 64 → ℝ} {D : Fin 4 → Fin 16 → Fin 8192 → ℝ}

/-- A query's scores as a sequence over the naturals, zero beyond the keys. -/
def sigmaN (Q K : Fin 4 → Fin 8192 → Fin 16 → Fin 64 → ℝ) (D : Fin 4 → Fin 16 → Fin 8192 → ℝ) (b : Fin 4) (h : Fin 16) (t : Fin 8192) (s : ℕ) : ℝ :=
  if hs : s < 8192 then sigma Q K D b h t ⟨s, hs⟩ else 0

/-- One feature's values as a sequence over the naturals, zero beyond the keys. -/
def valueN (A : FVec Ideal S4x8192x16x64 .f32) (b : Fin 4) (h : Fin 16) (d : Fin 64) (s : ℕ) : EReal :=
  if hs : s < 8192 then A (ix4 b ⟨s, hs⟩ h d) else 0

/-- The call's result at an index. -/
theorem kernel_at (hQ : ∀ b t h i, m ((c.tc : Thread nD τ).loc main_arg0) (ix4 b t h i) = ((Q b t h i : ℝ) : EReal))
    (hK : ∀ b t h i, m ((c.tc : Thread nD τ).loc main_arg1) (ix4 b t h i) = ((K b t h i : ℝ) : EReal))
    (hD : ∀ b h t, m ((c.tc : Thread nD τ).loc main_arg3) (ix3 b h t) = ((D b h t : ℝ) : EReal))
    (b : Fin 4) (p : Fin 8) (t : Fin 8192) (h : Fin 2) (d : Fin 64) :
    outArr (V m c main_v30) (V m c main_v33) (V m c main_v35) (ix4 b p t ⟨64 * h.val + d.val, by omega⟩)
      = soft (sigmaN Q K D b (headOf p h) t) t.val (valueN (m ((c.tc : Thread nD τ).loc main_arg2)) b (headOf p h) d) := by
  have hk : t.val / 512 < 16 := by omega
  have ht : 512 * (t.val / 512) + t.val % 512 = t.val := Nat.div_add_mod _ _
  have key := tile_soft (σ := sigmaN Q K D b (headOf p h) t) (v := valueN (m ((c.tc : Thread nD τ).loc main_arg2)) b (headOf p h) d)
    (k := t.val / 512) (h := h) (r := ⟨t.val % 512, Nat.mod_lt _ (by decide)⟩) (d := d)
    (x2 := qBlk (V m c main_v30) b p) (x3 := kBlk (V m c main_v33) b p) (x4 := vBlk (V m c main_v35) b p) hk
    (fun s => by
      have e : (⟨512 * (t.val / 512) + t.val % 512, by omega⟩ : Fin 8192) = t := Fin.ext ht
      simp only [e]
      rw [packed_score m c hQ hK hD b p h t s, sigmaN, dif_pos s.isLt])
    (fun s => by
      rw [valueN, dif_pos s.isLt]
      exact v35_value m c b (headOf p h) d s)
    (fun s => v35_one m c b (headOf p h) s)
  simp only [ht] at key
  rw [← key]
  unfold outArr outBlk
  refine congrArg _ ?_
  funext a
  match a with
  | ⟨0, _⟩ => rfl
  | ⟨1, _⟩ => rfl
  | ⟨2, _⟩ => rfl
  | ⟨3, _⟩ => rfl

end Cert.Attn
-- ==== Proof.Attn.Ref.lean ====
/-
  The reference's result over the extended reals, read at an index: for finite queries, keys and decays each element is
  the softmax-weighted sum of the values.
-/
module

public import proofs.«01_k».proof.Proof.Gen.ReferenceIdeal.Run
public import proofs.«01_k».proof.Proof.Attn.Value
public import Idealize.ShloMosaic.Lib.Pointwise
public import Idealize.ShloMosaic.Lib.WordCmp
import Mathlib.Tactic.Ring

@[expose] public section

set_option maxRecDepth 16384

noncomputable section

namespace Cert.Attn.Ref

open Cert.ReferenceIdeal Cert.ReferenceIdeal.Gen
open Idealize.ShloMosaic hiding ix1 ix2 ix3 ix4 ix5
open Idealize.ShloMosaic.ValueIdx
open Idealize.ShloMosaic.TcCoe

variable (q k v : FVec Ideal S4x8192x16x64 .f32) (g : FVec Ideal S4x16x8192 .f32)

/-- The reference's scores, masked after the query. -/
def scores : FVec Ideal S4x16x8192x8192 .f32 :=
  select (broadcastInDim S4x16x8192x8192 ![2, 3] bcast_S8192x8192_S4x16x8192x8192_2_3
      (cmpi .sge (broadcastInDim S8192x8192 ![0, 1] bcast_S8192x1_S8192x8192_0_1 (broadcastInDim S8192x1 ![0] bcast_S8192_S8192x1_0 (iotaInDim S8192 32 0)))
        (broadcastInDim S8192x8192 ![0, 1] bcast_S1x8192_S8192x8192_0_1 (broadcastInDim S1x8192 ![1] bcast_S8192_S1x8192_1 (iotaInDim S8192 32 0)))))
    (subf (addf (mulf (Host.dotGeneral dot_S4x8192x16x64_S4x8192x16x64_S4x16x8192x8192_3_3_1_1_02_02 none q k)
          (broadcastInDim S4x16x8192x8192 ![] bcast_S_S4x16x8192x8192 (constant S_ .f32 0x3E000000#32)))
        (broadcastInDim S4x16x8192x8192 ![0, 1, 2, 3] bcast_S4x16x8192x1_S4x16x8192x8192_0_1_2_3 (broadcastInDim S4x16x8192x1 ![0, 1, 2] bcast_S4x16x8192_S4x16x8192x1_0_1_2 g)))
      (broadcastInDim S4x16x8192x8192 ![0, 1, 2, 3] bcast_S4x16x1x8192_S4x16x8192x8192_0_1_2_3 (broadcastInDim S4x16x1x8192 ![0, 1, 3] bcast_S4x16x8192_S4x16x1x8192_0_1_3 g)))
    (broadcastInDim S4x16x8192x8192 ![] bcast_S_S4x16x8192x8192 (id (constant S_ .f32 0xFF800000#32)))

variable (S : FVec Ideal S4x16x8192x8192 .f32)

/-- The reference's maximum over a query's scores. -/
def top : FVec Ideal S4x16x8192 .f32 :=
  maximumf (broadcastInDim S4x16x8192 ![] bcast_S_S4x16x8192 (constant S_ .f32 0xFF800000#32))
    (Host.reduce FloatOps.maximumf S (constant S_ .f32 0xFF800000#32) reducesTo_S4x16x8192x8192_S4x16x8192_d3 h_S_)

variable (X : FVec Ideal S4x16x8192 .f32)

/-- The exponentials of the scores less a number per query. -/
def weights : FVec Ideal S4x16x8192x8192 .f32 :=
  Host.exp (subf S (broadcastInDim S4x16x8192x8192 ![0, 1, 2, 3] bcast_S4x16x8192x1_S4x16x8192x8192_0_1_2_3 (broadcastInDim S4x16x8192x1 ![0, 1, 2] bcast_S4x16x8192_S4x16x8192x1_0_1_2 X)))

variable (W : FVec Ideal S4x16x8192x8192 .f32)

/-- Weights over their sum per query. -/
def probs : FVec Ideal S4x16x8192x8192 .f32 :=
  Host.divf W (broadcastInDim S4x16x8192x8192 ![0, 1, 2, 3] bcast_S4x16x8192x1_S4x16x8192x8192_0_1_2_3
    (broadcastInDim S4x16x8192x1 ![0, 1, 2] bcast_S4x16x8192_S4x16x8192x1_0_1_2
      (Host.reduceAdd W (constant S_ .f32 0x00000000#32) reducesTo_S4x16x8192x8192_S4x16x8192_d3 h_S_)))

variable (P : FVec Ideal S4x16x8192x8192 .f32)

/-- The weighted values in the result's layout. -/
def weighted : FVec Ideal S4x8x8192x128 .bf16 :=
  truncf .bf16 (transpose S4x8x8192x128 [0, 2, 1, 3] (shapeCast S4x8192x8x128 (transpose S4x8192x16x64 [0, 3, 1, 2]
    (Host.dotGeneral dot_S4x8192x16x64_S4x16x8192x8192_S4x16x64x8192_1_3_3_2_02_01 none v P)
    transposes_S4x16x64x8192_S4x8192x16x64_0_3_1_2) shapeCasts_S4x8192x16x64_S4x8192x8x128) transposes_S4x8192x8x128_S4x8x8192x128_0_2_1_3) bitsLt_bf16_f32

/-- The reference's result is these in turn. -/
theorem result_stages (m : (ℓ : Loc nD τ sig) → Buf (Elt Ideal) ℓ) (c : Dev nD) :
    Value.res_main_v32 m c = weighted (m ((c.tc : Thread nD τ).loc main_arg2)) (probs
      (weights (scores (m ((c.tc : Thread nD τ).loc main_arg0)) (m ((c.tc : Thread nD τ).loc main_arg1)) (m ((c.tc : Thread nD τ).loc main_arg3)))
        (top (scores (m ((c.tc : Thread nD τ).loc main_arg0)) (m ((c.tc : Thread nD τ).loc main_arg1)) (m ((c.tc : Thread nD τ).loc main_arg3)))))) := rfl

/-- The weighted values at an index: a sum over the keys. -/
theorem weighted_at (b : Fin 4) (p : Fin 8) (t : Fin 8192) (h : Fin 2) (d : Fin 64) :
    weighted v P (ix4 b p t ⟨64 * h.val + d.val, by omega⟩)
      = ∑ s : Fin 8192, v (ix4 b s (headOf p h) d) * P (ix4 b (headOf p h) t s) := by
  unfold weighted
  pointwise
  refine Finset.sum_congr rfl fun s _ => ?_
  refine congr (congrArg _ (congrArg _ ?_)) (congrArg _ ?_)
  · funext a; apply Fin.ext
    match a with
    | ⟨0, _⟩ => rfl
    | ⟨1, _⟩ => rfl
    | ⟨2, _⟩ => show p.val * 2 + (64 * h.val + d.val) / 64 = 2 * p.val + h.val; omega
    | ⟨3, _⟩ => rfl
  · funext a; apply Fin.ext
    match a with
    | ⟨0, _⟩ => rfl
    | ⟨1, _⟩ => show p.val * 2 + (64 * h.val + d.val) / 64 = 2 * p.val + h.val; omega
    | ⟨2, _⟩ => rfl
    | ⟨3, _⟩ => rfl

/-- A weight over the sum of its query's weights. -/
theorem probs_at (b : Fin 4) (h : Fin 16) (t s : Fin 8192) :
    probs W (ix4 b h t s) = Ideal.div (W (ix4 b h t s)) (∑ s' : Fin 8192, W (ix4 b h t s')) := by
  unfold probs
  pointwise
  rfl

/-- The exponential of a score less its query's number. -/
theorem weights_at (b : Fin 4) (h : Fin 16) (t s : Fin 8192) :
    weights S X (ix4 b h t s) = Ideal.exp (S (ix4 b h t s) - X (ix3 b h t)) := by
  unfold weights
  pointwise
  rfl

/-- The keys are the last axis of the scores. -/
theorem reduces_keys : S4x16x8192x8192.Reduces [3] S4x16x8192 := by decide

/-- The word of −∞ is the extended real −∞. -/
theorem bot_word : Ideal.ofBits FTy.f32 0xFF800000#32 = (⊥ : EReal) := by
  simp [Ideal.ofBits, Ideal.ieee]

/-- A query's maximum is the greatest of its scores. -/
theorem top_at (b : Fin 4) (h : Fin 16) (t : Fin 8192) :
    top S (ix3 b h t) = (Finset.univ : Finset (Fin 8192)).fold max ⊥ fun s => S (ix4 b h t s) := by
  unfold top
  rw [maximumf_apply, broadcastInDim_scalar_apply, Host.reduce_eq_fold_single FloatOps.maximumf S _ _ reduces_keys]
  have e : ∀ k, reduces_keys.lift (ix3 b h t) k = ix4 b h t k := fun k => by
    funext a
    match a with
    | ⟨0, _⟩ => rfl
    | ⟨1, _⟩ => rfl
    | ⟨2, _⟩ => rfl
    | ⟨3, _⟩ => rfl
  show max (Ideal.ofBits FTy.f32 0xFF800000#32) (Finset.univ.fold max (Ideal.ofBits FTy.f32 0xFF800000#32) fun k : Fin 8192 => S (reduces_keys.lift (ix3 b h t) k)) = _
  rw [bot_word, max_eq_right bot_le]
  exact congrArg (fun f => (Finset.univ : Finset (Fin 8192)).fold max (⊥ : EReal) f) (funext fun k => congrArg S (e k))

/-- A score at an index: the scaled product plus the decays' difference, or −∞ after the query. -/
theorem scores_at (b : Fin 4) (h : Fin 16) (t s : Fin 8192) :
    scores q k g (ix4 b h t s) = if s.val ≤ t.val then ((∑ i : Fin 64, q (ix4 b t h i) * k (ix4 b s h i)) * Ideal.ofBits FTy.f32 1040187392#32 + g (ix3 b h t) - g (ix3 b h s)) else ⊥ := by
  unfold scores
  pointwise
  have hm : IntOp.cmpi CmpIPredicate.sge (BitVec.ofNat 32 t.val) (BitVec.ofNat 32 s.val) = if s.val ≤ t.val then 1#1 else 0#1 := by
    rw [WordCmp.cmpi_sge_eq, WordCmp.toInt_ofNat_of_lt (by omega), WordCmp.toInt_ofNat_of_lt (by omega)]
    by_cases hc : s.val ≤ t.val
    · rw [if_pos hc, decide_eq_true (by omega)]; rfl
    · rw [if_neg hc, decide_eq_false (by omega)]; rfl
  refine Eq.trans (congrArg (fun m => Scalar.select m _ _) hm) ?_
  by_cases hc : s.val ≤ t.val
  · rw [if_pos hc, if_pos hc]
    rfl
  · rw [if_neg hc, if_neg hc]
    exact bot_word

/-- A real score to base two, times the logarithm of two, is the score to base e. -/
theorem sigma_log (Q K : Fin 4 → Fin 8192 → Fin 16 → Fin 64 → ℝ) (D : Fin 4 → Fin 16 → Fin 8192 → ℝ) (b : Fin 4) (h : Fin 16) (t s : Fin 8192) :
    sigma Q K D b h t s * Real.log 2 = (∑ i : Fin 64, Q b t h i * K b s h i) * (1 / 8) + D b h t - D b h s := by
  have hl : Real.log 2 ≠ 0 := (Real.log_pos (by simp)).ne'
  unfold sigma w
  rw [mul_assoc, one_div_mul_cancel hl, mul_one]

/-- The reference's result at an index. -/
theorem ref_at (m : (ℓ : Loc nD τ sig) → Buf (Elt Ideal) ℓ) (c : Dev nD)
    {Q K : Fin 4 → Fin 8192 → Fin 16 → Fin 64 → ℝ} {D : Fin 4 → Fin 16 → Fin 8192 → ℝ}
    (hQ : ∀ b t h i, m ((c.tc : Thread nD τ).loc main_arg0) (ix4 b t h i) = ((Q b t h i : ℝ) : EReal))
    (hK : ∀ b t h i, m ((c.tc : Thread nD τ).loc main_arg1) (ix4 b t h i) = ((K b t h i : ℝ) : EReal))
    (hD : ∀ b h t, m ((c.tc : Thread nD τ).loc main_arg3) (ix3 b h t) = ((D b h t : ℝ) : EReal))
    (b : Fin 4) (p : Fin 8) (t : Fin 8192) (h : Fin 2) (d : Fin 64) :
    Value.res_main_v32 m c (ix4 b p t ⟨64 * h.val + d.val, by omega⟩)
      = soft (sigmaN Q K D b (headOf p h) t) t.val (valueN (m ((c.tc : Thread nD τ).loc main_arg2)) b (headOf p h) d) := by
  rw [result_stages, weighted_at]
  simp only [probs_at, weights_at]
  generalize hS : scores (m ((c.tc : Thread nD τ).loc main_arg0)) (m ((c.tc : Thread nD τ).loc main_arg1)) (m ((c.tc : Thread nD τ).loc main_arg3)) = S
  have hx : ∀ s : Fin 8192, S (ix4 b (headOf p h) t s) = if s.val ≤ t.val then ((sigma Q K D b (headOf p h) t s * Real.log 2 : ℝ) : EReal) else ⊥ := fun s => by
    rw [← hS, scores_at, sigma_log]
    simp only [hQ, hK, hD, eighth_word, ← EReal.coe_mul, ← coe_sum, ← EReal.coe_add, ← EReal.coe_sub]
  have key := direct (sigmaN Q K D b (headOf p h) t) t.val 8192 t.isLt (valueN (m ((c.tc : Thread nD τ).loc main_arg2)) b (headOf p h) d)
    (fun s => if s ≤ t.val then ((sigmaN Q K D b (headOf p h) t s * Real.log 2 : ℝ) : EReal) else ⊥) (fun _ => rfl) (top S (ix3 b (headOf p h) t))
    (by
      rw [top_at]
      refine fold_max_ne_top _ _ _ bot_ne_top fun s => ?_
      rw [hx]
      split
      · exact EReal.coe_ne_top _
      · exact bot_ne_top)
    (by
      rw [top_at]
      refine fold_max_ne_bot _ _ _ t (Finset.mem_univ _) ?_
      rw [hx, if_pos le_rfl]
      exact EReal.coe_ne_bot _)
  rw [← key]
  have hx' : ∀ s : Fin 8192, S (ix4 b (headOf p h) t s) = if s.val ≤ t.val then ((sigmaN Q K D b (headOf p h) t s.val * Real.log 2 : ℝ) : EReal) else ⊥ := fun s => by
    rw [hx, sigmaN, dif_pos s.isLt]
  have hv : ∀ s : Fin 8192, m ((c.tc : Thread nD τ).loc main_arg2) (ix4 b s (headOf p h) d) = valueN (m ((c.tc : Thread nD τ).loc main_arg2)) b (headOf p h) d s.val := fun s => by
    rw [valueN, dif_pos s.isLt]
  simp only [hx', hv]

end Cert.Attn.Ref
-- ==== Proof.Attn.Final.lean ====
/-
  The attention call and its reference end with one result: finiteness from the precondition, and the two runs.
-/
module

public import proofs.«01_k».proof.Defs
public import proofs.«01_k».proof.Proof.Gen.Pre_finite
public import proofs.«01_k».proof.Proof.Attn.Ref
public import Idealize.ShloMosaic.Lib.ReduceAll

@[expose] public section

set_option maxRecDepth 16384

noncomputable section

namespace Cert.Attn

open Cert.KernelIdeal Cert.KernelIdeal.Gen
open Idealize.ShloMosaic hiding ix1 ix2 ix3 ix4 ix5
open Idealize.ShloMosaic.ValueIdx
open Idealize.ShloMosaic.TcCoe Idealize.ShloMosaic.Tactic
open Idealize.SL.Sem

/-- The word of +∞ is the extended real +∞. -/
theorem top_word : Ideal.ofBits FTy.f32 0x7F800000#32 = (⊤ : EReal) := by
  simp [Ideal.ofBits, Ideal.ieee]

/-- An element whose absolute value compares below infinity is real. -/
theorem real_of_below {x : EReal} (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : Ideal.cmp .olt (max x (-x)) (Ideal.ofBits FTy.f32 0x7F800000#32) = 1#1 := h
  have hl : max x (-x) < ⊤ := by
    rw [← top_word]
    by_contra hn
    simp [Ideal.cmp, hn] at h'
  have ht : x ≠ ⊤ := fun e => by rw [e, max_eq_left le_top] at hl; exact lt_irrefl _ hl
  have hb : x ≠ ⊥ := fun e => by rw [e, EReal.neg_bot, max_eq_right le_top] at hl; exact lt_irrefl _ hl
  exact ⟨x.toReal, (EReal.coe_toReal ht hb).symm⟩

/-- The precondition makes every query, key and decay real. -/
theorem pre_real (q k v : FVec Ideal S4x8192x16x64 .f32) (g : FVec Ideal S4x16x8192 .f32)
    (h : Cert.Pre_finite.fn (F := Ideal) q k v g = fun _ => 1#1) :
    (∀ i, ∃ r : ℝ, q i = (r : EReal)) ∧ (∀ i, ∃ r : ℝ, k i = (r : EReal)) ∧ ∀ i, ∃ r : ℝ, g i = (r : EReal) := by
  have h0 := congrFun h ValueIdx.ix0
  unfold Cert.Pre_finite.fn at h0
  dsimp only at h0
  obtain ⟨h1, hg⟩ := IntOp.andi_eq_one.1 h0
  obtain ⟨hq, hk⟩ := IntOp.andi_eq_one.1 h1
  have : Subsingleton Cert.Pre_finite.S_.Idx := ⟨fun a b => funext fun i => i.elim0⟩
  refine ⟨fun i => ?_, fun i => ?_, fun i => ?_⟩
  · exact real_of_below (Host.reduce_andi_all _ _ _ _ _ hq i)
  · exact real_of_below (Host.reduce_andi_all _ _ _ _ _ hk i)
  · exact real_of_below (Host.reduce_andi_all _ _ _ _ _ hg i)

/-- Every index of the result is a batch entry, a pair, a query, a head of the pair and a feature. -/
theorem result_index (y : S4x8x8192x128.Idx) : ∃ (b : Fin 4) (p : Fin 8) (t : Fin 8192) (h : Fin 2) (d : Fin 64),
    y = ix4 b p t ⟨64 * h.val + d.val, by omega⟩ := by
  have h3 : (y 3).val < 128 := (y 3).isLt
  refine ⟨⟨(y 0).val, (y 0).isLt⟩, ⟨(y 1).val, (y 1).isLt⟩, ⟨(y 2).val, (y 2).isLt⟩, ⟨(y 3).val / 64, by omega⟩, ⟨(y 3).val % 64, by omega⟩, ?_⟩
  funext a; apply Fin.ext
  match a with
  | ⟨0, _⟩ => rfl
  | ⟨1, _⟩ => rfl
  | ⟨2, _⟩ => rfl
  | ⟨3, _⟩ => show (y 3).val = 64 * ((y 3).val / 64) + (y 3).val % 64; omega

/-- From one finite set of arguments the call and the reference compute one array. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hpre : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Cert.ReferenceIdeal.Value.res_main_v32 m' c = outArr (V m c main_v30) (V m c main_v33) (V m c main_v35) := by
  obtain ⟨hq, hk, hg⟩ := pre_real _ _ _ _ hpre
  choose Q hQ using hq
  choose K hK using hk
  choose D hD using hg
  funext y
  obtain ⟨b, p, t, h, d, rfl⟩ := result_index y
  refine (Ref.ref_at m' c (Q := fun b t h i => Q (ix4 b t h i)) (K := fun b t h i => K (ix4 b t h i)) (D := fun b h t => D (ix3 b h t))
    (fun b t h i => ?_) (fun b t h i => ?_) (fun b h t => ?_) b p t h d).trans ?_
  · rw [h0]; exact hQ _
  · rw [h1]; exact hK _
  · rw [h3]; exact hD _
  · rw [h2]
    exact (kernel_at m c (fun _ _ _ _ => hQ _) (fun _ _ _ _ => hK _) (fun _ _ _ => hD _) b p t h d).symm

/-- The call's run: its result array is `outArr` of the packed arrays and its arguments are unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v36) = outArr (V m c main_v30) (V m c main_v33) (V m c main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 3).trans (result_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Cert.Attn
-- ==== Proof.Experts.Model.lean ====
/-
  What one grid point of the experts' call leaves in the result's block, over any interpretation of the floats: the
  block's 512 tokens are read from the token-major rows, the feed-forward network of the tile's expert is added up over
  eleven runs of 256 hidden columns, and the sums go back to token-major rows. A tile past the number of tiles is zero.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Tactic
public import Idealize.ShloMosaic.Lib.Writes

@[expose] public section

set_option maxRecDepth 65536

noncomputable section

namespace Cert.Experts

open Cert.Kernel2Ideal Cert.Kernel2Ideal.Gen
open Idealize.ShloMosaic

variable {F : FTy → Type} [FloatOps F]

/-- The elements of an array that a rectangle reads. -/
def part {s : Shape} {e : EltTy} (x : Vec F s e) (r : LoadRect s) : Vec F r.shape e := fun j => x (r.idx j)

/-- Every eighth row of a block from row `k`: the tokens' columns `128 k` to `128 k + 127`. -/
def rowsOf (k : Fin 8) : Rect S4096x128 :=
  ⟨⟨![k.val, 0], S512x128.size, ![8, 1], fun a => Or.inr (by
    have := k.isLt
    match a with
    | ⟨0, _⟩ => show k.val + 8 * (512 - 1) < 4096; omega
    | ⟨1, _⟩ => show 0 + 1 * (128 - 1) < 128; omega)⟩, fun a => by match a with
    | ⟨0, _⟩ => show 0 < 8; omega
    | ⟨1, _⟩ => show 0 < 1; omega⟩

/-- The 512 tokens of a block, each a row of 1024 columns. -/
def tokens (x0 : Vec F S4096x128 .f32) : FVec F S512x1024 .bf16 :=
  k0_pay2 (part x0 (rowsOf 0).toLoadRect) (part x0 (rowsOf 1).toLoadRect) (part x0 (rowsOf 2).toLoadRect) (part x0 (rowsOf 3).toLoadRect)
    (part x0 (rowsOf 4).toLoadRect) (part x0 (rowsOf 5).toLoadRect) (part x0 (rowsOf 6).toLoadRect) (part x0 (rowsOf 7).toLoadRect)

/-- The gate or up projection's columns `256 k` to `256 k + 255`. -/
def colsOf (k : ℕ) (h : k < 11) : LoadRect S1x1024x2816 :=
  (Rect.unit (s := S1x1024x2816) ![0, 0, 256 * k] S1x1024x256.size fun a => by
    match a with
    | ⟨0, _⟩ => exact Nat.le_refl 1
    | ⟨1, _⟩ => exact Nat.le_refl 1024
    | ⟨2, _⟩ => show 256 * k + 256 ≤ 2816; omega).toLoadRect

/-- The down projection's rows `256 k` to `256 k + 255`. -/
def downOf (k : ℕ) (h : k < 11) : LoadRect S1x2816x1024 :=
  (Rect.unit (s := S1x2816x1024) ![0, 256 * k, 0] S1x256x1024.size fun a => by
    match a with
    | ⟨0, _⟩ => exact Nat.le_refl 1
    | ⟨1, _⟩ => show 256 * k + 256 ≤ 2816; omega
    | ⟨2, _⟩ => exact Nat.le_refl 1024).toLoadRect

/-- A projection of the tokens onto 256 hidden columns. -/
def proj (x : FVec F S512x1024 .bf16) (w : Vec F S1x1024x256 .bf16) : FVec F S512x256 .f32 :=
  matmul dot_S512x1024_S1024x256_S512x256_1_0_0_1_n_n none x (shapeCast S1024x256 w shapeCasts_S1x1024x256_S1024x256)
    (constant S512x256 .f32 0x00000000#32)

/-- The activation: the gate times its logistic, times the up projection. -/
def act (g u : FVec F S512x256 .f32) : FVec F S512x256 .f32 := mulf (mulf g (logistic g)) u

/-- The down projection of 256 hidden columns. -/
def down (h : FVec F S512x256 .f32) (w : Vec F S1x256x1024 .bf16) : FVec F S512x1024 .f32 :=
  matmul dot_S512x256_S256x1024_S512x1024_1_0_0_1_n_n none (truncf .bf16 h bitsLt_bf16_f32)
    (shapeCast S256x1024 w shapeCasts_S1x256x1024_S256x1024) (constant S512x1024 .f32 0x00000000#32)

/-- What 256 hidden columns add to the tokens' results. -/
def chunk (x : FVec F S512x1024 .bf16) (x1 x2 : Vec F S1x1024x2816 .bf16) (x3 : Vec F S1x2816x1024 .bf16) (k : ℕ) (h : k < 11) :
    FVec F S512x1024 .f32 :=
  down (act (proj x (part x1 (colsOf k h))) (proj x (part x2 (colsOf k h)))) (part x3 (downOf k h))

/-- The sum of the first `n + 1` runs of hidden columns, added in order. -/
def acc (x : FVec F S512x1024 .bf16) (x1 x2 : Vec F S1x1024x2816 .bf16) (x3 : Vec F S1x2816x1024 .bf16) :
    (n : ℕ) → n < 11 → FVec F S512x1024 .f32
  | 0, h => chunk x x1 x2 x3 0 h
  | n + 1, h => addf (acc x x1 x2 x3 n (Nat.lt_of_succ_lt h)) (chunk x x1 x2 x3 (n + 1) h)

/-- Token results laid out in token-major rows: row `8 t + k` holds columns `128 k` on of token `t`. -/
def toRows (z : FVec F S512x1024 .f32) : Vec F S4096x128 .f32 :=
  fun y => z (fun a => match a with
    | ⟨0, _⟩ => (⟨(y 0).val / 8, by have : (y 0).val < 4096 := (y 0).isLt; omega⟩ : Fin 512)
    | ⟨1, _⟩ => (⟨128 * ((y 0).val % 8) + (y 1).val, by have : (y 1).val < 128 := (y 1).isLt; omega⟩ : Fin 1024))

/-- The result's block at a tile in use. -/
def liveBlk (x0 : Vec F S4096x128 .f32) (x1 x2 : Vec F S1x1024x2816 .bf16) (x3 : Vec F S1x2816x1024 .bf16) : Vec F S4096x128 .f32 :=
  toRows (acc (tokens x0) x1 x2 x3 10 (by decide))

/-- Columns `128 k` to `128 k + 127` of the tokens' results. -/
def lanes (z : FVec F S512x1024 .f32) (k : Fin 8) : Vec F S512x128 .f32 :=
  fun j => z (fun a => match a with
    | ⟨0, _⟩ => (⟨(j 0).val, (j 0).isLt⟩ : Fin 512)
    | ⟨1, _⟩ => (⟨128 * k.val + (j 1).val, by have : (j 1).val < 128 := (j 1).isLt; have := k.isLt; omega⟩ : Fin 1024))

/-- Storing the eight runs of 128 columns over the block, whatever it held, leaves the token-major rows. -/
theorem read_stores {sp : Space} (v : View sig .tc sp S4096x128 .f32) (f : BufTy.Contents (Elt F) v.ty) (z : FVec F S512x1024 .f32) :
    v.read (Elt F) (v.writes (Elt F) f
      [⟨rowsOf 7, lanes z 7⟩, ⟨rowsOf 6, lanes z 6⟩, ⟨rowsOf 5, lanes z 5⟩, ⟨rowsOf 4, lanes z 4⟩,
        ⟨rowsOf 3, lanes z 3⟩, ⟨rowsOf 2, lanes z 2⟩, ⟨rowsOf 1, lanes z 1⟩, ⟨rowsOf 0, lanes z 0⟩]) = toRows z := by
  have piece : ∀ (k : Fin 8) (x : (rowsOf k).shape.Idx), lanes z k x = toRows z ((rowsOf k).emb x) := fun k x => by
    have hx0 : (x 0).val < 512 := (x 0).isLt
    have hx1 : (x 1).val < 128 := (x 1).isLt
    have hk := k.isLt
    refine congrArg z (funext fun a => Fin.ext ?_)
    match a with
    | ⟨0, _⟩ => show (x 0).val = (k.val + 8 * (x 0).val) / 8; omega
    | ⟨1, _⟩ => show 128 * k.val + (x 1).val = 128 * ((k.val + 8 * (x 0).val) % 8) + (0 + 1 * (x 1).val); omega
  funext y
  refine View.read_writes_apply_of_pieces _ _ (toRows z) _ ?_ y ?_
  · intro p hp
    simp only [List.mem_cons, List.not_mem_nil, or_false] at hp
    rcases hp with rfl | rfl | rfl | rfl | rfl | rfl | rfl | rfl <;> exact piece _
  · have hy0 : (y 0).val < 4096 := (y 0).isLt
    have hin : y ∈ (rowsOf ⟨(y 0).val % 8, Nat.mod_lt _ (by decide)⟩).set := (rowsOf _).toLoadRect.mem_set.mpr fun a => by
      match a with
      | ⟨0, _⟩ => exact ⟨(y 0).val / 8, show (y 0).val / 8 < 512 by omega, show (y 0).val = (y 0).val % 8 + 8 * ((y 0).val / 8) by omega⟩
      | ⟨1, _⟩ => exact ⟨(y 1).val, (y 1).isLt, show (y 1).val = 0 + 1 * (y 1).val by omega⟩
    have hall : ∀ k : Fin 8, y ∈ (rowsOf k).set → ∃ p ∈ [(⟨rowsOf 7, lanes z 7⟩ : View.Piece (Elt F) S4096x128 .f32), ⟨rowsOf 6, lanes z 6⟩,
        ⟨rowsOf 5, lanes z 5⟩, ⟨rowsOf 4, lanes z 4⟩, ⟨rowsOf 3, lanes z 3⟩, ⟨rowsOf 2, lanes z 2⟩, ⟨rowsOf 1, lanes z 1⟩, ⟨rowsOf 0, lanes z 0⟩],
        y ∈ p.1.set := fun k h => ⟨⟨rowsOf k, lanes z k⟩, by fin_cases k <;> simp, h⟩
    exact hall _ hin

/-- The same of stored values known to be those runs. -/
theorem read_stores_of {sp : Space} (v : View sig .tc sp S4096x128 .f32) (f : BufTy.Contents (Elt F) v.ty) (z : FVec F S512x1024 .f32)
    (p0 p1 p2 p3 p4 p5 p6 p7 : Vec F S512x128 .f32) (h0 : p0 = lanes z 0) (h1 : p1 = lanes z 1) (h2 : p2 = lanes z 2) (h3 : p3 = lanes z 3)
    (h4 : p4 = lanes z 4) (h5 : p5 = lanes z 5) (h6 : p6 = lanes z 6) (h7 : p7 = lanes z 7) :
    v.read (Elt F) (v.writes (Elt F) f
      [⟨rowsOf 7, p7⟩, ⟨rowsOf 6, p6⟩, ⟨rowsOf 5, p5⟩, ⟨rowsOf 4, p4⟩, ⟨rowsOf 3, p3⟩, ⟨rowsOf 2, p2⟩, ⟨rowsOf 1, p1⟩, ⟨rowsOf 0, p0⟩]) = toRows z := by
  subst h0 h1 h2 h3 h4 h5 h6 h7
  exact read_stores v f z

end Cert.Experts

end
-- ==== Proof.Experts.Launch.lean ====
/-
  The experts' call up to its kernel, over any interpretation of the floats: the host's operations, what the tables hold
  when the kernel starts, the blocks its windows bring in, and how the statement that the arguments are unchanged follows
  from a run.
-/
module

public import proofs.«01_k».proof.Proof.Experts.Model
public import Idealize.ShloMosaic.Lib.Claim

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- A core's buffers when the kernel starts: after the host's operations. -/
abbrev V (c : Dev nD) (b : Ref sig .tc) : Buf (Elt F) ((c : Thread nD τ).loc b) := StableHlo.after hostOps0 (fun b => m (c, b)) b

/-- The host's operations take no fresh buffer. -/
theorem hostOps0_fresh : (hostOps0 : List (HloOp τ sig (Elt F))).Forall fun op => op.fresh = ∅ := by
  simp only [List.Forall]; repeat' constructor

set_option maxHeartbeats 800000 in
/-- The program is the host's operations, then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that the host's operations don't write is found by the kernel as launched. -/
theorem V_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-! ## The tables -/

/-- What the two tables hold when the kernel starts: each tile's expert, and the number of tiles. -/
def tbl : pre0.Contents (Elt F) := fun j => V m (0 : Dev nD) (pre0.ref j)

/-- Every device's tables hold that: there is one device. -/
theorem V_pre (c : Dev nD) (j : Fin 2) : V m c (pre0.ref j) = tbl m j := by
  obtain rfl : c = 0 := Subsingleton.elim _ _; rfl

/-- Every block that the tables name lies in its array. -/
abbrev Ok : Prop := ok0 (F := F) (tbl m)

/-- The tables' contents with that fact, and the pipeline at them. -/
abbrev adm (hO : Ok m) : (pcfg0 (F := F)).Adm := ⟨tbl m, hO⟩
abbrev cfgM (hO : Ok m) : Pipeline.Cfg sig Λ₀ := cfg0 (adm m hO)

/-- The tables as the kernel's body is given them. -/
abbrev tb0 : Memref sig .tc .smem S136 .i32 := Memref.whole main_arg1
abbrev htb0 : tb0.IsWhole := Memref.isWhole_whole _
abbrev tb1 : Memref sig .tc .smem S1 .i32 := Memref.whole main_arg2
abbrev htb1 : tb1.IsWhole := Memref.isWhole_whole _

/-- A table's contents, and the half of the table that the body may read. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The number of tiles, as the body reads it from the second table. -/
abbrev count (c : Dev nD) (f : TbBuf (F := F) c tb1) : BitVec 32 :=
  tb1.view.readAt (Elt F) (Rect.unit (s := S1) ![0] S1.size inb_S1_S1_0).toLoadRect f (Shape.Idx.first (numel1_S1.symm ▸ Nat.one_pos))

/-- The tables' halves, one by one. -/
theorem tables_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- The block of a window at a grid point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every grid point. -/
theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 holds its block at every grid point. -/
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 holds its block at every grid point. -/
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 holds its block at every grid point. -/
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments are unchanged -/

/-- A run that leaves the kernel's arrays as the pipeline makes them, and every other buffer as the kernel found it,
    leaves the arguments unchanged. -/
theorem frame_of (hO : Ok m) (dats : (p : Fin 1) → (c : Dev nD) → Dat τ (Elt F) Unit ℕ (UR sig nD τ) ℕ ((Pipeline.pin pcfgs fun _ => adm m hO) p) c)
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    have keep : ∀ b : Ref sig .tc, b ∈ Pipeline.restRefs sig spec0 → b ≠ main_v0 → b ≠ main_v1 → b ≠ main_v2 → b ≠ main_v3 →
        _ = m ((c : Thread nD τ).loc b) := fun b hb h0 h1 h2 h3 => ((h c).2 b hb).trans (V_of_ne m c b h0 h1 h2 h3)
    exact ⟨keep main_arg0 (by decide) (by decide) (by decide) (by decide) (by decide),
      keep main_arg1 (by decide) (by decide) (by decide) (by decide) (by decide),
      keep main_arg2 (by decide) (by decide) (by decide) (by decide) (by decide),
      keep main_arg3 (by decide) (by decide) (by decide) (by decide) (by decide),
      keep main_arg4 (by decide) (by decide) (by decide) (by decide) (by decide),
      keep main_arg5 (by decide) (by decide) (by decide) (by decide) (by decide)⟩) h

end Cert.Experts

end
-- ==== Proof.Experts.Payload.lean ====
/-
  The values that the body of the experts' kernel computes between its loads and stores, written with the steps of
  Model.lean: each is one or two runs of hidden columns added on, or a part of one.
-/
module

public import proofs.«01_k».proof.Proof.Experts.Model

@[expose] public section

set_option maxRecDepth 65536

noncomputable section

namespace Cert.Experts

open Cert.Kernel2Ideal Cert.Kernel2Ideal.Gen
open Idealize.ShloMosaic

variable {F : FTy → Type} [FloatOps F]

/-- What 256 hidden columns add, from the columns and rows of the three matrices. -/
abbrev run (x : FVec F S512x1024 .bf16) (wg wu : Vec F S1x1024x256 .bf16) (wd : Vec F S1x256x1024 .bf16) : FVec F S512x1024 .f32 :=
  down (act (proj x wg) (proj x wu)) wd

/-- Columns `128 k` on, cut out of the tokens' results. -/
theorem slice_eq (z : FVec F S512x1024 .f32) (k : Fin 8) (h) : extractStridedSlice S512x128 ![0, 128 * k.val] z h = lanes z k := by
  funext j
  refine congrArg z (funext fun a => Fin.ext ?_)
  match a with
  | ⟨0, _⟩ => show 0 + (j 0).val = (j 0).val; omega
  | ⟨1, _⟩ => rfl

section
variable (x : FVec F S512x1024 .bf16) (z z' : FVec F S512x1024 .f32) (g h : FVec F S512x256 .f32)
  (g0 u0 g1 u1 : Vec F S1x1024x256 .bf16) (d0 d1 : Vec F S1x256x1024 .bf16)
  (r0 r1 r2 r3 r4 r5 r6 r7 : Vec F S512x128 .f32)

/-- The first run. -/
theorem pay3_eq : k0_pay3 r0 r1 r2 r3 r4 r5 r6 r7 g0 u0 d0 = run (k0_pay2 r0 r1 r2 r3 r4 r5 r6 r7) g0 u0 d0 := rfl
/-- Two runs added on. -/
theorem pay4_eq : k0_pay4 x z g0 u0 d0 g1 u1 d1 = addf (addf z (run x g0 u0 d0)) (run x g1 u1 d1) := rfl
/-- A gate projection. -/
theorem pay5_eq : k0_pay5 x g0 = proj x g0 := rfl
/-- A run whose gate projection is given, and another. -/
theorem pay6_eq : k0_pay6 x z g u0 d0 g1 u1 d1 = addf (addf z (down (act g (proj x u0)) d0)) (run x g1 u1 d1) := rfl
/-- An activation. -/
theorem pay7_eq : k0_pay7 x g0 u0 = act (proj x g0) (proj x u0) := rfl
/-- A run whose activation is given, and another. -/
theorem pay8_eq : k0_pay8 x z h d0 g1 u1 d1 = addf (addf z (down h d0)) (run x g1 u1 d1) := rfl
/-- A run on its own. -/
theorem pay9_eq : k0_pay9 x g0 u0 d0 = run x g0 u0 d0 := rfl
/-- A computed run and two more added on. -/
theorem pay10_eq : k0_pay10 x z z' g0 u0 d0 g1 u1 d1 = addf (addf (addf z z') (run x g0 u0 d0)) (run x g1 u1 d1) := rfl
/-- A gate projection. -/
theorem pay11_eq : k0_pay11 x g0 = proj x g0 := rfl
/-- The last run, whose gate projection is given. -/
theorem pay12_eq : k0_pay12 x z g u0 d0 = addf z (down (act g (proj x u0)) d0) := rfl
/-- The results' columns from 0. -/
theorem pay13_eq : k0_pay13 x z g u0 d0 = lanes (k0_pay12 x z g u0 d0) 0 :=
  slice_eq (k0_pay12 x z g u0 d0) 0 slices_S512x1024_o0_0_S512x128
/-- The results' columns from 128. -/
theorem pay14_eq : k0_pay14 x z g u0 d0 = lanes (k0_pay12 x z g u0 d0) 1 :=
  slice_eq (k0_pay12 x z g u0 d0) 1 slices_S512x1024_o0_128_S512x128
/-- The results' columns from 256. -/
theorem pay15_eq : k0_pay15 x z g u0 d0 = lanes (k0_pay12 x z g u0 d0) 2 :=
  slice_eq (k0_pay12 x z g u0 d0) 2 slices_S512x1024_o0_256_S512x128
/-- The results' columns from 384. -/
theorem pay16_eq : k0_pay16 x z g u0 d0 = lanes (k0_pay12 x z g u0 d0) 3 :=
  slice_eq (k0_pay12 x z g u0 d0) 3 slices_S512x1024_o0_384_S512x128
/-- The results' columns from 512. -/
theorem pay17_eq : k0_pay17 x z g u0 d0 = lanes (k0_pay12 x z g u0 d0) 4 :=
  slice_eq (k0_pay12 x z g u0 d0) 4 slices_S512x1024_o0_512_S512x128
/-- The results' columns from 640. -/
theorem pay18_eq : k0_pay18 x z g u0 d0 = lanes (k0_pay12 x z g u0 d0) 5 :=
  slice_eq (k0_pay12 x z g u0 d0) 5 slices_S512x1024_o0_640_S512x128
/-- The results' columns from 768. -/
theorem pay19_eq : k0_pay19 x z g u0 d0 = lanes (k0_pay12 x z g u0 d0) 6 :=
  slice_eq (k0_pay12 x z g u0 d0) 6 slices_S512x1024_o0_768_S512x128
/-- The results' columns from 896. -/
theorem pay20_eq : k0_pay20 x z g u0 d0 = lanes (k0_pay12 x z g u0 d0) 7 :=
  slice_eq (k0_pay12 x z g u0 d0) 7 slices_S512x1024_o0_896_S512x128

end

/-- The sum over all eleven runs. -/
theorem acc_ten (x : FVec F S512x1024 .bf16) (x1 x2 : Vec F S1x1024x2816 .bf16) (x3 : Vec F S1x2816x1024 .bf16) (h : 10 < 11) :
    acc x x1 x2 x3 10 h = addf (addf (addf (addf (addf (addf (addf (addf (addf (addf (chunk x x1 x2 x3 0 (by decide)) (chunk x x1 x2 x3 1 (by decide)))
      (chunk x x1 x2 x3 2 (by decide))) (chunk x x1 x2 x3 3 (by decide))) (chunk x x1 x2 x3 4 (by decide))) (chunk x x1 x2 x3 5 (by decide)))
      (chunk x x1 x2 x3 6 (by decide))) (chunk x x1 x2 x3 7 (by decide))) (chunk x x1 x2 x3 8 (by decide))) (chunk x x1 x2 x3 9 (by decide)))
      (chunk x x1 x2 x3 10 (by decide)) := by
  simp only [acc]

/-- A load reads the rectangle's elements of what the memref holds. -/
theorem readAt_part {sp : Space} {s : Shape} {e : EltTy} (v : View sig .tc sp s e) (f : BufTy.Contents (Elt F) v.ty) (r : LoadRect s) :
    v.readAt (Elt F) r f = part (v.read (Elt F) f) r := rfl

end Cert.Experts

end
-- ==== Proof.Experts.Run.lean ====
/-
  The body of the experts' kernel run over any interpretation of the floats: at a grid point below the number of tiles it
  leaves `liveBlk` of its input blocks in the result's buffer, at the others zeros.
-/
module

public import proofs.«01_k».proof.Proof.Experts.Launch
public import proofs.«01_k».proof.Proof.Experts.Payload

@[expose] public section

set_option maxRecDepth 65536

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The body's second condition is the negation of its first. -/
theorem cond2_iff (i : grid0.Coords) (w : BitVec 32) : k0_cond2 i w = 1#1 ↔ ¬ k0_cond1 i w = 1#1 := by
  unfold k0_cond1 k0_cond2
  dsimp only
  generalize Scalar.cmpi .slt (BitVec.ofNat 32 (i 0).val) w = b
  rcases BitVec.eq_zero_or_eq_one b with rfl | rfl <;> decide

/-- What the body leaves at the grid point `i` where the number of tiles is `w`. -/
def outBlk (i : grid0.Coords) (w : BitVec 32) (x0 : Vec F S4096x128 .f32) (x1 x2 : Vec F S1x1024x2816 .bf16) (x3 : Vec F S1x2816x1024 .bf16) :
    Vec F S4096x128 .f32 :=
  if k0_cond1 i w = 1#1 then liveBlk x0 x1 x2 x3 else k0_pay1

set_option maxHeartbeats 4000000 in
/-- The body at any memrefs: it leaves the inputs and the tables as they were and `outBlk` of them in the result's. -/
theorem kernelRun (c : Dev nD) (i : grid0.Coords)
    (arg3 : Memref sig .tc .vmem S4096x128 .f32) (harg3 : arg3.IsWhole)
    (arg4 : Memref sig .tc .vmem S1x1024x2816 .bf16) (harg4 : arg4.IsWhole)
    (arg5 : Memref sig .tc .vmem S1x1024x2816 .bf16) (harg5 : arg5.IsWhole)
    (arg6 : Memref sig .tc .vmem S1x2816x1024 .bf16) (harg6 : arg6.IsWhole)
    (arg7 : Memref sig .tc .vmem S4096x128 .f32) (harg7 : arg7.IsWhole)
    (x0 : Vec F S4096x128 .f32) (x1 x2 : Vec F S1x1024x2816 .bf16) (x3 : Vec F S1x2816x1024 .bf16)
    (t0 : TbBuf (F := F) c tb0) (t1 : TbBuf (F := F) c tb1) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ tbPt c tb0 t0 ∗ tbPt c tb1 t1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outBlk i (count c t1) x0 x1 x2 x3)
            ∗ tbPt c tb0 t0 ∗ tbPt c tb1 t1) -∗ K ⟨⟩))
      ⊢ wp frame (wpE (defs₀ (F := F)) Variants.none c none) E
          (cc0_moe_experts i tb0 htb0 tb1 htb1 arg3 harg3 arg4 harg4 arg5 harg5 arg6 harg6 arg7 harg7) K := by
  by_cases h : k0_cond1 i (count c t1) = 1#1
  · have h2 : ¬ k0_cond2 i (count c t1) = 1#1 := fun e => (cond2_iff _ _).mp e h
    rw [outBlk, if_pos h]
    simp only [cc0_moe_experts_eq_skeleton]; unfold cc0_moe_experts_skel
    simp only [k0_part1_eq_skeleton, k0_part2_eq_skeleton, k0_part3_eq_skeleton, k0_part4_eq_skeleton, k0_part5_eq_skeleton,
      k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    subst hf0 hf1 hf2 hf3
    sl_exec (disch := first | sl_exact h | sl_exact h2)
    sl_step
    iapply Hk
    isplitl [H0]; · iexists _; isplitr; swap; (· iexact H0); ipureintro; rfl
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]
    · iexists _; isplitr; swap; (· iexact H4); ipureintro
      have hz : k0_pay12 (kernelRun.sl.r_1 c arg3 f0) (kernelRun.sl.r_9 c arg3 arg4 arg5 arg6 f0 f1 f2 f3) (kernelRun.sl.r_10 c arg3 arg4 f0 f1)
          (arg5.view.readAt (Elt F) (Rect.unit (s := S1x1024x2816) ![0, 0, 2560] S1x1024x256.size inb_S1x1024x2816_S1x1024x256_0_0_2560).toLoadRect f2)
          (arg6.view.readAt (Elt F) (Rect.unit (s := S1x2816x1024) ![0, 2560, 0] S1x256x1024.size inb_S1x2816x1024_S1x256x1024_0_2560_0).toLoadRect f3)
          = acc (tokens (arg3.view.read (Elt F) f0)) (arg4.view.read (Elt F) f1) (arg5.view.read (Elt F) f2) (arg6.view.read (Elt F) f3) 10 (by decide) := by
        unfold kernelRun.sl.r_10 kernelRun.sl.r_9
        unfold kernelRun.sl.r_8 kernelRun.sl.r_7
        unfold kernelRun.sl.r_6 kernelRun.sl.r_5
        unfold kernelRun.sl.r_4 kernelRun.sl.r_3
        unfold kernelRun.sl.r_2 kernelRun.sl.r_1
        rw [acc_ten]
        simp only [pay3_eq, pay4_eq, pay5_eq, pay6_eq, pay7_eq, pay8_eq, pay9_eq, pay10_eq, pay11_eq, pay12_eq, readAt_part]
        rfl
      refine read_stores_of arg7.view f4 _ _ _ _ _ _ _ _ _ ?_ ?_ ?_ ?_ ?_ ?_ ?_ ?_
      · rw [pay13_eq]; exact congrArg (lanes · 0) hz
      · rw [pay14_eq]; exact congrArg (lanes · 1) hz
      · rw [pay15_eq]; exact congrArg (lanes · 2) hz
      · rw [pay16_eq]; exact congrArg (lanes · 3) hz
      · rw [pay17_eq]; exact congrArg (lanes · 4) hz
      · rw [pay18_eq]; exact congrArg (lanes · 5) hz
      · rw [pay19_eq]; exact congrArg (lanes · 6) hz
      · unfold kernelRun.sl.r_11; rw [pay20_eq]; exact congrArg (lanes · 7) hz
    isplitl [HT0]; · iexact HT0
    iexact HT1
  · have h2 : k0_cond2 i (count c t1) = 1#1 := (cond2_iff _ _).mpr h
    rw [outBlk, if_neg h]
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    subst hf0 hf1 hf2 hf3
    sl_exec (disch := first | sl_exact h | sl_exact h2)
    sl_step
    iapply Hk
    isplitl [H0]; · iexists _; isplitr; swap; (· iexact H0); ipureintro; rfl
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]
    · iexists _; isplitr; swap; (· iexact H4); ipureintro
      funext y
      exact View.read_writes_cons_hit_of_coords _ _ _ _ _ y y fun a => by
        match a with
        | ⟨0, _⟩ => show (y 0).val = 0 + 1 * (y 0).val; omega
        | ⟨1, _⟩ => show (y 1).val = 0 + 1 * (y 1).val; omega
    isplitl [HT0]; · iexact HT0
    iexact HT1

end Cert.Experts

end
-- ==== Proof.Experts.Frame.lean ====
/-
  The experts' program run over any interpretation of the floats, for any tables that name blocks inside their arrays:
  it ends with the result's array at what the pipeline makes of `outBlk`, its arguments unchanged and every semaphore
  counter at zero.
-/
module

public import proofs.«01_k».proof.Proof.Experts.Run

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memrefs that the body is given at a grid point. -/
abbrev ms0 (hO : Ok m) (t : Fin (cfgM m hO).N) : Memref sig .tc .vmem S4096x128 .f32 := spec0_0.stage ((cfgM m hO).slots t 0)
abbrev ms1 (hO : Ok m) (t : Fin (cfgM m hO).N) : Memref sig .tc .vmem S1x1024x2816 .bf16 := spec0_1.stage ((cfgM m hO).slots t 1)
abbrev ms2 (hO : Ok m) (t : Fin (cfgM m hO).N) : Memref sig .tc .vmem S1x1024x2816 .bf16 := spec0_2.stage ((cfgM m hO).slots t 2)
abbrev ms3 (hO : Ok m) (t : Fin (cfgM m hO).N) : Memref sig .tc .vmem S1x2816x1024 .bf16 := spec0_3.stage ((cfgM m hO).slots t 3)
abbrev ms4 (hO : Ok m) (t : Fin (cfgM m hO).N) : Memref sig .tc .vmem S4096x128 .f32 := spec0_4.stage ((cfgM m hO).slots t 4)

/-- The body at a grid point. -/
abbrev bodyAt (hO : Ok m) (t : Fin (cfgM m hO).N) : Prog (TpuEff nD τ sig (Elt F) Λ₀ .tc) PUnit :=
  cc0_moe_experts (grid0.coords t) tb0 htb0 tb1 htb1
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4))

/-- What the result's buffer holds after a grid point. -/
def outAt (hO : Ok m) (c : Dev nD) (t : Fin (cfgM m hO).N) : Vec F S4096x128 .f32 :=
  outBlk (grid0.coords t) (count c (tbl m 1)) (iblk m hO c 0 t) (iblk m hO c 1 t) (iblk m hO c 2 t) (iblk m hO c 3 t)

/-- The arrays as the kernel finds them; after the body each input's buffer at its block and the result's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

/-- The arrays are as the kernel finds them. -/
theorem A_eq (hO : Ok m) (c : Dev nD) (w : Fin (cfgM m hO).W) : (dats m hO 0 c).A w = V m c (Pipeline.arrRef spec0 w) := by
  dsimp only [dats]

/-- What the body leaves, window by window. -/
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

/-- What the body finds in each input's buffer. -/
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d

/-! ## The body at a grid point -/

/-- What the body is run with at a grid point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

set_option maxHeartbeats 800000 in
/-- The body run at a grid point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩⟩
  iapply (kernelRun c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body table's row is the body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- Of two bits the second of which is one exactly where the first is not, one is one. -/
theorem one_of {x y : BitVec 1} (h : y = 1#1 ↔ ¬ x = 1#1) : (!(x == 1#1) && !(y == 1#1)) = false := by
  revert h; revert x y; decide

/-- The output's window is idle at no point, whatever the tables hold. -/
theorem idle_4 (pf : pre0.Contents (Elt F)) (i : grid0.Coords) : idle0 pf 4 i = false :=
  one_of (cond2_iff i (pf.atD 1 ![0]))

/-- Which points are idle, as the program states it. -/
theorem idle_eq (hO : Ok m) : (cfgM m hO).idle = idle0 (tbl m) := rfl

/-- The body writes the result's block at every grid point, one way or the other. -/
theorem live (hO : Ok m) (i) : (cfgM m hO).idle 4 i = false := by
  rw [idle_eq]; exact idle_4 (tbl m) i

/-- The body keeps the pipeline's contract at every grid point. -/
theorem body_obligation (hO : Ok m) (c : Dev nD) : BodyObligation (dats (F := F) m hO 0 c) (defs₀ (F := F)) Variants.none () Set.univ := fun t => by
  rw [bigSep_W0, bigSep_W0, defs₀_row m hO, live m hO]
  exact triple_restated (sound_body m hO c t) rfl .rfl fun _ => .rfl

/-! ## The run -/

set_option backward.isDefEq.respectTransparency.types false in
/-- The program runs to the end, its arrays as the pipeline makes them and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The program runs to the end with its arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (run_main m ρ hO)) ((θ_run defs _ _).mono (fun _ h => h.2) (run_main_quiescent m ρ hO))

end Cert.Experts

end
-- ==== Proof.Experts.Same.lean ====
/-
  The experts' program and its idealization have one text: their main functions and their body tables are equal.
-/
module

public import proofs.«01_k».proof.Defs
public import proofs.«01_k».proof.Proof.Gen.Kernel2
public import proofs.«01_k».proof.Proof.Gen.Kernel2Ideal

@[expose] public section

set_option maxRecDepth 100000

namespace Cert.Experts

open Idealize.ShloMosaic

/-- The bodies agree. -/
theorem body_eq : Cert.Kernel2.cc0_moe_experts (F := Bits) = Cert.Kernel2Ideal.cc0_moe_experts (F := Bits) := rfl

/-- The body tables without the pipelines agree. -/
theorem defs₀_eq : Cert.Kernel2.defs₀ (F := Bits) = Cert.Kernel2Ideal.defs₀ (F := Bits) := by
  unfold Cert.Kernel2.defs₀
  rw [body_eq]
  unfold Cert.Kernel2Ideal.defs₀
  refine congrArg Defs.onTc (funext fun l => funext fun a => ?_)
  match l, a with
  | 0, (t, s) => rfl

/-- The body tables agree. -/
theorem defs_eq : Cert.Kernel2.defs (F := Bits) = Cert.Kernel2Ideal.defs (F := Bits) :=
  congrArg (Pipeline.defs Cert.Kernel2Ideal.pcfgs) defs₀_eq

/-- The main functions agree. -/
theorem main_eq : Cert.Kernel2.main (F := Bits) = Cert.Kernel2Ideal.main (F := Bits) := rfl

end Cert.Experts
-- ==== Proof.Experts.Tables.lean ====
/-
  The precondition: with every tile's expert below eight, the blocks that the index maps name lie in their arrays.
-/
module

public import proofs.«01_k».proof.Proof.Experts.Frame
public import proofs.«01_k».proof.Proof.Gen.Pre_experts

@[expose] public section

set_option maxRecDepth 16384

noncomputable section

namespace Cert.Experts

open Cert.Kernel2Ideal Cert.Kernel2Ideal.Gen
open Idealize.ShloMosaic Idealize.ShloMosaic.TcCoe

variable {F : FTy → Type} [FloatOps F]

variable (m : (ℓ : Loc nD τ sig) → Buf (Elt F) ℓ)

/-- A word that is at least 0 and below 8, both as signed, is below 8. -/
theorem lt_eight (w : BitVec 32) (h : IntOp.andi (IntOp.cmpi .sge w 0#32) (IntOp.cmpi .slt w 8#32) = 1#1) : w.toNat < 8 := by
  obtain ⟨h0, h8⟩ := IntOp.andi_eq_one.1 h
  by_contra hn
  have e : IntOp.cmpi .sge w 0#32 = 1#1 → IntOp.cmpi .slt w 8#32 = 1#1 → w.toNat < 8 := by
    intro a b
    simp only [IntOp.cmpi, BitVec.sle, BitVec.slt] at a b
    have a' : (0 : Int) ≤ w.toInt := by
      by_contra hc
      simp [hc] at a
    have b' : w.toInt < 8 := by
      by_contra hc
      simp [hc] at b
    rw [BitVec.toInt_eq_toNat_cond] at a' b'
    split at a' <;> omega
  exact hn (e h0 h8)

/-- The precondition bounds every tile's expert. -/
theorem bound_of_pre {f : FVec F S69632x1024 .f32} {te : IVec S136 32} {n : IVec S1 32} {g u : FVec F S8x1024x2816 .f32} {d : FVec F S8x2816x1024 .f32}
    (h : Cert.Pre_experts.fn f te n g u d = fun _ => 1#1) (t : S136.Idx) : (te t).toNat < 8 :=
  lt_eight _ (congrFun h t)

/-- The tile of a grid point, as an index of the table. -/
def tileIx (i : grid0.Coords) : S136.Idx := fun a => match a with
  | ⟨0, _⟩ => ⟨(i 0).val, (i 0).isLt⟩

/-- The table's element that an index map reads. -/
theorem at_eq (pf : pre0.Contents (Elt F)) (i : grid0.Coords) :
    pf.at 0 (Rect.unit (s := S136) ![(Scalar.indexCast (BitVec.ofNat 32 (i 0).val) : Index).toNat] S1.size (k0_off1_inb i)) numel1_S1 = pf 0 (tileIx i) := by
  refine congrArg (pf 0) (funext fun a => Fin.ext ?_)
  match a with
  | ⟨0, _⟩ =>
    have hi : (i 0).val < 136 := (i 0).isLt
    show (BitVec.ofNat 32 (i 0).val).toNat + _ = (i 0).val
    rw [BitVec.toNat_ofNat, Nat.mod_eq_of_lt (by omega)]
    exact Nat.add_eq_left.mpr (Nat.mul_eq_zero.mpr (.inr (Nat.lt_one_iff.mp (Shape.Idx.first _ _).isLt)))

/-- The index maps of the three weights. -/
theorem map_1 (pf : pre0.Contents (Elt F)) (i : grid0.Coords) : cc0_transform_1 k0_off1_inb numel1_S1 pf i = ![BitVec.toNat (pf 0 (tileIx i)), 0, 0] :=
  congrArg (fun v : BitVec 32 => ![v.toNat, 0, 0]) (at_eq pf i)
theorem map_2 (pf : pre0.Contents (Elt F)) (i : grid0.Coords) : cc0_transform_2 k0_off1_inb numel1_S1 pf i = ![BitVec.toNat (pf 0 (tileIx i)), 0, 0] :=
  congrArg (fun v : BitVec 32 => ![v.toNat, 0, 0]) (at_eq pf i)
theorem map_3 (pf : pre0.Contents (Elt F)) (i : grid0.Coords) : cc0_transform_3 k0_off1_inb numel1_S1 pf i = ![BitVec.toNat (pf 0 (tileIx i)), 0, 0] :=
  congrArg (fun v : BitVec 32 => ![v.toNat, 0, 0]) (at_eq pf i)

/-- A block of one expert's weights lies in the weights. -/
theorem inb_gate (e : Nat) (h : e < 8) (a : Fin 3) : ((![e, 0, 0] : Fin 3 → Nat) a + 1) * S1x1024x2816.size a ≤ S8x1024x2816.size a := by
  match a with
  | ⟨0, _⟩ => show (e + 1) * 1 ≤ 8; omega
  | ⟨1, _⟩ => show (0 + 1) * 1024 ≤ 1024; omega
  | ⟨2, _⟩ => show (0 + 1) * 2816 ≤ 2816; omega
theorem inb_down (e : Nat) (h : e < 8) (a : Fin 3) : ((![e, 0, 0] : Fin 3 → Nat) a + 1) * S1x2816x1024.size a ≤ S8x2816x1024.size a := by
  match a with
  | ⟨0, _⟩ => show (e + 1) * 1 ≤ 8; omega
  | ⟨1, _⟩ => show (0 + 1) * 2816 ≤ 2816; omega
  | ⟨2, _⟩ => show (0 + 1) * 1024 ≤ 1024; omega

/-- Such a block takes every row: it moves in whole words. -/
theorem words_gate (ix : Fin 3 → Nat) (h : ∀ a, (ix a + 1) * S1x1024x2816.size a ≤ S8x1024x2816.size a) (h1 : ix 1 = 0) (p : Nat) :
    (Rect.block (s := S8x1024x2816) S1x1024x2816.size ix h).WholeWords p :=
  .inr ⟨by decide, rfl, by show ix 1 * 1024 = 0; rw [h1], rfl⟩
theorem words_down (ix : Fin 3 → Nat) (h : ∀ a, (ix a + 1) * S1x2816x1024.size a ≤ S8x2816x1024.size a) (h1 : ix 1 = 0) (p : Nat) :
    (Rect.block (s := S8x2816x1024) S1x2816x1024.size ix h).WholeWords p :=
  .inr ⟨by decide, rfl, by show ix 1 * 2816 = 0; rw [h1], rfl⟩

/-- With every tile's expert below eight every block lies in its array. -/
theorem ok_of (pf : pre0.Contents (Elt F)) (h : ∀ t : S136.Idx, BitVec.toNat (pf 0 t) < 8) : ok0 pf :=
  ⟨fun i => ⟨map_1 pf i ▸ inb_gate _ (h _), .inr (words_gate _ _ (by rw [map_1]; rfl) _)⟩,
    fun i => ⟨map_2 pf i ▸ inb_gate _ (h _), .inr (words_gate _ _ (by rw [map_2]; rfl) _)⟩,
    fun i => ⟨map_3 pf i ▸ inb_down _ (h _), .inr (words_down _ _ (by rw [map_3]; rfl) _)⟩⟩

/-- The first table as launched. -/
theorem tbl_0 : tbl m 0 = m (((0 : Dev nD) : Thread nD τ).loc main_arg1) :=
  V_of_ne m 0 main_arg1 (by decide) (by decide) (by decide) (by decide)

/-- The second likewise. -/
theorem tbl_1 : tbl m 1 = m (((0 : Dev nD) : Thread nD τ).loc main_arg2) :=
  V_of_ne m 0 main_arg2 (by decide) (by decide) (by decide) (by decide)

/-- The precondition gives the pipeline its side condition. -/
theorem ok_of_pre (h : ∀ t : S136.Idx, BitVec.toNat (m (((0 : Dev nD) : Thread nD τ).loc main_arg1) t) < 8) : Ok m :=
  ok_of (tbl m) fun t => by rw [tbl_0]; exact h t

end Cert.Experts

end
-- ==== Proof.Experts.At.lean ====
/-
  What a grid point of the experts' call computes, over the extended reals and read at an index: row `8 i + k`, lane `l`
  of a live tile's block is column `128 k + l` of the feed-forward network of token `i`.
-/
module

public import proofs.«01_k».proof.Defs
public import proofs.«01_k».proof.Proof.Experts.Model
public import Idealize.ShloMosaic.Lib.MatmulPlain
public import Idealize.ShloMosaic.Lib.ValueLayout
public import Idealize.ShloMosaic.Lib.Pipeline.Value
public import Idealize.ShloMosaic.Lib.Pointwise

@[expose] public section

set_option maxRecDepth 16384

noncomputable section

namespace Cert.Experts

open Cert.Kernel2Ideal Cert.Kernel2Ideal.Gen
open Idealize.ShloMosaic hiding ix1 ix2 ix3 ix4 ix5
open Idealize.ShloMosaic.ValueIdx

/-! ## The network, as a function of one token and one expert's weights -/

/-- A hidden unit: the gate's sum times its logistic, times the up projection's sum. -/
def unit (x : Fin 1024 → EReal) (G U : Fin 1024 → Fin 2816 → EReal) (f : Fin 2816) : EReal :=
  (∑ c : Fin 1024, x c * G c f) * Ideal.logistic (∑ c : Fin 1024, x c * G c f) * ∑ c : Fin 1024, x c * U c f

/-- The network's output column `c`: the hidden units against the down projection. -/
def net (x : Fin 1024 → EReal) (G U : Fin 1024 → Fin 2816 → EReal) (D : Fin 2816 → Fin 1024 → EReal) (c : Fin 1024) : EReal :=
  ∑ f : Fin 2816, unit x G U f * D f c

/-! ## The tokens -/

/-- Eight blocks of 128 columns side by side. -/
theorem eight_at (v : Fin 8 → FVec Ideal S512x128 .f32)
    (hc : Shape.Concatenates ((List.ofFn fun k => (⟨S512x128, v k⟩ : (s : Shape) × (s.Idx → Ideal .f32))).map (·.1)) S512x1024 1)
    (i : Fin 512) (k : Fin 8) (l : Fin 128) :
    concatenate S512x1024 1 (List.ofFn fun k => (⟨S512x128, v k⟩ : (s : Shape) × (s.Idx → Ideal .f32))) hc (ix2 i ⟨128 * k.val + l.val, by omega⟩) = v k (ix2 i l) :=
  concatenate_apply_piece (t := S512x1024) 1 _ hc _ k.val (by simp) S512x128 (v k) (by rw [List.getElem_ofFn]) rfl (128 * k.val)
    (by fin_cases k <;> rfl) (ix2 i l)
    (by intro b hb; match b with
        | ⟨0, _⟩ => rfl
        | ⟨1, _⟩ => exact absurd rfl hb)
    rfl

/-- Token `i`'s column `128 k + l` is lane `l` of row `8 i + k`. -/
theorem tokens_at (x0 : Vec Ideal S4096x128 .f32) (i : Fin 512) (k : Fin 8) (l : Fin 128) :
    tokens x0 (ix2 i ⟨128 * k.val + l.val, by omega⟩) = x0 (ix2 ⟨8 * i.val + k.val, by omega⟩ l) := by
  refine (eight_at (fun k => shapeCast S512x128 (part x0 (rowsOf k).toLoadRect) shapeCasts_S512x128_S512x128)
    concatenates_S512x128_S512x128_S512x128_S512x128_S512x128_S512x128_S512x128_S512x128_S512x1024_d1 i k l).trans ?_
  refine (shapeCast_apply (s := S512x128) (t := S512x128) (part x0 (rowsOf k).toLoadRect) shapeCasts_S512x128_S512x128 _ (ix2 i l) rfl).trans ?_
  refine congrArg x0 (funext fun a => Fin.ext ?_)
  match a with
  | ⟨0, _⟩ => show k.val + 8 * i.val = 8 * i.val + k.val; omega
  | ⟨1, _⟩ => show 0 + 1 * l.val = l.val; omega

/-! ## The products -/

/-- A projection at an index: a sum over the token's columns. -/
theorem proj_at (x : FVec Ideal S512x1024 .bf16) (w : Vec Ideal S1x1024x256 .bf16) (i : Fin 512) (f : Fin 256) :
    proj x w (ix2 i f) = ∑ c : Fin 1024, x (ix2 i c) * w (ix3 0 c f) := by
  unfold proj
  refine (Ideal.matmul_plain_apply (M := 512) (K := 1024) (N := 256) none x _ _ i f).trans ?_
  rw [constant_apply]
  show Ideal.ofBits .f32 0x00000000#32 + _ = _
  rw [Ideal.ofBits_zero_f32, zero_add]
  refine Finset.sum_congr rfl fun c _ => ?_
  rw [shapeCast_apply _ _ _ (ix3 0 c f) (by simp [Shape.rowMajor_val_three, Shape.rowMajor_val_two])]

/-- The down projection at an index: a sum over 256 hidden columns. -/
theorem down_at (h : FVec Ideal S512x256 .f32) (w : Vec Ideal S1x256x1024 .bf16) (i : Fin 512) (c : Fin 1024) :
    down h w (ix2 i c) = ∑ f : Fin 256, h (ix2 i f) * w (ix3 0 f c) := by
  unfold down
  refine (Ideal.matmul_plain_apply (M := 512) (K := 256) (N := 1024) none _ _ _ i c).trans ?_
  rw [constant_apply]
  show Ideal.ofBits .f32 0x00000000#32 + _ = _
  rw [Ideal.ofBits_zero_f32, zero_add]
  refine Finset.sum_congr rfl fun f _ => ?_
  rw [shapeCast_apply _ _ _ (ix3 0 f c) (by simp [Shape.rowMajor_val_three, Shape.rowMajor_val_two])]
  rfl

/-- Column `f` of run `k` of a projection's weights is column `256 k + f`. -/
theorem cols_at (w : Vec Ideal S1x1024x2816 .bf16) (k : ℕ) (h : k < 11) (c : Fin 1024) (f : Fin 256) :
    part w (colsOf k h) (ix3 0 c f) = w (ix3 0 c ⟨256 * k + f.val, by omega⟩) := by
  refine congrArg w (funext fun a => Fin.ext ?_)
  match a with
  | ⟨0, _⟩ => rfl
  | ⟨1, _⟩ => show 0 + 1 * c.val = c.val; omega
  | ⟨2, _⟩ => show 256 * k + 1 * f.val = 256 * k + f.val; omega

/-- Row `f` of run `k` of the down projection's weights is row `256 k + f`. -/
theorem rows_at (w : Vec Ideal S1x2816x1024 .bf16) (k : ℕ) (h : k < 11) (f : Fin 256) (c : Fin 1024) :
    part w (downOf k h) (ix3 0 f c) = w (ix3 0 ⟨256 * k + f.val, by omega⟩ c) := by
  refine congrArg w (funext fun a => Fin.ext ?_)
  match a with
  | ⟨0, _⟩ => rfl
  | ⟨1, _⟩ => show 256 * k + 1 * f.val = 256 * k + f.val; omega
  | ⟨2, _⟩ => show 0 + 1 * c.val = c.val; omega

variable (x : FVec Ideal S512x1024 .bf16) (x1 x2 : Vec Ideal S1x1024x2816 .bf16) (x3 : Vec Ideal S1x2816x1024 .bf16)

/-- What run `k` of hidden columns adds to a token's result. -/
theorem chunk_at (k : ℕ) (h : k < 11) (i : Fin 512) (c : Fin 1024) :
    chunk x x1 x2 x3 k h (ix2 i c) = ∑ f : Fin 256, unit (fun c => x (ix2 i c)) (fun c f => x1 (ix3 0 c f)) (fun c f => x2 (ix3 0 c f)) ⟨256 * k + f.val, by omega⟩
      * x3 (ix3 0 ⟨256 * k + f.val, by omega⟩ c) := by
  have hp : ∀ (w : Vec Ideal S1x1024x2816 .bf16) (f : Fin 256), proj x (part w (colsOf k h)) (ix2 i f)
      = ∑ c : Fin 1024, x (ix2 i c) * w (ix3 0 c ⟨256 * k + f.val, by omega⟩) := fun w f =>
    (proj_at x (part w (colsOf k h)) i f).trans (Finset.sum_congr rfl fun c _ => congrArg (fun z : EReal => x (ix2 i c) * z) (cols_at w k h c f))
  refine (down_at (act (proj x (part x1 (colsOf k h))) (proj x (part x2 (colsOf k h)))) (part x3 (downOf k h)) i c).trans
    (Finset.sum_congr rfl fun f _ => congrArg₂ (fun a b : EReal => a * b) ?_ (rows_at x3 k h f c))
  exact congrArg₂ (fun g u : EReal => g * Ideal.logistic g * u) (hp x1 f) (hp x2 f)

/-- The sum of the first runs. -/
theorem acc_at (n : ℕ) (h : n < 11) (i : Fin 512) (c : Fin 1024) :
    acc x x1 x2 x3 n h (ix2 i c) = ∑ k : Fin (n + 1), chunk x x1 x2 x3 k.val (by omega) (ix2 i c) := by
  induction n with
  | zero => rw [Fin.sum_univ_one]; rfl
  | succ n ih =>
    rw [Fin.sum_univ_castSucc]
    exact congrArg (fun z : EReal => z + chunk x x1 x2 x3 (n + 1) h (ix2 i c)) (ih _)

/-- A sum over 2816 columns is the sum over eleven runs of 256. -/
theorem sum_runs (g : Fin 2816 → EReal) : ∑ k : Fin 11, ∑ f : Fin 256, g ⟨256 * k.val + f.val, by omega⟩ = ∑ f : Fin 2816, g f := by
  rw [← Fintype.sum_prod_type' fun (k : Fin 11) (f : Fin 256) => g ⟨256 * k.val + f.val, by omega⟩]
  refine Fintype.sum_equiv (finProdFinEquiv (m := 11) (n := 256)) _ _ fun p => congrArg g (Fin.ext ?_)
  show 256 * p.1.val + p.2.val = p.2.val + 256 * p.1.val
  omega

/-- All eleven runs make the network. -/
theorem acc_ten_at (i : Fin 512) (c : Fin 1024) :
    acc x x1 x2 x3 10 (by decide) (ix2 i c)
      = net (fun c => x (ix2 i c)) (fun c f => x1 (ix3 0 c f)) (fun c f => x2 (ix3 0 c f)) (fun f c => x3 (ix3 0 f c)) c := by
  rw [acc_at]
  simp only [chunk_at]
  exact sum_runs fun f => unit (fun c => x (ix2 i c)) (fun c f => x1 (ix3 0 c f)) (fun c f => x2 (ix3 0 c f)) f * x3 (ix3 0 f c)

/-- A live tile's block at an index. -/
theorem live_at (x0 : Vec Ideal S4096x128 .f32) (i : Fin 512) (k : Fin 8) (l : Fin 128) :
    liveBlk x0 x1 x2 x3 (ix2 ⟨8 * i.val + k.val, by omega⟩ l)
      = net (fun c => x0 (ix2 ⟨8 * i.val + c.val / 128, by omega⟩ ⟨c.val % 128, by omega⟩)) (fun c f => x1 (ix3 0 c f)) (fun c f => x2 (ix3 0 c f)) (fun f c => x3 (ix3 0 f c))
        ⟨128 * k.val + l.val, by omega⟩ := by
  have e : liveBlk x0 x1 x2 x3 (ix2 ⟨8 * i.val + k.val, by omega⟩ l) = acc (tokens x0) x1 x2 x3 10 (by decide) (ix2 i ⟨128 * k.val + l.val, by omega⟩) := by
    refine congrArg (acc (tokens x0) x1 x2 x3 10 (by decide)) (funext fun a => Fin.ext ?_)
    match a with
    | ⟨0, _⟩ => show (8 * i.val + k.val) / 8 = i.val; omega
    | ⟨1, _⟩ => show 128 * ((8 * i.val + k.val) % 8) + l.val = 128 * k.val + l.val; omega
  rw [e, acc_ten_at]
  refine congrArg (fun z => net z _ _ _ _) (funext fun c => ?_)
  have hc := tokens_at x0 i ⟨c.val / 128, by omega⟩ ⟨c.val % 128, by omega⟩
  rw [← hc]
  exact congrArg (fun z => tokens x0 (ix2 i z)) (Fin.ext (by show c.val = 128 * (c.val / 128) + c.val % 128; omega))

/-- A tile not in use is zero. -/
theorem dead_at (y : S4096x128.Idx) : k0_pay1 (F := Ideal) y = (0 : EReal) := Ideal.ofBits_zero_f32

end Cert.Experts
-- ==== Proof.Experts.Result.lean ====
/-
  The result array of the experts' call: its row `4096 t + r` is row `r` of the block of tile `t`, computed from the tile's
  tokens and the weights of the tile's expert.
-/
module

public import proofs.«01_k».proof.Proof.Experts.Tables
public import proofs.«01_k».proof.Proof.Experts.At
public import Idealize.ShloMosaic.Lib.Pipeline.ValueKit
public import Idealize.ShloMosaic.Lib.Pipeline.Covers

@[expose] public section

set_option maxRecDepth 16384

noncomputable section

namespace Cert.Experts

open Cert.Kernel2Ideal Cert.Kernel2Ideal.Gen
open Idealize.ShloMosaic hiding ix1 ix2 ix3 ix4 ix5
open Idealize.ShloMosaic.ValueIdx
open Idealize.ShloMosaic.TcCoe Idealize.ShloMosaic.Tactic
open Idealize.SL Idealize.SL.RA
open Idealize.ShloMosaic.Pipeline

variable {F : FTy → Type} [FloatOps F]
variable (m : (ℓ : Loc nD τ sig) → Buf (Elt F) ℓ) (ρ : Dev nD → PrngReg)

/-- The rows of tile `t`. -/
def xBlk (A : Vec F S557056x128 .f32) (t : Fin 136) : Vec F S4096x128 .f32 :=
  fun j => A (ix2 (⟨4096 * t.val + (j 0).val, by have h1 := t.isLt; have h2 : (j 0).val < 4096 := (j 0).isLt; omega⟩ : Fin 557056) (⟨(j 1).val, (j 1).isLt⟩ : Fin 128))

/-- One expert's gate or up projection. -/
def gBlk (A : Vec F S8x1024x2816 .bf16) (e : ℕ) : Vec F S1x1024x2816 .bf16 :=
  fun j => A (ix3 (⟨e % 8, Nat.mod_lt _ (by decide)⟩ : Fin 8) (⟨(j 1).val, (j 1).isLt⟩ : Fin 1024) (⟨(j 2).val, (j 2).isLt⟩ : Fin 2816))

/-- One expert's down projection. -/
def dBlk (A : Vec F S8x2816x1024 .bf16) (e : ℕ) : Vec F S1x2816x1024 .bf16 :=
  fun j => A (ix3 (⟨e % 8, Nat.mod_lt _ (by decide)⟩ : Fin 8) (⟨(j 1).val, (j 1).isLt⟩ : Fin 2816) (⟨(j 2).val, (j 2).isLt⟩ : Fin 1024))

/-- The grid point of a tile. -/
def pt (t : Fin 136) : grid0.Coords := fun a => match a with
  | ⟨0, _⟩ => t

/-- A tile's block, from the tiles' experts, the number of tiles, the rows and the weights. -/
def tileBlk (te : IVec S136 32) (n : BitVec 32) (X : Vec F S557056x128 .f32) (G U : Vec F S8x1024x2816 .bf16) (D : Vec F S8x2816x1024 .bf16)
    (t : Fin 136) : Vec F S4096x128 .f32 :=
  outBlk (pt t) n (xBlk X t) (gBlk G (te (tileIx (pt t))).toNat) (gBlk U (te (tileIx (pt t))).toNat) (dBlk D (te (tileIx (pt t))).toNat)

/-- The result array, from the same. -/
def outArr (te : IVec S136 32) (n : BitVec 32) (X : Vec F S557056x128 .f32) (G U : Vec F S8x1024x2816 .bf16) (D : Vec F S8x2816x1024 .bf16) :
    Vec F S557056x128 .f32 :=
  fun y => tileBlk te n X G U D (⟨(y 0).val / 4096, by have h : (y 0).val < 557056 := (y 0).isLt; omega⟩ : Fin 136)
    (ix2 (⟨(y 0).val % 4096, Nat.mod_lt _ (by decide)⟩ : Fin 4096) (⟨(y 1).val, (y 1).isLt⟩ : Fin 128))

/-- A grid point's tile. -/
abbrev tileOf (i : grid0.Coords) : Fin 136 := ⟨(i 0).val, (i 0).isLt⟩

/-- A grid point is its tile's. -/
theorem pt_tileOf (i : grid0.Coords) : pt (tileOf i) = i := funext fun a => match a with
  | ⟨0, _⟩ => rfl

/-- The blocks of the windows at a grid point. -/
theorem index0 (hO : Ok m) (t : Fin (cfgM m hO).N) : (pcfg0.win (adm m hO) 0).index t = ![(grid0.coords t 0).val, 0] := by
  funext a
  have h : (grid0.coords t 0).val < 136 := (grid0.coords t 0).isLt
  match a with
  | ⟨0, _⟩ => show (BitVec.ofNat 32 (grid0.coords t 0).val).toNat = _; rw [BitVec.toNat_ofNat, Nat.mod_eq_of_lt (by omega)]; rfl
  | ⟨1, _⟩ => rfl
theorem index4 (hO : Ok m) (t : Fin (cfgM m hO).N) : (pcfg0.win (adm m hO) 4).index t = ![(grid0.coords t 0).val, 0] := by
  funext a
  have h : (grid0.coords t 0).val < 136 := (grid0.coords t 0).isLt
  match a with
  | ⟨0, _⟩ => show (BitVec.ofNat 32 (grid0.coords t 0).val).toNat = _; rw [BitVec.toNat_ofNat, Nat.mod_eq_of_lt (by omega)]; rfl
  | ⟨1, _⟩ => rfl
theorem index1 (hO : Ok m) (t : Fin (cfgM m hO).N) : (pcfg0.win (adm m hO) 1).index t = ![BitVec.toNat (tbl m 0 (tileIx (grid0.coords t))), 0, 0] :=
  map_1 (tbl m) (grid0.coords t)
theorem index2 (hO : Ok m) (t : Fin (cfgM m hO).N) : (pcfg0.win (adm m hO) 2).index t = ![BitVec.toNat (tbl m 0 (tileIx (grid0.coords t))), 0, 0] :=
  map_2 (tbl m) (grid0.coords t)
theorem index3 (hO : Ok m) (t : Fin (cfgM m hO).N) : (pcfg0.win (adm m hO) 3).index t = ![BitVec.toNat (tbl m 0 (tileIx (grid0.coords t))), 0, 0] :=
  map_3 (tbl m) (grid0.coords t)

/-- The same, one coordinate at a time. -/
theorem index0_0 (hO : Ok m) (t : Fin (cfgM m hO).N) : (pcfg0.win (adm m hO) 0).index t (0 : Fin 2) = (grid0.coords t 0).val :=
  congrFun (index0 m hO t) (0 : Fin 2)
theorem index0_1 (hO : Ok m) (t : Fin (cfgM m hO).N) : (pcfg0.win (adm m hO) 0).index t (1 : Fin 2) = 0 :=
  congrFun (index0 m hO t) (1 : Fin 2)
theorem index1_0 (hO : Ok m) (t : Fin (cfgM m hO).N) : (pcfg0.win (adm m hO) 1).index t (0 : Fin 3) = BitVec.toNat (tbl m 0 (tileIx (grid0.coords t))) :=
  congrFun (index1 m hO t) (0 : Fin 3)
theorem index1_1 (hO : Ok m) (t : Fin (cfgM m hO).N) : (pcfg0.win (adm m hO) 1).index t (1 : Fin 3) = 0 :=
  congrFun (index1 m hO t) (1 : Fin 3)
theorem index1_2 (hO : Ok m) (t : Fin (cfgM m hO).N) : (pcfg0.win (adm m hO) 1).index t (2 : Fin 3) = 0 :=
  congrFun (index1 m hO t) (2 : Fin 3)
theorem index2_0 (hO : Ok m) (t : Fin (cfgM m hO).N) : (pcfg0.win (adm m hO) 2).index t (0 : Fin 3) = BitVec.toNat (tbl m 0 (tileIx (grid0.coords t))) :=
  congrFun (index2 m hO t) (0 : Fin 3)
theorem index2_1 (hO : Ok m) (t : Fin (cfgM m hO).N) : (pcfg0.win (adm m hO) 2).index t (1 : Fin 3) = 0 :=
  congrFun (index2 m hO t) (1 : Fin 3)
theorem index2_2 (hO : Ok m) (t : Fin (cfgM m hO).N) : (pcfg0.win (adm m hO) 2).index t (2 : Fin 3) = 0 :=
  congrFun (index2 m hO t) (2 : Fin 3)
theorem index3_0 (hO : Ok m) (t : Fin (cfgM m hO).N) : (pcfg0.win (adm m hO) 3).index t (0 : Fin 3) = BitVec.toNat (tbl m 0 (tileIx (grid0.coords t))) :=
  congrFun (index3 m hO t) (0 : Fin 3)
theorem index3_1 (hO : Ok m) (t : Fin (cfgM m hO).N) : (pcfg0.win (adm m hO) 3).index t (1 : Fin 3) = 0 :=
  congrFun (index3 m hO t) (1 : Fin 3)
theorem index3_2 (hO : Ok m) (t : Fin (cfgM m hO).N) : (pcfg0.win (adm m hO) 3).index t (2 : Fin 3) = 0 :=
  congrFun (index3 m hO t) (2 : Fin 3)
theorem index4_0 (hO : Ok m) (t : Fin (cfgM m hO).N) : (pcfg0.win (adm m hO) 4).index t (0 : Fin 2) = (grid0.coords t 0).val :=
  congrFun (index4 m hO t) (0 : Fin 2)
theorem index4_1 (hO : Ok m) (t : Fin (cfgM m hO).N) : (pcfg0.win (adm m hO) 4).index t (1 : Fin 2) = 0 :=
  congrFun (index4 m hO t) (1 : Fin 2)

/-- An offset of no whole block. -/
theorem zero_off {a b j : ℕ} (h : a = 0) : a * b + j = j := by rw [h, Nat.zero_mul, Nat.zero_add]
/-- A block's offset, written the other way about. -/
theorem mul_off {a b i j : ℕ} (h : a = i) : a * b + j = b * i + j := by rw [h, Nat.mul_comm]

/-- The rows' block at a grid point. -/
theorem iblk0 (hO : Ok m) (c : Dev nD) (t : Fin (cfgM m hO).N) : iblk m hO c 0 t = xBlk (V m c main_v0) (tileOf (grid0.coords t)) := by
  funext j
  unfold xBlk
  blk_simp [iblk]
  refine congrArg _ ?_
  blk_ext []
  · exact mul_off (index0_0 m hO t)
  · exact zero_off (index0_1 m hO t)

/-- The gate projections' block at a grid point, for experts below eight. -/
theorem iblk1 (hO : Ok m) (hlt : ∀ t, BitVec.toNat (tbl m 0 t) < 8) (c : Dev nD) (t : Fin (cfgM m hO).N) :
    iblk m hO c 1 t = gBlk (V m c main_v1) (BitVec.toNat (tbl m 0 (tileIx (grid0.coords t)))) := by
  funext j
  have h := hlt (tileIx (grid0.coords t))
  unfold gBlk
  blk_simp [iblk]
  refine congrArg _ ?_
  blk_ext []
  · exact (index1_0 m hO t).trans (Nat.mod_eq_of_lt h).symm
  · exact zero_off (index1_1 m hO t)
  · exact zero_off (index1_2 m hO t)

/-- The up projections' block at a grid point, for experts below eight. -/
theorem iblk2 (hO : Ok m) (hlt : ∀ t, BitVec.toNat (tbl m 0 t) < 8) (c : Dev nD) (t : Fin (cfgM m hO).N) :
    iblk m hO c 2 t = gBlk (V m c main_v2) (BitVec.toNat (tbl m 0 (tileIx (grid0.coords t)))) := by
  funext j
  have h := hlt (tileIx (grid0.coords t))
  unfold gBlk
  blk_simp [iblk]
  refine congrArg _ ?_
  blk_ext []
  · exact (index2_0 m hO t).trans (Nat.mod_eq_of_lt h).symm
  · exact zero_off (index2_1 m hO t)
  · exact zero_off (index2_2 m hO t)

/-- The down projections' block at a grid point, for experts below eight. -/
theorem iblk3 (hO : Ok m) (hlt : ∀ t, BitVec.toNat (tbl m 0 t) < 8) (c : Dev nD) (t : Fin (cfgM m hO).N) :
    iblk m hO c 3 t = dBlk (V m c main_v3) (BitVec.toNat (tbl m 0 (tileIx (grid0.coords t)))) := by
  funext j
  have h := hlt (tileIx (grid0.coords t))
  unfold dBlk
  blk_simp [iblk]
  refine congrArg _ ?_
  blk_ext []
  · exact (index3_0 m hO t).trans (Nat.mod_eq_of_lt h).symm
  · exact zero_off (index3_1 m hO t)
  · exact zero_off (index3_2 m hO t)

/-- What the run leaves in the output window at a grid point is the block of its tile. -/
theorem outAt_eq (hO : Ok m) (hlt : ∀ t, BitVec.toNat (tbl m 0 t) < 8) (c : Dev nD) (t : Fin (cfgM m hO).N) :
    outAt m hO c t = tileBlk (tbl m 0) (count c (tbl m 1)) (V m c main_v0) (V m c main_v1) (V m c main_v2) (V m c main_v3)
      (tileOf (grid0.coords t)) := by
  unfold tileBlk
  rw [pt_tileOf]
  unfold outAt
  rw [iblk0 m hO c t, iblk1 m hO hlt c t, iblk2 m hO hlt c t, iblk3 m hO hlt c t]

/-- The number of blocks of the result array: one for each tile. -/
theorem nblk_0 (hO : Ok m) : ((cfgM m hO).win 4).nblk (0 : Fin 2) = 136 := by
  show ((557056 : ℕ) + 4096 - 1) / 4096 = 136
  norm_num
theorem nblk_1 (hO : Ok m) : ((cfgM m hO).win 4).nblk (1 : Fin 2) = 1 := by
  show ((128 : ℕ) + 128 - 1) / 128 = 1
  norm_num

/-- Every block of the result array is written back at its tile's grid point. -/
theorem covers4 (hO : Ok m) : ((cfgM m hO).win 4).Covers :=
  ((cfgM m hO).win 4).covers_of_indexMap_surj rfl (show ∀ a : Fin 2, 0 < (![4096, 128] : Fin 2 → ℕ) a by decide) fun β => by
    have h0 : (β (0 : Fin 2)).val < 136 := lt_of_lt_of_eq (β (0 : Fin 2)).isLt (nblk_0 m hO)
    have h1 : (β (1 : Fin 2)).val < 1 := lt_of_lt_of_eq (β (1 : Fin 2)).isLt (nblk_1 m hO)
    refine ⟨pt ⟨(β (0 : Fin 2)).val, h0⟩, fun a => ?_⟩
    match a with
    | ⟨0, _⟩ =>
      show (BitVec.ofNat 32 (β (0 : Fin 2)).val).toNat = (β (0 : Fin 2)).val
      rw [BitVec.toNat_ofNat, Nat.mod_eq_of_lt (by omega)]
    | ⟨1, _⟩ =>
      show 0 = (β (1 : Fin 2)).val
      omega

/-- The result array of the call. -/
theorem result_eq (hO : Ok m) (hlt : ∀ t, BitVec.toNat (tbl m 0 t) < 8) (c : Dev nD) :
    (dats m hO 0 c).arrAt 4 (cfgM m hO).N = outArr (tbl m 0) (count c (tbl m 1)) (V m c main_v0) (V m c main_v1) (V m c main_v2) (V m c main_v3) :=
  (dats m hO 0 c).arrAt_eq_of_covers 4 _ (covers4 m hO) fun t hf y => by
    blk_simp
    rw [after_4, outAt_eq m hO hlt c t]
    have y0 : (y (0 : Fin 2)).val < 4096 := (y (0 : Fin 2)).isLt
    have y1 : (y (1 : Fin 2)).val < 128 := (y (1 : Fin 2)).isLt
    have e0 : ((((cfgM m hO).win 4).blk t).view.emb y (0 : Fin 2)).val = 4096 * (grid0.coords t 0).val + (y (0 : Fin 2)).val := by
      blk_simp
      exact mul_off (index4_0 m hO t)
    have e1 : ((((cfgM m hO).win 4).blk t).view.emb y (1 : Fin 2)).val = (y (1 : Fin 2)).val := by
      blk_simp
      exact zero_off (index4_1 m hO t)
    unfold outArr
    refine congrArg₂ (fun a b => tileBlk _ _ _ _ _ _ a b) (Fin.ext ?_) (funext fun a => Fin.ext ?_)
    · show _ = _ / 4096
      refine Eq.trans ?_ (congrArg (· / 4096) e0.symm)
      show (grid0.coords t 0).val = _
      dsimp only
      omega
    · match a with
      | ⟨0, _⟩ =>
        refine Eq.trans ?_ (congrArg (· % 4096) e0.symm)
        dsimp only
        show (y (0 : Fin 2)).val = _
        omega
      | ⟨1, _⟩ => exact e1.symm

end Cert.Experts

end
-- ==== Proof.Experts.Value.lean ====
/-
  The experts' call over the extended reals, read at an index: a token's column is the feed-forward network of the token
  with the weights of its tile's expert, or zero in a tile past the number of tiles.
-/
module

public import proofs.«01_k».proof.Proof.Experts.Result
public import Idealize.ShloMosaic.Lib.StableHlo.ReadAt

@[expose] public section

set_option maxRecDepth 16384

noncomputable section

namespace Cert.Experts

open Cert.Kernel2Ideal Cert.Kernel2Ideal.Gen
open Idealize.ShloMosaic hiding ix1 ix2 ix3 ix4 ix5
open Idealize.ShloMosaic.ValueIdx
open Idealize.ShloMosaic.TcCoe Idealize.ShloMosaic.Tactic

/-- A token's tile: 512 tokens to a tile. -/
abbrev tileOfToken (T : Fin 69632) : Fin 136 := ⟨T.val / 512, by omega⟩

/-- The expert of a token: its tile's. -/
abbrev expertOf (te : IVec S136 32) (T : Fin 69632) : Fin 8 := ⟨(te (ix1 (tileOfToken T))).toNat % 8, Nat.mod_lt _ (by decide)⟩

/-- Column `C` of token `T` in the result: the network of the token with its expert's weights where the tile is one of
    the `n` tiles, and zero elsewhere. -/
def spec (te : IVec S136 32) (n : BitVec 32) (x : FVec Ideal S69632x1024 .f32) (g u : FVec Ideal S8x1024x2816 .f32) (d : FVec Ideal S8x2816x1024 .f32)
    (T : Fin 69632) (C : Fin 1024) : EReal :=
  if IntOp.cmpi .slt (BitVec.ofNat 32 (T.val / 512)) n = 1#1 then
    net (fun c => x (ix2 T c)) (fun c f => g (ix3 (expertOf te T) c f)) (fun c f => u (ix3 (expertOf te T) c f)) (fun f c => d (ix3 (expertOf te T) f c)) C
  else 0

/-- The body's first condition: the grid point is below the number of tiles. -/
theorem cond1_iff (i : grid0.Coords) (w : BitVec 32) : k0_cond1 i w = 1#1 ↔ IntOp.cmpi .slt (BitVec.ofNat 32 (i 0).val) w = 1#1 := by
  unfold k0_cond1
  dsimp only
  show _ ↔ Scalar.cmpi .slt (BitVec.ofNat 32 (i 0).val) w = 1#1
  generalize Scalar.cmpi .slt (BitVec.ofNat 32 (i 0).val) w = b
  rcases BitVec.eq_zero_or_eq_one b with rfl | rfl <;> decide

/-- The result array at a token's column, where its rows are the tokens and its weights are as given. -/
theorem outArr_at (te : IVec S136 32) (n : BitVec 32) (X : Vec Ideal S557056x128 .f32) (G U : Vec Ideal S8x1024x2816 .bf16) (D : Vec Ideal S8x2816x1024 .bf16)
    (x : FVec Ideal S69632x1024 .f32) (g u : FVec Ideal S8x1024x2816 .f32) (d : FVec Ideal S8x2816x1024 .f32)
    (hX : ∀ (T : Fin 69632) (C : Fin 1024), X (ix2 ⟨8 * T.val + C.val / 128, by omega⟩ ⟨C.val % 128, by omega⟩) = x (ix2 T C))
    (hG : ∀ e c f, G (ix3 e c f) = g (ix3 e c f)) (hU : ∀ e c f, U (ix3 e c f) = u (ix3 e c f)) (hD : ∀ e f c, D (ix3 e f c) = d (ix3 e f c))
    (T : Fin 69632) (C : Fin 1024) :
    outArr te n X G U D (ix2 ⟨8 * T.val + C.val / 128, by omega⟩ ⟨C.val % 128, by omega⟩) = spec te n x g u d T C := by
  have e : outArr te n X G U D (ix2 ⟨8 * T.val + C.val / 128, by omega⟩ ⟨C.val % 128, by omega⟩)
      = tileBlk te n X G U D (tileOfToken T) (ix2 ⟨8 * (T.val % 512) + C.val / 128, by omega⟩ ⟨C.val % 128, by omega⟩) := by
    unfold outArr
    refine congrArg₂ (fun a b => tileBlk te n X G U D a b) (Fin.ext ?_) (funext fun a => Fin.ext ?_)
    · show (8 * T.val + C.val / 128) / 4096 = T.val / 512; omega
    · match a with
      | ⟨0, _⟩ => show (8 * T.val + C.val / 128) % 4096 = 8 * (T.val % 512) + C.val / 128; omega
      | ⟨1, _⟩ => rfl
  rw [e]
  unfold tileBlk outBlk spec
  have hi : tileIx (pt (tileOfToken T)) = ix1 (tileOfToken T) := funext fun a => match a with | ⟨0, _⟩ => rfl
  rw [hi]
  by_cases hc : IntOp.cmpi .slt (BitVec.ofNat 32 (T.val / 512)) n = 1#1
  · rw [if_pos hc, if_pos ((cond1_iff (pt (tileOfToken T)) n).mpr hc)]
    refine (live_at _ _ _ _ (⟨T.val % 512, by omega⟩ : Fin 512) (⟨C.val / 128, by omega⟩ : Fin 8) (⟨C.val % 128, by omega⟩ : Fin 128)).trans ?_
    have hx : (fun c : Fin 1024 => xBlk X (tileOfToken T) (ix2 ⟨8 * (T.val % 512) + c.val / 128, by omega⟩ ⟨c.val % 128, by omega⟩)) = fun c => x (ix2 T c) := by
      funext c
      rw [← hX T c]
      refine congrArg X (funext fun a => Fin.ext ?_)
      match a with
      | ⟨0, _⟩ => show 4096 * (T.val / 512) + (8 * (T.val % 512) + c.val / 128) = 8 * T.val + c.val / 128; omega
      | ⟨1, _⟩ => rfl
    have hC : (⟨128 * (C.val / 128) + C.val % 128, by omega⟩ : Fin 1024) = C := Fin.ext (by show 128 * (C.val / 128) + C.val % 128 = C.val; omega)
    refine Eq.trans ?_ (congrArg (fun C' => net (fun c => x (ix2 T c)) (fun c f => g (ix3 (expertOf te T) c f)) (fun c f => u (ix3 (expertOf te T) c f)) (fun f c => d (ix3 (expertOf te T) f c)) C') hC)
    refine congrFun ?_ _
    have hg : (fun (c : Fin 1024) (f : Fin 2816) => gBlk G (te (ix1 (tileOfToken T))).toNat (ix3 (0 : Fin 1) c f)) = fun c f => g (ix3 (expertOf te T) c f) :=
      funext fun c => funext fun f => hG (expertOf te T) c f
    have hu : (fun (c : Fin 1024) (f : Fin 2816) => gBlk U (te (ix1 (tileOfToken T))).toNat (ix3 (0 : Fin 1) c f)) = fun c f => u (ix3 (expertOf te T) c f) :=
      funext fun c => funext fun f => hU (expertOf te T) c f
    have hd : (fun (f : Fin 2816) (c : Fin 1024) => dBlk D (te (ix1 (tileOfToken T))).toNat (ix3 (0 : Fin 1) f c)) = fun f c => d (ix3 (expertOf te T) f c) :=
      funext fun f => funext fun c => hD (expertOf te T) f c
    rw [← hx, ← hg, ← hu, ← hd]
  · rw [if_neg hc, if_neg (fun h => hc ((cond1_iff (pt (tileOfToken T)) n).mp h))]
    exact dead_at _

variable (m : (ℓ : Loc nD τ sig) → Buf (Elt Ideal) ℓ) (c : Dev nD)

/-- The reshaped tokens: a token's columns are eight rows of 128. -/
theorem v0_at (T : Fin 69632) (C : Fin 1024) :
    V m c main_v0 (ix2 ⟨8 * T.val + C.val / 128, by omega⟩ ⟨C.val % 128, by omega⟩) = m ((c.tc : Thread nD τ).loc main_arg0) (ix2 T C) := by
  unfold V
  after_reads_at
  refine congrArg (m ((c.tc : Thread nD τ).loc main_arg0)) (funext fun a => Fin.ext ?_)
  match a with
  | ⟨0, _⟩ => show (8 * T.val + C.val / 128) / 8 = T.val; omega
  | ⟨1, _⟩ => show (8 * T.val + C.val / 128) % 8 * 128 + C.val % 128 = C.val; omega

/-- The weights as the kernel finds them: over the extended reals, the arguments. -/
theorem v1_at (e : Fin 8) (a : Fin 1024) (b : Fin 2816) : V m c main_v1 (ix3 e a b) = m ((c.tc : Thread nD τ).loc main_arg3) (ix3 e a b) := by
  unfold V
  after_reads_at
theorem v2_at (e : Fin 8) (a : Fin 1024) (b : Fin 2816) : V m c main_v2 (ix3 e a b) = m ((c.tc : Thread nD τ).loc main_arg4) (ix3 e a b) := by
  unfold V
  after_reads_at
theorem v3_at (e : Fin 8) (a : Fin 2816) (b : Fin 1024) : V m c main_v3 (ix3 e a b) = m ((c.tc : Thread nD τ).loc main_arg5) (ix3 e a b) := by
  unfold V
  after_reads_at

/-- The number of tiles that the kernel reads. -/
theorem count_eq : count c (tbl m 1) = m (((0 : Dev nD) : Thread nD τ).loc main_arg2) (ix1 (0 : Fin 1)) := by
  rw [tbl_1]
  refine congrArg (m (((0 : Dev nD) : Thread nD τ).loc main_arg2)) (funext fun a => Fin.ext ?_)
  match a with
  | ⟨0, _⟩ => exact Nat.lt_one_iff.mp (Fin.isLt _)

end Cert.Experts

end
-- ==== Proof.Experts.Ref.lean ====
/-
  The experts' reference over the extended reals, read at an index: of the eight experts' networks of a token the sum
  keeps the one its tile names, which is what the call computes.
-/
module

public import proofs.«01_k».proof.Proof.Gen.Reference2Ideal.Run
public import proofs.«01_k».proof.Proof.Experts.Value
public import Idealize.ShloMosaic.Lib.Pointwise
public import Idealize.ShloMosaic.Lib.WordCmp
import Mathlib.Tactic.NormNum

@[expose] public section

set_option maxRecDepth 16384

noncomputable section

namespace Cert.Experts.Ref

open Cert.Reference2Ideal Cert.Reference2Ideal.Gen
open Idealize.ShloMosaic hiding ix1 ix2 ix3 ix4 ix5
open Idealize.ShloMosaic.ValueIdx
open Idealize.ShloMosaic.TcCoe

variable (te : IVec S136 32) (n : IVec S1 32) (x : FVec Ideal S69632x1024 .f32) (w : FVec Ideal S8x1024x2816 .f32) (d : FVec Ideal S8x2816x1024 .f32)

/-- Where a tile's number is the expert's and the tile is one of those in use. -/
def mask : IVec S8x69632x1024 1 :=
  broadcastInDim S8x69632x1024 ![0, 1, 2] bcast_S8x69632x1_S8x69632x1024_0_1_2 (broadcastInDim S8x69632x1 ![0, 1] bcast_S8x69632_S8x69632x1_0_1 (shapeCast _ (broadcastInDim S8x136x512 ![0, 1] bcast_S8x136_S8x136x512_0_1 (andi (cmpi .eq (broadcastInDim S8x136 ![0, 1] bcast_S1x136_S8x136_0_1 (broadcastInDim S1x136 ![1] bcast_S136_S1x136_1 te)) (broadcastInDim S8x136 ![0, 1] bcast_S8x1_S8x136_0_1 (broadcastInDim S8x1 ![0] bcast_S8_S8x1_0 (iotaInDim S8 32 0)))) (broadcastInDim S8x136 ![0, 1] bcast_S1x136_S8x136_0_1 (broadcastInDim S1x136 ![1] bcast_S136_S1x136_1 (cmpi .slt (iotaInDim S136 32 0) (broadcastInDim S136 ![] bcast_S_S136 (shapeCast _ n shapeCasts_S1_S_))))))) shapeCasts_S8x136x512_S8x69632))

/-- Every token against every expert's projection. -/
def proj : FVec Ideal S69632x8x2816 .f32 :=
  Host.dotGeneral dot_S69632x1024_S8x1024x2816_S69632x8x2816_1_1_0_02_n_n none x w

variable (G U : FVec Ideal S69632x8x2816 .f32)

/-- The hidden units of two projections. -/
def hidden : FVec Ideal S69632x8x2816 .f32 :=
  mulf (mulf G (Host.divf (broadcastInDim S69632x8x2816 ![] bcast_S_S69632x8x2816 (constant S_ .f32 0x3F800000#32)) (addf (broadcastInDim S69632x8x2816 ![] bcast_S_S69632x8x2816 (constant S_ .f32 0x3F800000#32)) (Host.exp (Host.negf G))))) U

/-- The hidden units against every expert's down projection. -/
def outs : FVec Ideal S8x69632x1024 .f32 :=
  Host.dotGeneral dot_S69632x8x2816_S8x2816x1024_S8x69632x1024_2_1_0_2_1_0 none G d

variable (M : IVec S8x69632x1024 1) (Y : FVec Ideal S8x69632x1024 .f32)

/-- The sum over the experts of what the mask keeps. -/
def summed : FVec Ideal S69632x1024 .f32 :=
  Host.reduceAdd (select M Y (broadcastInDim S8x69632x1024 ![] bcast_S_S8x69632x1024 (id (constant S_ .f32 0x00000000#32)))) (constant S_ .f32 0x00000000#32) reducesTo_S8x69632x1024_S69632x1024_d0 h_S_

/-- The reference's result. -/
def result (u : FVec Ideal S8x1024x2816 .f32) : FVec Ideal S557056x128 .f32 :=
  shapeCast _ (summed (mask te n) (outs d (hidden (proj x w) (proj x u)))) shapeCasts_S69632x1024_S557056x128

/-- The mask at an index. -/
theorem mask_at (e : Fin 8) (T : Fin 69632) (C : Fin 1024) :
    mask te n (ix3 e T C) = IntOp.andi (IntOp.cmpi .eq (te (ix1 (tileOfToken T))) (BitVec.ofNat 32 e.val)) (IntOp.cmpi .slt (BitVec.ofNat 32 (T.val / 512)) (n (ix1 (0 : Fin 1)))) := by
  unfold mask
  pointwise
  refine congrArg₂ (fun a b : BitVec 32 => IntOp.andi (IntOp.cmpi .eq a (BitVec.ofNat 32 e.val)) (IntOp.cmpi .slt (BitVec.ofNat 32 (T.val / 512)) b)) (congrArg te ?_) (congrArg n ?_)
  · exact funext fun a => match a with | ⟨0, _⟩ => rfl
  · exact funext fun a => match a with | ⟨0, _⟩ => rfl

/-- A projection at an index: a sum over the token's columns. -/
theorem proj_at (T : Fin 69632) (e : Fin 8) (f : Fin 2816) : proj x w (ix3 T e f) = ∑ c : Fin 1024, x (ix2 T c) * w (ix3 e c f) := by
  unfold proj
  pointwise
  exact Finset.sum_congr rfl fun c _ => congrArg₂ (fun a b : EReal => a * b) (congrArg x (funext fun a => match a with | ⟨0, _⟩ => rfl | ⟨1, _⟩ => rfl))
    (congrArg w (funext fun a => match a with | ⟨0, _⟩ => rfl | ⟨1, _⟩ => rfl | ⟨2, _⟩ => rfl))

/-- The word of one is one. -/
theorem one_word : Ideal.ofBits FTy.f32 0x3F800000#32 = (1 : EReal) := by
  simp [Ideal.ofBits, Ideal.ieee, -EReal.coe_mul]; norm_num

/-- A hidden unit at an index. -/
theorem hidden_at (T : Fin 69632) (e : Fin 8) (f : Fin 2816) :
    hidden G U (ix3 T e f) = G (ix3 T e f) * Ideal.logistic (G (ix3 T e f)) * U (ix3 T e f) := by
  unfold hidden
  pointwise
  rfl

/-- An expert's output at an index: a sum over the hidden units. -/
theorem outs_at (e : Fin 8) (T : Fin 69632) (C : Fin 1024) : outs d G (ix3 e T C) = ∑ f : Fin 2816, G (ix3 T e f) * d (ix3 e f C) := by
  unfold outs
  pointwise
  exact Finset.sum_congr rfl fun f _ => congrArg₂ (fun a b : EReal => a * b) (congrArg G (funext fun a => match a with | ⟨0, _⟩ => rfl | ⟨1, _⟩ => rfl | ⟨2, _⟩ => rfl))
    (congrArg d (funext fun a => match a with | ⟨0, _⟩ => rfl | ⟨1, _⟩ => rfl | ⟨2, _⟩ => rfl))

/-- The sum at an index. -/
theorem summed_at (T : Fin 69632) (C : Fin 1024) : summed M Y (ix2 T C) = ∑ e : Fin 8, if M (ix3 e T C) = 1#1 then Y (ix3 e T C) else 0 := by
  unfold summed
  pointwise
  refine Finset.sum_congr rfl fun e _ => ?_
  have h : Idealize.ShloMosaic.ix3 e (ix2 T C 0) (ix2 T C 1) = ix3 e T C := funext fun a => match a with | ⟨0, _⟩ => rfl | ⟨1, _⟩ => rfl | ⟨2, _⟩ => rfl
  refine (congrArg (fun i => Scalar.select (M i) (Y i) (Ideal.ofBits FTy.f32 0x00000000#32)) h).trans ?_
  rw [Ideal.ofBits_zero_f32]
  rfl

/-- The result at a token's column. -/
theorem result_at (u : FVec Ideal S8x1024x2816 .f32) (T : Fin 69632) (C : Fin 1024) :
    result te n x w d u (ix2 ⟨8 * T.val + C.val / 128, by omega⟩ ⟨C.val % 128, by omega⟩) = summed (mask te n) (outs d (hidden (proj x w) (proj x u))) (ix2 T C) := by
  unfold result
  generalize summed (mask te n) (outs d (hidden (proj x w) (proj x u))) = R
  exact shapeCast_apply _ _ _ _ (by
    simp [Shape.rowMajor_val_two]
    show T.val * 1024 + C.val = (8 * T.val + C.val / 128) * 128 + C.val % 128
    omega)

/-- The reference computes the network of each token's expert in the tiles in use and zero elsewhere, where every
    tile's number is below eight. -/
theorem result_spec (hlt : ∀ t, (te t).toNat < 8) (u : FVec Ideal S8x1024x2816 .f32) (T : Fin 69632) (C : Fin 1024) :
    result te n x w d u (ix2 ⟨8 * T.val + C.val / 128, by omega⟩ ⟨C.val % 128, by omega⟩) = spec te (n (ix1 (0 : Fin 1))) x w u d T C := by
  rw [result_at, summed_at]
  have hT := hlt (ix1 (tileOfToken T))
  have hm : ∀ e : Fin 8, mask te n (ix3 e T C) = 1#1 ↔ e = expertOf te T ∧ IntOp.cmpi .slt (BitVec.ofNat 32 (T.val / 512)) (n (ix1 (0 : Fin 1))) = 1#1 := fun e => by
    rw [mask_at, IntOp.andi_eq_one]
    refine and_congr_left fun _ => ?_
    rw [WordCmp.cmpi_eq_eq_toNat, BitVec.toNat_ofNat, Nat.mod_eq_of_lt (by omega)]
    constructor
    · intro h
      by_contra hn
      rw [decide_eq_false (fun he => hn (Fin.ext (by show e.val = (te (ix1 (tileOfToken T))).toNat % 8; omega)))] at h
      exact absurd h (by decide)
    · rintro rfl
      rw [decide_eq_true (show (te (ix1 (tileOfToken T))).toNat = (te (ix1 (tileOfToken T))).toNat % 8 by omega)]
      rfl
  unfold spec
  by_cases hc : IntOp.cmpi .slt (BitVec.ofNat 32 (T.val / 512)) (n (ix1 (0 : Fin 1))) = 1#1
  · rw [if_pos hc, Finset.sum_eq_single (expertOf te T) (fun e _ hne => if_neg fun h => hne ((hm e).mp h).1) (fun h => absurd (Finset.mem_univ _) h),
      if_pos ((hm _).mpr ⟨rfl, hc⟩), outs_at]
    refine Finset.sum_congr rfl fun f _ => ?_
    rw [hidden_at, proj_at, proj_at]
    rfl
  · rw [if_neg hc]
    exact Finset.sum_eq_zero fun e _ => if_neg fun h => hc ((hm e).mp h).2

end Cert.Experts.Ref

end
-- ==== Proof.Experts.Final.lean ====
/-
  The experts' call and its reference end with one result: the tile numbers' bound from the precondition, and the two runs.
-/
module

public import proofs.«01_k».proof.Defs
public import proofs.«01_k».proof.Proof.Gen.Pre_experts
public import proofs.«01_k».proof.Proof.Experts.Ref

@[expose] public section

set_option maxRecDepth 16384

noncomputable section

namespace Cert.Experts

open Cert.Kernel2Ideal Cert.Kernel2Ideal.Gen
open Idealize.ShloMosaic hiding ix1 ix2 ix3 ix4 ix5
open Idealize.ShloMosaic.ValueIdx
open Idealize.ShloMosaic.TcCoe Idealize.ShloMosaic.Tactic
open Idealize.SL.Sem

/-- Every index of the result is a token and one of its columns. -/
theorem result_index (y : S557056x128.Idx) : ∃ (T : Fin 69632) (C : Fin 1024), y = ix2 ⟨8 * T.val + C.val / 128, by omega⟩ ⟨C.val % 128, by omega⟩ := by
  have h0 : (y 0).val < 557056 := (y 0).isLt
  have h1 : (y 1).val < 128 := (y 1).isLt
  refine ⟨⟨(y 0).val / 8, by omega⟩, ⟨128 * ((y 0).val % 8) + (y 1).val, by omega⟩, ?_⟩
  funext a; apply Fin.ext
  match a with
  | ⟨0, _⟩ => show (y 0).val = 8 * ((y 0).val / 8) + (128 * ((y 0).val % 8) + (y 1).val) / 128; omega
  | ⟨1, _⟩ => show (y 1).val = (128 * ((y 0).val % 8) + (y 1).val) % 128; omega

variable (m : (ℓ : Loc nD τ sig) → Buf (Elt Ideal) ℓ)

/-- The call's result array. -/
abbrev res (c : Dev nD) : Vec Ideal S557056x128 .f32 :=
  outArr (tbl m 0) (count c (tbl m 1)) (V m c main_v0) (V m c main_v1) (V m c main_v2) (V m c main_v3)

/-- The call's result at a token's column. -/
theorem res_at (c : Dev nD) (T : Fin 69632) (C : Fin 1024) :
    res m c (ix2 ⟨8 * T.val + C.val / 128, by omega⟩ ⟨C.val % 128, by omega⟩)
      = spec (m ((c.tc : Thread nD τ).loc main_arg1)) (m ((c.tc : Thread nD τ).loc main_arg2) (ix1 (0 : Fin 1))) (m ((c.tc : Thread nD τ).loc main_arg0))
        (m ((c.tc : Thread nD τ).loc main_arg3)) (m ((c.tc : Thread nD τ).loc main_arg4)) (m ((c.tc : Thread nD τ).loc main_arg5)) T C := by
  refine (outArr_at _ _ _ _ _ _ (m ((c.tc : Thread nD τ).loc main_arg0)) (m ((c.tc : Thread nD τ).loc main_arg3)) (m ((c.tc : Thread nD τ).loc main_arg4))
    (m ((c.tc : Thread nD τ).loc main_arg5)) (v0_at m c) (v1_at m c) (v2_at m c) (v3_at m c) T C).trans ?_
  rw [count_eq m c, tbl_0]
  obtain rfl : c = 0 := Subsingleton.elim _ _
  rfl

/-- From one set of arguments with every tile's number below eight the call and the reference compute one array. -/
theorem results_eq (c : Dev nD) (hlt : ∀ t, BitVec.toNat (m ((c.tc : Thread nD τ).loc main_arg1) t) < 8) :
    Ref.result (m ((c.tc : Thread nD τ).loc main_arg1)) (m ((c.tc : Thread nD τ).loc main_arg2)) (m ((c.tc : Thread nD τ).loc main_arg0))
      (m ((c.tc : Thread nD τ).loc main_arg3)) (m ((c.tc : Thread nD τ).loc main_arg5)) (m ((c.tc : Thread nD τ).loc main_arg4)) = res m c := by
  funext y
  obtain ⟨T, C, rfl⟩ := result_index y
  exact (Ref.result_spec _ _ _ _ _ hlt _ T C).trans (res_at m c T C).symm

/-- The call's run: its result array is `res` and its arguments are unchanged. -/
theorem kernel_run (ρ : Dev nD → PrngReg) (hlt : ∀ t, BitVec.toNat (m (((0 : Dev nD) : Thread nD τ).loc main_arg1) t) < 8) :
    θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    have keep : ∀ b : Ref sig .tc, b ∈ Pipeline.restRefs sig spec0 → b ≠ main_v0 → b ≠ main_v1 → b ≠ main_v2 → b ≠ main_v3 →
        _ = m ((c : Thread nD τ).loc b) := fun b hb h0 h1 h2 h3 => ((h c).2 b hb).trans (V_of_ne m c b h0 h1 h2 h3)
    exact ⟨((h c).1 4).trans (result_eq m (ok_of_pre m hlt) (fun t => by rw [tbl_0]; exact hlt t) c),
      keep main_arg0 (by decide) (by decide) (by decide) (by decide) (by decide),
      keep main_arg1 (by decide) (by decide) (by decide) (by decide) (by decide),
      keep main_arg2 (by decide) (by decide) (by decide) (by decide) (by decide),
      keep main_arg3 (by decide) (by decide) (by decide) (by decide) (by decide),
      keep main_arg4 (by decide) (by decide) (by decide) (by decide) (by decide),
      keep main_arg5 (by decide) (by decide) (by decide) (by decide) (by decide)⟩) (run_main m ρ (ok_of_pre m hlt))

end Cert.Experts

end
-- ==== Proof.Ffn.Value.lean ====
/-
  The dense layer's call over the extended reals, read at an index: a token plus the feed-forward network of the token
  normalised by its root mean square.
-/
module

public import proofs.«01_k».proof.Proof.Gen.Kernel3Ideal.Value
public import proofs.«01_k».proof.Proof.Experts.At
public import Idealize.ShloMosaic.Lib.MatmulPlain
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Ffn

open Cert.Kernel3Ideal Cert.Kernel3Ideal.Gen
open Idealize.ShloMosaic hiding ix1 ix2 ix3 ix4 ix5
open Idealize.ShloMosaic.ValueIdx
open Idealize.ShloMosaic.TcCoe Idealize.ShloMosaic.Tactic

/-! ## The layer, as a function of one token and the weights -/

/-- A token over its root mean square, times the gain. -/
def normed (x g : Fin 1024 → EReal) (c : Fin 1024) : EReal :=
  x c * Ideal.rsqrt (Ideal.div (∑ k : Fin 1024, x k * x k) (Ideal.ofBits .f32 0x44800000#32) + Ideal.ofBits .f32 0x358637BD#32) * g c

/-- The layer's output column: the token's plus the network's of the normalised token. -/
def layer (x g : Fin 1024 → EReal) (G U : Fin 1024 → Fin 2816 → EReal) (D : Fin 2816 → Fin 1024 → EReal) (c : Fin 1024) : EReal :=
  x c + Cert.Experts.net (normed x g) G U D c

/-! ## The kernel's body, in stages -/

/-- The normalised tokens. -/
def norm (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 g broadcasts_S1x1024_S512x1024)

/-- A projection. -/
def proj (h : FVec Ideal S512x1024 .bf16) (w : FVec Ideal S1024x2816 .bf16) : FVec Ideal S512x2816 .f32 :=
  matmul dot_S512x1024_S1024x2816_S512x2816_1_0_0_1_n_n none h w (constant S512x2816 .f32 0x00000000#32)

/-- The hidden units of two projections. -/
def hidden (G U : FVec Ideal S512x2816 .f32) : FVec Ideal S512x2816 .f32 := mulf (mulf G (logistic G)) U

/-- The down projection. -/
def down (h : FVec Ideal S512x2816 .bf16) (w : FVec Ideal S2816x1024 .bf16) : FVec Ideal S512x1024 .f32 :=
  matmul dot_S512x2816_S2816x1024_S512x1024_1_0_0_1_n_n none h w (constant S512x1024 .f32 0x00000000#32)

/-- A shape cast to the same shape changes nothing. -/
theorem cast_self {α : Type} {s : Shape} (v : s.Idx → α) (h : s.ShapeCasts s) : shapeCast s v h = v :=
  funext fun y => shapeCast_apply v h y y rfl

variable (x : Vec Ideal S512x1024 .f32) (g : Vec Ideal S1x1024 .f32) (G U : Vec Ideal S1024x2816 .bf16) (D : Vec Ideal S2816x1024 .bf16)

/-- The body's result from its stages. -/
theorem pay_eq : k0_pay1 x g G U D = addf x (down (truncf .bf16 (hidden (proj (truncf .bf16 (norm x g) bitsLt_bf16_f32) G) (proj (truncf .bf16 (norm x g) bitsLt_bf16_f32) U)) bitsLt_bf16_f32) D) := by
  unfold k0_pay1
  dsimp only
  rw [cast_self x, cast_self g, cast_self G, cast_self U, cast_self D]
  rfl

/-- The normalised tokens at an index. -/
theorem norm_at (i : Fin 512) (c : Fin 1024) : norm x g (ix2 i c) = normed (fun c => x (ix2 i c)) (fun c => g (ix2 0 c)) c := by
  unfold norm
  pointwise
  rfl

/-- A projection at an index. -/
theorem proj_at (h : FVec Ideal S512x1024 .bf16) (w : FVec Ideal S1024x2816 .bf16) (i : Fin 512) (f : Fin 2816) :
    proj h w (ix2 i f) = ∑ c : Fin 1024, h (ix2 i c) * w (ix2 c f) := by
  unfold proj
  refine (Ideal.matmul_plain_apply (M := 512) (K := 1024) (N := 2816) none h w _ i f).trans ?_
  rw [constant_apply]
  show Ideal.ofBits .f32 0x00000000#32 + _ = _
  rw [Ideal.ofBits_zero_f32, zero_add]

/-- The down projection at an index. -/
theorem down_at (h : FVec Ideal S512x2816 .bf16) (w : FVec Ideal S2816x1024 .bf16) (i : Fin 512) (c : Fin 1024) :
    down h w (ix2 i c) = ∑ f : Fin 2816, h (ix2 i f) * w (ix2 f c) := by
  unfold down
  refine (Ideal.matmul_plain_apply (M := 512) (K := 2816) (N := 1024) none h w _ i c).trans ?_
  rw [constant_apply]
  show Ideal.ofBits .f32 0x00000000#32 + _ = _
  rw [Ideal.ofBits_zero_f32, zero_add]

/-- The body's result at an index: the layer of the block's token. -/
theorem pay_at (i : Fin 512) (c : Fin 1024) :
    k0_pay1 x g G U D (ix2 i c) = layer (fun c => x (ix2 i c)) (fun c => g (ix2 0 c)) (fun c f => G (ix2 c f)) (fun c f => U (ix2 c f)) (fun f c => D (ix2 f c)) c := by
  have hp : ∀ (w : Vec Ideal S1024x2816 .bf16) (f : Fin 2816), proj (truncf .bf16 (norm x g) bitsLt_bf16_f32) w (ix2 i f)
      = ∑ c : Fin 1024, normed (fun c => x (ix2 i c)) (fun c => g (ix2 0 c)) c * w (ix2 c f) := fun w f =>
    (proj_at _ w i f).trans (Finset.sum_congr rfl fun c _ => congrArg (fun z : EReal => z * w (ix2 c f)) (norm_at x g i c))
  rw [pay_eq]
  refine congrArg (fun z : EReal => x (ix2 i c) + z) ((down_at _ D i c).trans (Finset.sum_congr rfl fun f _ => congrArg (fun z : EReal => z * D (ix2 f c)) ?_))
  exact congrArg₂ (fun g u : EReal => g * Ideal.logistic g * u) (hp G f) (hp U f)

/-! ## The result array -/

/-- The rows of 512 tokens that a grid point takes. -/
def rowsBlk (X : Vec Ideal S32768x1024 .f32) (t : Fin 64) : Vec Ideal S512x1024 .f32 :=
  fun j => X (ix2 (⟨512 * t.val + (j 0).val, by have h : (j 0).val < 512 := (j 0).isLt; omega⟩ : Fin 32768) (⟨(j 1).val, (j 1).isLt⟩ : Fin 1024))

/-- The result array as a function of the arrays the call takes. -/
def outArr (X : Vec Ideal S32768x1024 .f32) : Vec Ideal S32768x1024 .f32 := fun y =>
  k0_pay1 (rowsBlk X (⟨(y 0).val / 512, by have h : (y 0).val < 32768 := (y 0).isLt; omega⟩ : Fin 64)) g G U D
    (ix2 (⟨(y 0).val % 512, Nat.mod_lt _ (by decide)⟩ : Fin 512) (⟨(y 1).val, (y 1).isLt⟩ : Fin 1024))

/-- The windows' blocks at a grid point: the tokens' and the result's move, the weights' stay. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)

variable (m : (ℓ : Loc nD τ sig) → Buf (Elt Ideal) ℓ) (c : Dev nD)

/-- The tokens at a grid point. -/
theorem iblk0 (t : Fin cfg0.N) : iblk m c 0 t = rowsBlk (V m c main_v0) (⟨t.val, t.isLt⟩ : Fin 64) := by
  funext j
  unfold rowsBlk
  blk_simp [iblk]
  refine congrArg _ ?_
  blk_ext [index0]

/-- The gain and the weights at a grid point: the whole arrays. -/
theorem iblk1 (t : Fin cfg0.N) : iblk m c 1 t = V m c main_v1 := by
  funext j
  blk_simp [iblk]
  refine congrArg _ ?_
  blk_ext [index1]
theorem iblk2 (t : Fin cfg0.N) : iblk m c 2 t = V m c main_v2 := by
  funext j
  blk_simp [iblk]
  refine congrArg _ ?_
  blk_ext [index2]
theorem iblk3 (t : Fin cfg0.N) : iblk m c 3 t = V m c main_v3 := by
  funext j
  blk_simp [iblk]
  refine congrArg _ ?_
  blk_ext [index3]
theorem iblk4 (t : Fin cfg0.N) : iblk m c 4 t = V m c main_v4 := by
  funext j
  blk_simp [iblk]
  refine congrArg _ ?_
  blk_ext [index4]

/-- A grid point's result is its body's. -/
theorem out_eq : out0_5 x g G U D = k0_pay1 x g G U D := by
  unfold out0_5
  rw [View.canon_cons_unit_lit _ _ _ (by decide)]
  exact congr (congr (congr (congr (congrArg k0_pay1 (View.ld_unit_lit _ x (by decide))) (View.ld_unit_lit _ g (by decide))) (View.ld_unit_lit _ G (by decide)))
    (View.ld_unit_lit _ U (by decide))) (View.ld_unit_lit _ D (by decide))

/-- What the call leaves in its result array. -/
theorem result_eq : (dats m 0 c).arrAt 5 cfg0.N = outArr (V m c main_v1) (V m c main_v2) (V m c main_v3) (V m c main_v4) (V m c main_v0) := by
  refine (dats m 0 c).arrAt_eq_of_covers 5 _ (by decide +kernel) fun t hf y => ?_
  blk_simp
  rw [after0_5, iblk0, iblk1, iblk2, iblk3, iblk4, out_eq]
  have y0 : (y 0).val < 512 := (y 0).isLt
  have e0 : (((win0_5.blk t).view.emb y) 0).val = 512 * t.val + (y 0).val := by
    blk_simp [index5]; omega
  have e1 : (((win0_5.blk t).view.emb y) 1).val = (y 1).val := by
    blk_simp [index5]
  unfold outArr
  refine congrArg₂ (fun (a : Fin 64) b => k0_pay1 (rowsBlk (V m c main_v0) a) (V m c main_v1) (V m c main_v2) (V m c main_v3) (V m c main_v4) b) (Fin.ext ?_) (funext fun a => Fin.ext ?_)
  · show t.val = (((win0_5.blk t).view.emb y) 0).val / 512; omega
  · match a with
    | ⟨0, _⟩ => show (y 0).val = (((win0_5.blk t).view.emb y) 0).val % 512; omega
    | ⟨1, _⟩ => show (y 1).val = (((win0_5.blk t).view.emb y) 1).val; omega

/-! ## The arrays the call takes -/

/-- The tokens: a batch entry's rows follow one another. -/
theorem v0_at (b : Fin 4) (s : Fin 8192) (C : Fin 1024) :
    V m c main_v0 (ix2 ⟨8192 * b.val + s.val, by omega⟩ C) = m ((c.tc : Thread nD τ).loc main_arg0) (ix3 b s C) := by
  unfold V
  after_reads_at
  refine congrArg (m ((c.tc : Thread nD τ).loc main_arg0)) (funext fun a => Fin.ext ?_)
  match a with
  | ⟨0, _⟩ => show (8192 * b.val + s.val) / 8192 = b.val; omega
  | ⟨1, _⟩ => show (8192 * b.val + s.val) % 8192 = s.val; omega
  | ⟨2, _⟩ => rfl

/-- The gain and the weights: the arguments. -/
theorem v1_at (C : Fin 1024) : V m c main_v1 (ix2 (0 : Fin 1) C) = m ((c.tc : Thread nD τ).loc main_arg1) (ix1 C) := by
  unfold V
  after_reads_at
  refine congrArg (m ((c.tc : Thread nD τ).loc main_arg1)) (funext fun a => Fin.ext ?_)
  match a with
  | ⟨0, _⟩ => rfl
theorem v2_at (a : Fin 1024) (b : Fin 2816) : V m c main_v2 (ix2 a b) = m ((c.tc : Thread nD τ).loc main_arg2) (ix2 a b) := by
  unfold V
  after_reads_at
theorem v3_at (a : Fin 1024) (b : Fin 2816) : V m c main_v3 (ix2 a b) = m ((c.tc : Thread nD τ).loc main_arg3) (ix2 a b) := by
  unfold V
  after_reads_at
theorem v4_at (a : Fin 2816) (b : Fin 1024) : V m c main_v4 (ix2 a b) = m ((c.tc : Thread nD τ).loc main_arg4) (ix2 a b) := by
  unfold V
  after_reads_at

/-- The layer of a token of the arguments. -/
def spec (x : FVec Ideal S4x8192x1024 .f32) (g : FVec Ideal S1024 .f32) (G U : FVec Ideal S1024x2816 .f32) (D : FVec Ideal S2816x1024 .f32)
    (b : Fin 4) (s : Fin 8192) (C : Fin 1024) : EReal :=
  layer (fun c => x (ix3 b s c)) (fun c => g (ix1 c)) (fun c f => G (ix2 c f)) (fun c f => U (ix2 c f)) (fun f c => D (ix2 f c)) C

/-- The call's result array. -/
abbrev res : Vec Ideal S32768x1024 .f32 := outArr (V m c main_v1) (V m c main_v2) (V m c main_v3) (V m c main_v4) (V m c main_v0)

/-- The call's result at a token's column. -/
theorem res_at (b : Fin 4) (s : Fin 8192) (C : Fin 1024) :
    res m c (ix2 ⟨8192 * b.val + s.val, by omega⟩ C)
      = spec (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) b s C := by
  unfold res outArr
  refine (pay_at _ _ _ _ _ (⟨(8192 * b.val + s.val) % 512, by omega⟩ : Fin 512) C).trans ?_
  have hx : (fun c' : Fin 1024 => rowsBlk (V m c main_v0) (⟨(8192 * b.val + s.val) / 512, by omega⟩ : Fin 64) (ix2 (⟨(8192 * b.val + s.val) % 512, by omega⟩ : Fin 512) c'))
      = fun c' => m ((c.tc : Thread nD τ).loc main_arg0) (ix3 b s c') := by
    funext c'
    rw [← v0_at m c b s c']
    refine congrArg (V m c main_v0) (funext fun a => Fin.ext ?_)
    match a with
    | ⟨0, _⟩ => show 512 * ((8192 * b.val + s.val) / 512) + (8192 * b.val + s.val) % 512 = 8192 * b.val + s.val; omega
    | ⟨1, _⟩ => rfl
  unfold spec
  simp only [← v1_at m c, ← v2_at m c, ← v3_at m c, ← v4_at m c, ← hx]

end Cert.Ffn

end
-- ==== Proof.Ffn.Ref.lean ====
/-
  The dense layer's reference over the extended reals, read at an index: the same function of a token and the weights as
  the call's.
-/
module

public import proofs.«01_k».proof.Proof.Gen.Reference3Ideal.Run
public import proofs.«01_k».proof.Proof.Ffn.Value
public import Idealize.ShloMosaic.Lib.Pointwise

@[expose] public section

set_option maxRecDepth 16384

noncomputable section

namespace Cert.Ffn.Ref

open Cert.Reference3Ideal Cert.Reference3Ideal.Gen
open Idealize.ShloMosaic hiding ix1 ix2 ix3 ix4 ix5
open Idealize.ShloMosaic.ValueIdx
open Idealize.ShloMosaic.TcCoe

variable (x : FVec Ideal S4x8192x1024 .f32) (g : FVec Ideal S1024 .f32) (w u : FVec Ideal S1024x2816 .f32) (d : FVec Ideal S2816x1024 .f32)

/-- The normalised tokens. -/
def norm : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- A projection. -/
def proj : FVec Ideal S4x8192x2816 .f32 := Host.dotGeneral dot_S4x8192x1024_S1024x2816_S4x8192x2816_2_0_01_1_n_n none x w

variable (G U : FVec Ideal S4x8192x2816 .f32)

/-- The hidden units of two projections. -/
def hidden : FVec Ideal S4x8192x2816 .f32 :=
  mulf (mulf G (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf G))))) U

/-- The down projection. -/
def down : FVec Ideal S4x8192x1024 .f32 := Host.dotGeneral dot_S4x8192x2816_S2816x1024_S4x8192x1024_2_0_01_1_n_n none G d

/-- The reference's result. -/
def result : FVec Ideal S32768x1024 .f32 :=
  shapeCast _ (addf x (down d (hidden (proj (norm x g) w) (proj (norm x g) u)))) shapeCasts_S4x8192x1024_S32768x1024

/-- The normalised tokens at an index. -/
theorem norm_at (b : Fin 4) (s : Fin 8192) (c : Fin 1024) : norm x g (ix3 b s c) = normed (fun c => x (ix3 b s c)) (fun c => g (ix1 c)) c := by
  unfold norm
  pointwise
  rfl

/-- A projection at an index. -/
theorem proj_at (b : Fin 4) (s : Fin 8192) (f : Fin 2816) : proj x w (ix3 b s f) = ∑ c : Fin 1024, x (ix3 b s c) * w (ix2 c f) := by
  unfold proj
  pointwise
  exact Finset.sum_congr rfl fun c _ => congrArg₂ (fun a b : EReal => a * b) (congrArg x (funext fun a => match a with | ⟨0, _⟩ => rfl | ⟨1, _⟩ => rfl | ⟨2, _⟩ => rfl))
    (congrArg w (funext fun a => match a with | ⟨0, _⟩ => rfl | ⟨1, _⟩ => rfl))

/-- A hidden unit at an index. -/
theorem hidden_at (b : Fin 4) (s : Fin 8192) (f : Fin 2816) :
    hidden G U (ix3 b s f) = G (ix3 b s f) * Ideal.logistic (G (ix3 b s f)) * U (ix3 b s f) := by
  unfold hidden
  pointwise
  rfl

/-- The down projection at an index. -/
theorem down_at (b : Fin 4) (s : Fin 8192) (C : Fin 1024) : down d G (ix3 b s C) = ∑ f : Fin 2816, G (ix3 b s f) * d (ix2 f C) := by
  unfold down
  pointwise
  exact Finset.sum_congr rfl fun f _ => congrArg₂ (fun a b : EReal => a * b) (congrArg G (funext fun a => match a with | ⟨0, _⟩ => rfl | ⟨1, _⟩ => rfl | ⟨2, _⟩ => rfl))
    (congrArg d (funext fun a => match a with | ⟨0, _⟩ => rfl | ⟨1, _⟩ => rfl))

/-- The reference computes the layer of each token. -/
theorem result_spec (b : Fin 4) (s : Fin 8192) (C : Fin 1024) :
    result x g w u d (ix2 ⟨8192 * b.val + s.val, by omega⟩ C) = spec x g w u d b s C := by
  have e : result x g w u d (ix2 ⟨8192 * b.val + s.val, by omega⟩ C)
      = x (ix3 b s C) + down d (hidden (proj (norm x g) w) (proj (norm x g) u)) (ix3 b s C) := by
    unfold result
    generalize down d (hidden (proj (norm x g) w) (proj (norm x g) u)) = R
    exact shapeCast_apply (addf x R) _ _ (ix3 b s C) (by
      simp [Shape.rowMajor_val_two, Shape.rowMajor_val_three]
      exact Nat.mul_comm _ _)
  rw [e, down_at]
  refine congrArg (fun z : EReal => x (ix3 b s C) + z) (Finset.sum_congr rfl fun f _ => ?_)
  rw [hidden_at, proj_at, proj_at]
  simp only [norm_at]
  rfl

end Cert.Ffn.Ref

end
-- ==== Proof.Ffn.Final.lean ====
/-
  The dense layer's call and its reference end with one result: the two results read at an index, and the call's run.
-/
module

public import proofs.«01_k».proof.Proof.Ffn.Ref

@[expose] public section

set_option maxRecDepth 16384

noncomputable section

namespace Cert.Ffn

open Cert.Kernel3Ideal Cert.Kernel3Ideal.Gen
open Idealize.ShloMosaic hiding ix1 ix2 ix3 ix4 ix5
open Idealize.ShloMosaic.ValueIdx
open Idealize.ShloMosaic.TcCoe Idealize.ShloMosaic.Tactic
open Idealize.SL.Sem

/-- Every index of the result is a token of a batch entry and one of its columns. -/
theorem result_index (y : S32768x1024.Idx) : ∃ (b : Fin 4) (s : Fin 8192) (C : Fin 1024), y = ix2 ⟨8192 * b.val + s.val, by omega⟩ C := by
  have h0 : (y 0).val < 32768 := (y 0).isLt
  refine ⟨⟨(y 0).val / 8192, by omega⟩, ⟨(y 0).val % 8192, by omega⟩, ⟨(y 1).val, (y 1).isLt⟩, ?_⟩
  funext a; apply Fin.ext
  match a with
  | ⟨0, _⟩ => show (y 0).val = 8192 * ((y 0).val / 8192) + (y 0).val % 8192; omega
  | ⟨1, _⟩ => rfl

variable (m : (ℓ : Loc nD τ sig) → Buf (Elt Ideal) ℓ)

/-- From one set of arguments the call and the reference compute one array. -/
theorem results_eq (c : Dev nD) :
    Ref.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = res m c := by
  funext y
  obtain ⟨b, s, C, rfl⟩ := result_index y
  exact (Ref.result_spec _ _ _ _ _ b s C).trans (res_at m c b s C).symm

/-- The call's run: its result array is `res` and its arguments are unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v5) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m c), (h c).2⟩) (Cert.Kernel3Ideal.Value.run_blocks m ρ)

end Cert.Ffn

end
-- ==== Proof.Qkv.Block.lean ====
/-
  The projection call's block of values over the extended reals: the body's payloads read at an index.
-/
module

public import proofs.«01_k».proof.Proof.Gen.Kernel4Ideal.Frame.Runs
public import proofs.«01_k».proof.Proof.Ffn.Value
public import Idealize.ShloMosaic.Lib.Pointwise

@[expose] public section

set_option maxRecDepth 16384

noncomputable section

namespace Cert.Qkv

open Cert.Kernel4Ideal Cert.Kernel4Ideal.Gen
open Idealize.ShloMosaic hiding ix1 ix2 ix3 ix4 ix5
open Idealize.ShloMosaic.ValueIdx
open Idealize.ShloMosaic.TcCoe Idealize.ShloMosaic.Tactic
open Cert.Ffn (normed cast_self)

/-- A value: column `r` of the projection of the normalised token. -/
def value (x g : Fin 1024 → EReal) (W : Fin 1024 → Fin 1024 → EReal) (r : Fin 1024) : EReal := ∑ c : Fin 1024, normed x g c * W c r

/-- Under a head's 64 rows of values: a row of ones, then zeros. -/
def under (r : ℕ) : EReal := if r = 64 then 1 else 0

variable (x : Vec Ideal S1x512x1024 .f32) (g : Vec Ideal S1x1024 .f32) (W : Vec Ideal S1024x1024 .bf16)

/-- The normalised tokens at an index. -/
theorem norm_at (i : Fin 512) (c : Fin 1024) : k0_pay10 x g (ix2 i c) = normed (fun c => x (ix3 0 i c)) (fun c => g (ix2 0 c)) c := by
  unfold k0_pay10 k0_pay9 k0_pay7
  rw [cast_self g]
  pointwise
  rfl

/-- The values of a block's tokens at an index. -/
theorem vals_at (r : Fin 1024) (i : Fin 512) :
    k0_pay55 (k0_pay10 x g) W (ix2 r i) = value (fun c => x (ix3 0 i c)) (fun c => g (ix2 0 c)) (fun c r => W (ix2 r c)) r := by
  unfold k0_pay55
  rw [cast_self W]
  generalize hh : k0_pay10 x g = h
  pointwise
  subst hh
  unfold value
  exact Finset.sum_congr rfl fun c _ => (congrArg₂ (fun a b : EReal => a * b)
    (congrArg W (funext fun a => match a with | ⟨0, _⟩ => rfl | ⟨1, _⟩ => rfl))
    ((congrArg (k0_pay10 x g) (funext fun a => match a with | ⟨0, _⟩ => rfl | ⟨1, _⟩ => rfl)).trans (norm_at x g i c))).trans (mul_comm _ _)

/-- The block from the values: per head its 64 rows, a row of ones and fifteen of zeros. -/
def blk (v : FVec Ideal S1024x512 .bf16) : Vec Ideal S1x16x80x512 .bf16 := fun y =>
  if h : (y 2).val < 64 then v (ix2 (⟨64 * (y 1).val + (y 2).val, by have h1 : (y 1).val < 16 := (y 1).isLt; omega⟩ : Fin 1024) (⟨(y 3).val, (y 3).isLt⟩ : Fin 512))
  else under (y 2).val

/-- A head's stored values are its rows of the block. -/
theorem vals_piece (v : FVec Ideal S1024x512 .bf16) (h o : ℕ) (ho : o = 64 * h) (sl : S1024x512.Slices ![o, 0] S64x512)
    (inb : ∀ a, (![0, h, 0, 0] : Fin 4 → ℕ) a + S1x1x64x512.size a ≤ S1x16x80x512.size a) (y : S1x1x64x512.Idx) :
    shapeCast S1x1x64x512 (extractStridedSlice S64x512 ![o, 0] v sl) shapeCasts_S64x512_S1x1x64x512 y
      = blk v ((Rect.unit (s := S1x16x80x512) ![0, h, 0, 0] S1x1x64x512.size inb).emb y) := by
  have y0 : (y 0).val < 1 := (y 0).isLt
  have y1 : (y 1).val < 1 := (y 1).isLt
  have y2 : (y 2).val < 64 := (y 2).isLt
  have y3 : (y 3).val < 512 := (y 3).isLt
  have e1 : ((Rect.unit (s := S1x16x80x512) ![0, h, 0, 0] S1x1x64x512.size inb).emb y 1).val = h + 1 * (y 1).val := rfl
  have e2 : ((Rect.unit (s := S1x16x80x512) ![0, h, 0, 0] S1x1x64x512.size inb).emb y 2).val = 0 + 1 * (y 2).val := rfl
  have e3 : ((Rect.unit (s := S1x16x80x512) ![0, h, 0, 0] S1x1x64x512.size inb).emb y 3).val = 0 + 1 * (y 3).val := rfl
  rw [shapeCast_apply _ _ _ (ix2 (⟨(y 2).val, y2⟩ : Fin 64) (⟨(y 3).val, y3⟩ : Fin 512)) (by
    simp [Shape.rowMajor_val_two, Shape.rowMajor_val_four])]
  unfold blk
  rw [dif_pos (by rw [e2]; omega)]
  refine congrArg v (funext fun a => Fin.ext ?_)
  match a with
  | ⟨0, _⟩ => show o + (y 2).val = 64 * _ + _; rw [e1, e2]; omega
  | ⟨1, _⟩ => show 0 + (y 3).val = _; rw [e3]; omega

/-- Of the sixteen rows under a head's values the first is the row of ones. -/
theorem is_first (n : ℕ) (hn : n < 16) :
    FloatOps.sitofp (F := Ideal) .f32 (BitVec.setWidth 32 (IntOp.cmpi .eq (BitVec.ofNat 32 n) 0#32)) = under (64 + n) := by
  have hb : ∀ n : Fin 16, (BitVec.setWidth 32 (IntOp.cmpi .eq (BitVec.ofNat 32 n.val) 0#32)).toInt = if n.val = 0 then 1 else 0 := by decide
  show (((BitVec.setWidth 32 (IntOp.cmpi .eq (BitVec.ofNat 32 n) 0#32)).toInt : ℝ) : EReal) = _
  rw [hb ⟨n, hn⟩]
  unfold under
  by_cases h : n = 0
  · simp [h]
  · simp [h]

/-- What is stored under a head's values is what the block holds there. -/
theorem under_piece (v : FVec Ideal S1024x512 .bf16) (h : ℕ)
    (inb : ∀ a, (![0, h, 64, 0] : Fin 4 → ℕ) a + S1x1x16x512.size a ≤ S1x16x80x512.size a) (y : S1x1x16x512.Idx) :
    shapeCast S1x1x16x512 (k0_pay56 (F := Ideal) (iota .tc S16x512 32 [0] iota_S16x512_d0_w32) 0#32) shapeCasts_S16x512_S1x1x16x512 y
      = blk v ((Rect.unit (s := S1x16x80x512) ![0, h, 64, 0] S1x1x16x512.size inb).emb y) := by
  have y0 : (y 0).val < 1 := (y 0).isLt
  have y1 : (y 1).val < 1 := (y 1).isLt
  have y2 : (y 2).val < 16 := (y 2).isLt
  have y3 : (y 3).val < 512 := (y 3).isLt
  have e2 : ((Rect.unit (s := S1x16x80x512) ![0, h, 64, 0] S1x1x16x512.size inb).emb y 2).val = 64 + 1 * (y 2).val := rfl
  rw [shapeCast_apply _ _ _ (ix2 (⟨(y 2).val, y2⟩ : Fin 16) (⟨(y 3).val, y3⟩ : Fin 512)) (by
    simp [Shape.rowMajor_val_two, Shape.rowMajor_val_four])]
  unfold blk
  rw [dif_neg (by rw [e2]; omega), e2]
  unfold k0_pay56
  pointwise
  generalize (y 2).val = n at y2
  exact is_first n y2

end Cert.Qkv

end
-- ==== Proof.Qkv.Value.lean ====
/-
  The projection call over the extended reals: the array of values it leaves, read at an index.
-/
module

public import proofs.«01_k».proof.Proof.Gen.Kernel4Ideal.Value
public import proofs.«01_k».proof.Proof.Qkv.Block
public import Idealize.ShloMosaic.Lib.VecWindow
public import Idealize.ShloMosaic.Lib.Pipeline.ValueKit
public import Idealize.ShloMosaic.Lib.StableHlo.ReadAt

@[expose] public section

set_option maxRecDepth 16384

noncomputable section

namespace Cert.Qkv

open Cert.Kernel4Ideal Cert.Kernel4Ideal.Gen
open Idealize.ShloMosaic hiding ix1 ix2 ix3 ix4 ix5
open Idealize.ShloMosaic.ValueIdx
open Idealize.ShloMosaic.TcCoe Idealize.ShloMosaic.Tactic

/-- A load of a whole staging buffer reads its contents. -/
theorem load_whole {s : Shape} {e : EltTy} (a : Memref sig .tc .vmem s e) (b : a.IsWhole) (x : s.Idx → Elt Ideal e) {off : Fin s.rank → ℕ} (inb : ∀ a, off a + s.size a ≤ s.size a) :
    a.view.readAt (Elt Ideal) (Rect.unit off s.size inb).toLoadRect (b.unread x) = x :=
  (View.readAt_full a.view (b.unread x) inb).trans (b.read_unread x)

/-- A point's stores into the block of values are pieces of one block: at a batch entry's first point, -/
theorem out_A (c i a2 b2 a3 b3 a4 b4 a5 b5 a6 b6 a7 b7 a8 b8 a9 b9 a10 b10 a11 b11 a12 b12 a13 b13 a14 b14 a15 b15 a16 b16 a17 b17 hc x0 x1 x2 x3 x4 x5 x6 x7 x8 x9 x10 x11) :
    out0_A_14 (F := Ideal) c i a2 b2 a3 b3 a4 b4 a5 b5 a6 b6 a7 b7 a8 b8 a9 b9 a10 b10 a11 b11 a12 b12 a13 b13 a14 b14 a15 b15 a16 b16 a17 b17 hc x0 x1 x2 x3 x4 x5 x6 x7 x8 x9 x10 x11 = blk (k0_pay55 (k0_pay10 x0 x2) x5) := by
  have hv : kernelRun0_A.sl.r_19 (F := Ideal) c a2 b2 a4 b4 a7 b7 x0 x2 x5 = k0_pay55 (k0_pay10 x0 x2) x5 := by
    unfold kernelRun0_A.sl.r_19 kernelRun0_A.sl.r_1
    exact congrArg₂ k0_pay55 (congrArg₂ k0_pay10 (load_whole _ _ _ _) (load_whole _ _ _ _)) (load_whole _ _ _ _)
  funext y
  refine View.read_writes_apply_of_pieces _ _ _ _ ?_ y (cover0_A_14 c i a2 b2 a3 b3 a4 b4 a5 b5 a6 b6 a7 b7 a8 b8 a9 b9 a10 b10 a11 b11 a12 b12 a13 b13 a14 b14 a15 b15 a16 b16 a17 b17 hc x0 x1 x2 x3 x4 x5 x6 x7 x8 x9 x10 x11 y)
  rw [← hv]
  unfold kernelRun0_A
  dsimp only
  simp only [List.forall_mem_cons]
  repeat' refine And.intro ?_ ?_
  all_goals first
    | exact under_piece _ _ _
    | exact vals_piece _ _ _ (by decide) _ _
    | (unfold kernelRun0_A.sl.r_21 k0_pay64 k0_pay63; exact vals_piece _ _ _ (by decide) _ _)
    | (unfold kernelRun0_A.sl.r_22 k0_pay79 k0_pay78; exact vals_piece _ _ _ (by decide) _ _)
    | exact fun p hp => absurd hp List.not_mem_nil

/-- A point's stores into the block of values are pieces of one block: and at its others. -/
theorem out_B (c i a2 b2 a3 b3 a4 b4 a5 b5 a6 b6 a7 b7 a8 b8 a9 b9 a10 b10 a11 b11 a12 b12 a13 b13 a14 b14 a15 b15 a16 b16 a17 b17 hc x0 x1 x2 x3 x4 x5 x6 x7 x8 x9 x10 x11 xs) :
    out0_B_14 (F := Ideal) c i a2 b2 a3 b3 a4 b4 a5 b5 a6 b6 a7 b7 a8 b8 a9 b9 a10 b10 a11 b11 a12 b12 a13 b13 a14 b14 a15 b15 a16 b16 a17 b17 hc x0 x1 x2 x3 x4 x5 x6 x7 x8 x9 x10 x11 xs = blk (k0_pay55 (k0_pay10 x0 x2) x5) := by
  have hv : kernelRun0_B.sl.r_20 (F := Ideal) c a2 b2 a4 b4 a7 b7 x0 x2 x5 = k0_pay55 (k0_pay10 x0 x2) x5 := by
    unfold kernelRun0_B.sl.r_20 kernelRun0_B.sl.r_1
    exact congrArg₂ k0_pay55 (congrArg₂ k0_pay10 (load_whole _ _ _ _) (load_whole _ _ _ _)) (load_whole _ _ _ _)
  funext y
  refine View.read_writes_apply_of_pieces _ _ _ _ ?_ y (cover0_B_14 c i a2 b2 a3 b3 a4 b4 a5 b5 a6 b6 a7 b7 a8 b8 a9 b9 a10 b10 a11 b11 a12 b12 a13 b13 a14 b14 a15 b15 a16 b16 a17 b17 hc x0 x1 x2 x3 x4 x5 x6 x7 x8 x9 x10 x11 xs y)
  rw [← hv]
  unfold kernelRun0_B
  dsimp only
  simp only [List.forall_mem_cons]
  repeat' refine And.intro ?_ ?_
  all_goals first
    | exact under_piece _ _ _
    | exact vals_piece _ _ _ (by decide) _ _
    | (unfold kernelRun0_B.sl.r_22 k0_pay64 k0_pay63; exact vals_piece _ _ _ (by decide) _ _)
    | (unfold kernelRun0_B.sl.r_23 k0_pay79 k0_pay78; exact vals_piece _ _ _ (by decide) _ _)
    | exact fun p hp => absurd hp List.not_mem_nil

/-! ## The array of values -/

/-- The rows of 512 tokens that a grid point takes. -/
def rowsBlk (X : Vec Ideal S4x8192x1024 .f32) (t : Fin 64) : Vec Ideal S1x512x1024 .f32 := fun j =>
  X (ix3 (⟨t.val / 16, by omega⟩ : Fin 4) (⟨512 * (t.val % 16) + (j 1).val, by have h : (j 1).val < 512 := (j 1).isLt; omega⟩ : Fin 8192) (⟨(j 2).val, (j 2).isLt⟩ : Fin 1024))

/-- A grid point's block of values. -/
def outBlk (X : Vec Ideal S4x8192x1024 .f32) (g : Vec Ideal S1x1024 .f32) (W : Vec Ideal S1024x1024 .bf16) (t : Fin 64) : Vec Ideal S1x16x80x512 .bf16 :=
  blk (k0_pay55 (k0_pay10 (rowsBlk X t) g) W)

/-- The array of values as a function of the arrays the call takes. -/
def outArr (X : Vec Ideal S4x8192x1024 .f32) (g : Vec Ideal S1x1024 .f32) (W : Vec Ideal S1024x1024 .bf16) : Vec Ideal S4x16x80x8192 .bf16 := fun y =>
  outBlk X g W (⟨16 * (y 0).val + (y 3).val / 512, by have h : (y 0).val < 4 := (y 0).isLt; have h' : (y 3).val < 8192 := (y 3).isLt; omega⟩ : Fin 64)
    (ix4 (0 : Fin 1) (⟨(y 1).val, (y 1).isLt⟩ : Fin 16) (⟨(y 2).val, (y 2).isLt⟩ : Fin 80) (⟨(y 3).val % 512, Nat.mod_lt _ (by decide)⟩ : Fin 512))

/-- The windows' blocks at a grid point: the tokens' and the values' move, the gain's and the weights' stay. -/
theorem index0 : ∀ t : Fin cfg0.N, win0_0.index t = ![t.val / 16, t.val % 16, 0] := (by decide +kernel : ∀ t : Fin grid0.N, _)
theorem index2 : ∀ t : Fin cfg0.N, win0_2.index t = ![0, 0] := (by decide +kernel : ∀ t : Fin grid0.N, _)
theorem index5 : ∀ t : Fin cfg0.N, win0_5.index t = ![0, 0] := (by decide +kernel : ∀ t : Fin grid0.N, _)
theorem index14 : ∀ t : Fin cfg0.N, win0_14.index t = ![t.val / 16, 0, 0, t.val % 16] := (by decide +kernel : ∀ t : Fin grid0.N, _)

variable (m : (ℓ : Loc nD τ sig) → Buf (Elt Ideal) ℓ) (c : Dev nD)

/-- The tokens at a grid point. -/
theorem iblk0 (t : Fin cfg0.N) : iblk m c 0 t = rowsBlk (V m c main_arg0) (⟨t.val, t.isLt⟩ : Fin 64) := by
  funext j
  unfold rowsBlk
  have j0 : (j 0).val < 1 := (j 0).isLt
  blk_simp [iblk]
  refine congrArg _ ?_
  blk_ext [index0]

/-- The gain and the weights at a grid point: the whole arrays. -/
theorem iblk2 (t : Fin cfg0.N) : iblk m c 2 t = V m c main_v126 := by
  funext j
  blk_simp [iblk]
  refine congrArg _ ?_
  blk_ext [index2]
theorem iblk5 (t : Fin cfg0.N) : iblk m c 5 t = V m c main_v129 := by
  funext j
  blk_simp [iblk]
  refine congrArg _ ?_
  blk_ext [index5]

/-- What a grid point leaves in the block of values. -/
theorem after_eq (t : Fin cfg0.N) : (dats m 0 c).after 14 t = outBlk (V m c main_arg0) (V m c main_v126) (V m c main_v129) (⟨t.val, t.isLt⟩ : Fin 64) := by
  rw [after0_14]
  unfold outBlk
  rw [← iblk0, ← iblk2, ← iblk5]
  by_cases h : t.val % 16 = 0
  · rw [outsAt0_A m c t h]
    dsimp only
    rw [out_A]
  · rw [outsAt0_B m c t h]
    dsimp only
    rw [out_B]

/-- What the call leaves in its array of values. -/
theorem result_eq : (dats m 0 c).arrAt 14 cfg0.N = outArr (V m c main_arg0) (V m c main_v126) (V m c main_v129) := by
  refine (dats m 0 c).arrAt_eq_of_covers 14 _ (by decide +kernel) fun t hf y => ?_
  blk_simp
  rw [after_eq]
  have ht : t.val < 64 := t.isLt
  have y0 : (y 0).val < 1 := (y 0).isLt
  have y3 : (y 3).val < 512 := (y 3).isLt
  have e0 : (((win0_14.blk t).view.emb y) 0).val = t.val / 16 + (y 0).val := by
    blk_simp [index14]
  have e1 : (((win0_14.blk t).view.emb y) 1).val = (y 1).val := by
    blk_simp [index14]
  have e2 : (((win0_14.blk t).view.emb y) 2).val = (y 2).val := by
    blk_simp [index14]
  have e3 : (((win0_14.blk t).view.emb y) 3).val = 512 * (t.val % 16) + (y 3).val := by
    blk_simp [index14]; omega
  unfold outArr
  refine congrArg₂ (fun (a : Fin 64) b => outBlk (V m c main_arg0) (V m c main_v126) (V m c main_v129) a b) (Fin.ext ?_) (funext fun a => Fin.ext ?_)
  · show t.val = 16 * (((win0_14.blk t).view.emb y) 0).val + (((win0_14.blk t).view.emb y) 3).val / 512; omega
  · match a with
    | ⟨0, _⟩ => show (y 0).val = 0; omega
    | ⟨1, _⟩ => show (y 1).val = (((win0_14.blk t).view.emb y) 1).val; omega
    | ⟨2, _⟩ => show (y 2).val = (((win0_14.blk t).view.emb y) 2).val; omega
    | ⟨3, _⟩ => show (y 3).val = (((win0_14.blk t).view.emb y) 3).val % 512; omega

/-! ## The arrays the call takes -/

/-- The gain: the argument. -/
theorem v126_at (C : Fin 1024) : V m c main_v126 (ix2 (0 : Fin 1) C) = m ((c.tc : Thread nD τ).loc main_arg2) (ix1 C) := by
  unfold V
  after_reads_at
  refine congrArg (m ((c.tc : Thread nD τ).loc main_arg2)) (funext fun a => Fin.ext ?_)
  match a with
  | ⟨0, _⟩ => rfl

/-- The weights of the values: the argument's second 1024 columns, transposed. -/
theorem v129_at (r C : Fin 1024) : V m c main_v129 (ix2 r C) = m ((c.tc : Thread nD τ).loc main_arg4) (ix2 C (⟨1024 + r.val, by omega⟩ : Fin 2064)) := by
  unfold V
  after_reads_at
  refine congrArg (m ((c.tc : Thread nD τ).loc main_arg4)) (funext fun a => Fin.ext ?_)
  match a with
  | ⟨0, _⟩ => rfl
  | ⟨1, _⟩ => rfl

/-- The values of a token of the arguments, in a head's 80 rows. -/
def spec (x : FVec Ideal S4x8192x1024 .f32) (g : FVec Ideal S1024 .f32) (w : FVec Ideal S1024x2064 .f32) (b : Fin 4) (h : Fin 16) (r : Fin 80) (s : Fin 8192) : EReal :=
  if hr : r.val < 64 then value (fun c => x (ix3 b s c)) (fun c => g (ix1 c)) (fun c r => w (ix2 c (⟨1024 + r.val, by omega⟩ : Fin 2064))) (⟨64 * h.val + r.val, by omega⟩ : Fin 1024)
  else under r.val

/-- The call's array of values. -/
abbrev res : Vec Ideal S4x16x80x8192 .bf16 := outArr (V m c main_arg0) (V m c main_v126) (V m c main_v129)

/-- The call's array of values at an index. -/
theorem res_at (b : Fin 4) (h : Fin 16) (r : Fin 80) (s : Fin 8192) :
    res m c (ix4 b h r s) = spec (m ((c.tc : Thread nD τ).loc main_arg0)) (m ((c.tc : Thread nD τ).loc main_arg2)) (m ((c.tc : Thread nD τ).loc main_arg4)) b h r s := by
  unfold res outArr outBlk spec
  by_cases hr : r.val < 64
  · refine (dif_pos hr).trans (Eq.trans ?_ (dif_pos hr).symm)
    refine (vals_at _ _ _ _ _).trans ?_
    have hx : (fun c' : Fin 1024 => rowsBlk (V m c main_arg0) (⟨16 * b.val + s.val / 512, by omega⟩ : Fin 64) (ix3 (0 : Fin 1) (⟨s.val % 512, by omega⟩ : Fin 512) c'))
        = fun c' => m ((c.tc : Thread nD τ).loc main_arg0) (ix3 b s c') := by
      funext c'
      rw [V_main_arg0]
      refine congrArg (m ((c.tc : Thread nD τ).loc main_arg0)) (funext fun a => Fin.ext ?_)
      match a with
      | ⟨0, _⟩ => show (16 * b.val + s.val / 512) / 16 = b.val; omega
      | ⟨1, _⟩ => show 512 * ((16 * b.val + s.val / 512) % 16) + s.val % 512 = s.val; omega
      | ⟨2, _⟩ => rfl
    simp only [← v126_at m c, ← v129_at m c, ← hx]
  · refine (dif_neg hr).trans (Eq.trans ?_ (dif_neg hr).symm)
    rfl

end Cert.Qkv

end
-- ==== Proof.Qkv.Ref.lean ====
/-
  The values' reference over the extended reals, read at an index: the same function of a token and the weights as the
  call's.
-/
module

public import proofs.«01_k».proof.Proof.Gen.Reference4Ideal.Run
public import proofs.«01_k».proof.Proof.Qkv.Value
public import Idealize.ShloMosaic.Lib.Pointwise

@[expose] public section

set_option maxRecDepth 16384

noncomputable section

namespace Cert.Qkv.Ref

open Cert.Reference4Ideal Cert.Reference4Ideal.Gen
open Idealize.ShloMosaic hiding ix1 ix2 ix3 ix4 ix5
open Idealize.ShloMosaic.ValueIdx
open Idealize.ShloMosaic.TcCoe
open Cert.Ffn (normed)

variable (x : FVec Ideal S4x8192x1024 .f32) (g : FVec Ideal S1024 .f32) (w : FVec Ideal S1024x2064 .f32)

/-- The normalised tokens. -/
def norm : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The values. -/
def vals : FVec Ideal S4x8192x1024 .f32 :=
  Host.dotGeneral dot_S4x8192x1024_S1024x1024_S4x8192x1024_2_0_01_1_n_n none (norm x g) (extractStridedSlice S1024x1024 ![0, 1024] w slices_S1024x2064_S1024x1024_0_1024)

/-- The values of each head. -/
def heads (v : FVec Ideal S4x8192x1024 .f32) : FVec Ideal S4x16x64x8192 .f32 :=
  transpose S4x16x64x8192 [0, 2, 3, 1] (shapeCast S4x8192x16x64 v shapeCasts_S4x8192x1024_S4x8192x16x64) transposes_S4x8192x16x64_S4x16x64x8192_0_2_3_1

/-- The reference's result. -/
def result : FVec Ideal S4x16x80x8192 .bf16 :=
  truncf .bf16 (concatenate S4x16x80x8192 2 [⟨S4x16x64x8192, heads (vals x g w)⟩, ⟨S4x16x1x8192, (broadcastInDim S4x16x1x8192 ![] bcast_S_S4x16x1x8192 (constant S_ .f32 0x3F800000#32) : FVec Ideal S4x16x1x8192 .f32)⟩,
    ⟨S4x16x15x8192, (broadcastInDim S4x16x15x8192 ![] bcast_S_S4x16x15x8192 (constant S_ .f32 0x00000000#32) : FVec Ideal S4x16x15x8192 .f32)⟩] concatenates_S4x16x64x8192_S4x16x1x8192_S4x16x15x8192_S4x16x80x8192_d2) bitsLt_bf16_f32

/-- The normalised tokens at an index. -/
theorem norm_at (b : Fin 4) (s : Fin 8192) (c : Fin 1024) : norm x g (ix3 b s c) = normed (fun c => x (ix3 b s c)) (fun c => g (ix1 c)) c := by
  unfold norm
  pointwise
  rfl

/-- The values at an index. -/
theorem vals_at (b : Fin 4) (s : Fin 8192) (r : Fin 1024) :
    vals x g w (ix3 b s r) = value (fun c => x (ix3 b s c)) (fun c => g (ix1 c)) (fun c r => w (ix2 c (⟨1024 + r.val, by omega⟩ : Fin 2064))) r := by
  unfold vals
  generalize hh : norm x g = h
  pointwise
  subst hh
  exact Finset.sum_congr rfl fun c _ => congrArg₂ (fun a b : EReal => a * b)
    ((congrArg (norm x g) (funext fun a => match a with | ⟨0, _⟩ => rfl | ⟨1, _⟩ => rfl | ⟨2, _⟩ => rfl)).trans (norm_at x g b s c))
    (congrArg w (funext fun a => match a with | ⟨0, _⟩ => rfl | ⟨1, _⟩ => rfl))

/-- A head's values at an index. -/
theorem heads_at (v : FVec Ideal S4x8192x1024 .f32) (b : Fin 4) (h : Fin 16) (r : Fin 64) (s : Fin 8192) :
    heads v (ix4 b h r s) = v (ix3 b s (⟨64 * h.val + r.val, by omega⟩ : Fin 1024)) := by
  unfold heads
  pointwise
  refine congrArg v (funext fun a => Fin.ext ?_)
  match a with
  | ⟨0, _⟩ => rfl
  | ⟨1, _⟩ => rfl
  | ⟨2, _⟩ => show h.val * 64 + r.val = 64 * h.val + r.val; omega

/-- The reference computes the values of each token. -/
theorem result_spec (b : Fin 4) (h : Fin 16) (r : Fin 80) (s : Fin 8192) : result x g w (ix4 b h r s) = spec x g w b h r s := by
  unfold result
  generalize hv : heads (vals x g w) = v
  pointwise
  subst hv
  unfold spec
  by_cases hr : r.val < 64
  · refine (dif_pos hr).trans (Eq.trans ?_ (dif_pos hr).symm)
    exact (heads_at _ b h ⟨r.val, hr⟩ s).trans (vals_at x g w b s _)
  · refine (dif_neg hr).trans (Eq.trans ?_ (dif_neg hr).symm)
    unfold under
    by_cases h64 : r.val = 64
    · exact (dif_pos (show r.val - 64 < 1 by omega)).trans (if_pos h64).symm
    · exact (dif_neg (show ¬r.val - 64 < 1 by omega)).trans (if_neg h64).symm

end Cert.Qkv.Ref

end
-- ==== Proof.Qkv.Final.lean ====
/-
  The projection call and its reference end with one array of values: the two read at an index, and the call's run.
-/
module

public import proofs.«01_k».proof.Proof.Qkv.Ref

@[expose] public section

set_option maxRecDepth 16384

noncomputable section

namespace Cert.Qkv

open Cert.Kernel4Ideal Cert.Kernel4Ideal.Gen
open Idealize.ShloMosaic hiding ix1 ix2 ix3 ix4 ix5
open Idealize.ShloMosaic.ValueIdx
open Idealize.ShloMosaic.TcCoe Idealize.ShloMosaic.Tactic
open Idealize.SL.Sem

/-- Every index of the values is a batch entry, a head, one of its 80 rows and a token. -/
theorem result_index (y : S4x16x80x8192.Idx) : ∃ (b : Fin 4) (h : Fin 16) (r : Fin 80) (s : Fin 8192), y = ix4 b h r s := by
  refine ⟨⟨(y 0).val, (y 0).isLt⟩, ⟨(y 1).val, (y 1).isLt⟩, ⟨(y 2).val, (y 2).isLt⟩, ⟨(y 3).val, (y 3).isLt⟩, ?_⟩
  funext a; apply Fin.ext
  match a with
  | ⟨0, _⟩ => rfl
  | ⟨1, _⟩ => rfl
  | ⟨2, _⟩ => rfl
  | ⟨3, _⟩ => rfl

variable (m : (ℓ : Loc nD τ sig) → Buf (Elt Ideal) ℓ)

/-- From one set of arguments the call and the reference compute one array. -/
theorem results_eq (c : Dev nD) :
    Ref.result (m ((c.tc : Thread nD τ).loc main_arg0)) (m ((c.tc : Thread nD τ).loc main_arg2)) (m ((c.tc : Thread nD τ).loc main_arg4)) = res m c := by
  funext y
  obtain ⟨b, h, r, s, rfl⟩ := result_index y
  exact (Ref.result_spec _ _ _ b h r s).trans (res_at m c b h r s).symm

/-- The call's run: its array of values is `res` and its arguments are unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v130_2) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2.2.1.trans ((Value.final14 m c).symm.trans (result_eq m c)), (h c).2.2.2⟩) (Cert.Kernel4Ideal.Value.run m ρ)

end Cert.Qkv

end
-- ==== Proof.lean ====
/-
  The certificate of the forgetting-attention call, of the experts' call, of the dense layer's call and of the values of
  the projection call: of each the three frames, the idealization and, from the modules under Proof/Attn/, Proof/Experts/,
  Proof/Ffn/ and Proof/Qkv/, what the call computes.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Pre_experts
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Attn.Run
public import proofs.«01_k».proof.Proof.Attn.Same
public import proofs.«01_k».proof.Proof.Attn.Final
public import proofs.«01_k».proof.Proof.Experts.Frame
public import proofs.«01_k».proof.Proof.Experts.Same
public import proofs.«01_k».proof.Proof.Experts.Final
public import proofs.«01_k».proof.Proof.Ffn.Final
public import proofs.«01_k».proof.Proof.Qkv.Final
public import Idealize.ShloMosaic.Adequacy
public import Idealize.ShloMosaic.Init

@[expose] public section

noncomputable section

namespace Cert.Proof

open Idealize.ShloMosaic Idealize.SL.Sem

/-- The kernel program's frame at the machine's floats: the run of `Proof/Attn/Run.lean`, the two programs' texts being one. -/
theorem frame_kernel : Cert.quiescent_Kernel := fun m ρ _ => by
  have h := Cert.Attn.frame_any (F := Bits) m ρ
  rw [← Cert.Attn.defs_eq, ← Cert.Attn.main_eq] at h
  exact h

/-- The idealized kernel program's frame. -/
theorem frame_ideal : Cert.quiescent_KernelIdeal := fun m ρ _ => Cert.Attn.frame_any (F := Ideal) m ρ

/-- The reference's frame: it declares no semaphore and writes none of its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From finite queries, keys and decays, and whatever values, the two programs end with one result array. -/
theorem algebraic : Cert.algebraic_KernelIdeal_ReferenceIdeal_pre_finite := fun m g m' g' hpre hargs =>
  ⟨fun c => Cert.ReferenceIdeal.Value.res_main_v32 m' c,
    (θ_run Cert.KernelIdeal.defs _ _).mono (fun r h c => ⟨(h c).1.trans
      (Cert.Attn.results_eq m m' c (hpre c) (hargs c).1 (hargs c).2.1 (hargs c).2.2.1 (hargs c).2.2.2).symm, (h c).2⟩) (Cert.Attn.kernel_run m g),
    Cert.ReferenceIdeal.Value.run (F := Ideal) m' g'⟩

/-! ## The experts' call -/

/-- The experts' kernel program's frame at the machine's floats, where every tile's number is below eight. -/
theorem frame_kernel2 : Cert.quiescent_Kernel2 := fun m ρ hpre => by
  have h := Cert.Experts.frame (F := Bits) m ρ (Cert.Experts.ok_of_pre m (Cert.Experts.bound_of_pre (hpre 0)))
  rw [← Cert.Experts.defs_eq, ← Cert.Experts.main_eq] at h
  exact h

/-- The idealized experts' kernel program's frame, on the same condition. -/
theorem frame_ideal2 : Cert.quiescent_Kernel2Ideal := fun m ρ hpre =>
  Cert.Experts.frame (F := Ideal) m ρ (Cert.Experts.ok_of_pre m (Cert.Experts.bound_of_pre (hpre 0)))

/-- The experts' reference's frame: it declares no semaphore and writes none of its arguments. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The experts' reference's result from its arguments. -/
abbrev reference2 (m : (ℓ : Loc Cert.Reference2Ideal.nD Cert.Reference2Ideal.τ Cert.Reference2Ideal.sig) → Buf (Elt Ideal) ℓ) (c : Dev Cert.Reference2Ideal.nD) :
    FVec Ideal Cert.Reference2Ideal.S557056x128 .f32 :=
  Cert.Experts.Ref.result (m ((c.tc : Thread Cert.Reference2Ideal.nD Cert.Reference2Ideal.τ).loc Cert.Reference2Ideal.main_arg1))
    (m ((c.tc : Thread Cert.Reference2Ideal.nD Cert.Reference2Ideal.τ).loc Cert.Reference2Ideal.main_arg2))
    (m ((c.tc : Thread Cert.Reference2Ideal.nD Cert.Reference2Ideal.τ).loc Cert.Reference2Ideal.main_arg0))
    (m ((c.tc : Thread Cert.Reference2Ideal.nD Cert.Reference2Ideal.τ).loc Cert.Reference2Ideal.main_arg3))
    (m ((c.tc : Thread Cert.Reference2Ideal.nD Cert.Reference2Ideal.τ).loc Cert.Reference2Ideal.main_arg5))
    (m ((c.tc : Thread Cert.Reference2Ideal.nD Cert.Reference2Ideal.τ).loc Cert.Reference2Ideal.main_arg4))

/-- From arguments with every tile's number below eight, and whatever tokens and weights, the experts' call and its
    reference end with one result array. -/
theorem algebraic2 : Cert.algebraic_Kernel2Ideal_Reference2Ideal := fun m g m' g' hpre hargs =>
  have hlt := fun c : Dev Cert.Kernel2Ideal.nD => Cert.Experts.bound_of_pre (hpre c)
  have same : ∀ c, reference2 m' c = Cert.Experts.res m c := fun c => by
    obtain ⟨h0, h1, h2, h3, h4, h5⟩ := hargs c
    unfold reference2
    rw [h0, h1, h2, h3, h4, h5]
    exact Cert.Experts.results_eq m c (hlt c)
  ⟨fun c => reference2 m' c,
    (θ_run Cert.Kernel2Ideal.defs _ _).mono (fun r h c => ⟨(h c).1.trans (same c).symm, (h c).2⟩) (Cert.Experts.kernel_run m g (hlt 0)),
    Cert.Reference2Ideal.Value.run (F := Ideal) m' g'⟩

/-! ## The dense layer's call -/

/-- The dense layer's kernel program's frame at the machine's floats. -/
theorem frame_kernel3 : Cert.quiescent_Kernel3 := fun m ρ _ => Cert.Kernel3.Gen.frame m ρ

/-- The idealized dense layer's kernel program's frame. -/
theorem frame_ideal3 : Cert.quiescent_Kernel3Ideal := fun m ρ _ => Cert.Kernel3Ideal.Gen.frame m ρ

/-- The dense layer's reference's frame: it declares no semaphore and writes none of its arguments. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The dense layer's reference's result from its arguments. -/
abbrev reference3 (m : (ℓ : Loc Cert.Reference3Ideal.nD Cert.Reference3Ideal.τ Cert.Reference3Ideal.sig) → Buf (Elt Ideal) ℓ) (c : Dev Cert.Reference3Ideal.nD) :
    FVec Ideal Cert.Reference3Ideal.S32768x1024 .f32 :=
  Cert.Ffn.Ref.result (m ((c.tc : Thread Cert.Reference3Ideal.nD Cert.Reference3Ideal.τ).loc Cert.Reference3Ideal.main_arg0))
    (m ((c.tc : Thread Cert.Reference3Ideal.nD Cert.Reference3Ideal.τ).loc Cert.Reference3Ideal.main_arg1))
    (m ((c.tc : Thread Cert.Reference3Ideal.nD Cert.Reference3Ideal.τ).loc Cert.Reference3Ideal.main_arg2))
    (m ((c.tc : Thread Cert.Reference3Ideal.nD Cert.Reference3Ideal.τ).loc Cert.Reference3Ideal.main_arg3))
    (m ((c.tc : Thread Cert.Reference3Ideal.nD Cert.Reference3Ideal.τ).loc Cert.Reference3Ideal.main_arg4))

/-- From whatever arguments, the dense layer's call and its reference end with one result array. -/
theorem algebraic3 : Cert.algebraic_Kernel3Ideal_Reference3Ideal := fun m g m' g' _ hargs =>
  have same : ∀ c, reference3 m' c = Cert.Ffn.res m c := fun c => by
    obtain ⟨h0, h1, h2, h3, h4⟩ := hargs c
    unfold reference3
    rw [h0, h1, h2, h3, h4]
    exact Cert.Ffn.results_eq m c
  ⟨fun c => reference3 m' c,
    (θ_run Cert.Kernel3Ideal.defs _ _).mono (fun r h c => ⟨(h c).1.trans (same c).symm, (h c).2⟩) (Cert.Ffn.kernel_run m g),
    Cert.Reference3Ideal.Value.run (F := Ideal) m' g'⟩

/-! ## The projection call's values -/

/-- The projection call's program's frame at the machine's floats. -/
theorem frame_kernel4 : Cert.quiescent_Kernel4 := fun m ρ _ => Cert.Kernel4.Gen.frame m ρ

/-- The idealized projection call's program's frame. -/
theorem frame_ideal4 : Cert.quiescent_Kernel4Ideal := fun m ρ _ => Cert.Kernel4Ideal.Gen.frame m ρ

/-- The values' reference's frame: it declares no semaphore and writes none of its arguments. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The values' reference's result from its arguments. -/
abbrev reference4 (m : (ℓ : Loc Cert.Reference4Ideal.nD Cert.Reference4Ideal.τ Cert.Reference4Ideal.sig) → Buf (Elt Ideal) ℓ) (c : Dev Cert.Reference4Ideal.nD) :
    FVec Ideal Cert.Reference4Ideal.S4x16x80x8192 .bf16 :=
  Cert.Qkv.Ref.result (m ((c.tc : Thread Cert.Reference4Ideal.nD Cert.Reference4Ideal.τ).loc Cert.Reference4Ideal.main_arg0))
    (m ((c.tc : Thread Cert.Reference4Ideal.nD Cert.Reference4Ideal.τ).loc Cert.Reference4Ideal.main_arg2))
    (m ((c.tc : Thread Cert.Reference4Ideal.nD Cert.Reference4Ideal.τ).loc Cert.Reference4Ideal.main_arg4))

/-- From whatever arguments, the projection call and its reference end with one array of values. -/
theorem algebraic4 : Cert.algebraic_Kernel4Ideal_Reference4Ideal := fun m g m' g' _ hargs =>
  have same : ∀ c, reference4 m' c = Cert.Qkv.res m c := fun c => by
    obtain ⟨h0, h1, h2, h3, h4, h5⟩ := hargs c
    unfold reference4
    rw [h0, h2, h4]
    exact Cert.Qkv.results_eq m c
  ⟨fun c => reference4 m' c,
    (θ_run Cert.Kernel4Ideal.defs _ _).mono (fun r h c => ⟨(h c).1.trans (same c).symm, (h c).2⟩) (Cert.Qkv.kernel_run m g),
    Cert.Reference4Ideal.Value.run (F := Ideal) m' g'⟩

/-- Every claim. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_experts.Gen.facts,
  frame_kernel, frame_ideal, fun m ρ _ => frame_ideal m ρ trivial, frame_reference, fun m ρ _ => frame_reference m ρ trivial,
  frame_kernel2, frame_ideal2, frame_reference2, fun m ρ _ => frame_reference2 m ρ trivial, frame_kernel3, frame_ideal3, frame_reference3,
  frame_kernel4, frame_ideal4, frame_reference4, trivial, algebraic, trivial, algebraic2, trivial, algebraic3, trivial, algebraic4⟩

end Cert.Proof

end
